-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_in_proj_finite [hPre_in_proj_finite : Cert.Pre_in_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_in_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_in_proj_finite [hPre_in_proj_finite : Cert.Pre_in_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_in_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))) = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_in_proj_finite [hProjIdeal : Cert.ProjIdeal.Facts] [hPre_in_proj_finite : Cert.Pre_in_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_in_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjRefIdeal_pre_in_proj_finite [hProjRefIdeal : Cert.ProjRefIdeal.Facts] [hPre_in_proj_finite : Cert.Pre_in_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_in_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Diff_DiffIdeal : Prop :=
  IdealRules.named_const.Statement Cert.DiffIdeal.κ "mask" .f32 0xF149F2CA#32 ⊥

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v68) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v49) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal_pre_in_proj_finite [hProjIdeal : Cert.ProjIdeal.Facts] [hProjRefIdeal : Cert.ProjRefIdeal.Facts] [hPre_in_proj_finite : Cert.Pre_in_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_in_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v79_0)) (v1 : (c : Dev Cert.ProjIdeal.nD) → Buf (Elt Ideal) ((c.tc : Thread Cert.ProjIdeal.nD Cert.ProjIdeal.τ).loc Cert.ProjIdeal.main_v79_1)) (v2 : (c : Dev Cert.ProjIdeal.nD) → Buf (Elt Ideal) ((c.tc : Thread Cert.ProjIdeal.nD Cert.ProjIdeal.τ).loc Cert.ProjIdeal.main_v79_2)) (v3 : (c : Dev Cert.ProjIdeal.nD) → Buf (Elt Ideal) ((c.tc : Thread Cert.ProjIdeal.nD Cert.ProjIdeal.τ).loc Cert.ProjIdeal.main_v79_3)) (v4 : (c : Dev Cert.ProjIdeal.nD) → Buf (Elt Ideal) ((c.tc : Thread Cert.ProjIdeal.nD Cert.ProjIdeal.τ).loc Cert.ProjIdeal.main_v79_4)) (v5 : (c : Dev Cert.ProjIdeal.nD) → Buf (Elt Ideal) ((c.tc : Thread Cert.ProjIdeal.nD Cert.ProjIdeal.τ).loc Cert.ProjIdeal.main_v79_5)) (v6 : (c : Dev Cert.ProjIdeal.nD) → Buf (Elt Ideal) ((c.tc : Thread Cert.ProjIdeal.nD Cert.ProjIdeal.τ).loc Cert.ProjIdeal.main_v79_6)) (v7 : (c : Dev Cert.ProjIdeal.nD) → Buf (Elt Ideal) ((c.tc : Thread Cert.ProjIdeal.nD Cert.ProjIdeal.τ).loc Cert.ProjIdeal.main_v79_7)) (v8 : (c : Dev Cert.ProjIdeal.nD) → Buf (Elt Ideal) ((c.tc : Thread Cert.ProjIdeal.nD Cert.ProjIdeal.τ).loc Cert.ProjIdeal.main_v79_8)) (v9 : (c : Dev Cert.ProjIdeal.nD) → Buf (Elt Ideal) ((c.tc : Thread Cert.ProjIdeal.nD Cert.ProjIdeal.τ).loc Cert.ProjIdeal.main_v79_9)) (v10 : (c : Dev Cert.ProjIdeal.nD) → Buf (Elt Ideal) ((c.tc : Thread Cert.ProjIdeal.nD Cert.ProjIdeal.τ).loc Cert.ProjIdeal.main_v79_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v79_0) = v0 c
          ∧ r.2.mem ((c.tc : Thread Cert.ProjIdeal.nD Cert.ProjIdeal.τ).loc Cert.ProjIdeal.main_v79_1) = v1 c
          ∧ r.2.mem ((c.tc : Thread Cert.ProjIdeal.nD Cert.ProjIdeal.τ).loc Cert.ProjIdeal.main_v79_2) = v2 c
          ∧ r.2.mem ((c.tc : Thread Cert.ProjIdeal.nD Cert.ProjIdeal.τ).loc Cert.ProjIdeal.main_v79_3) = v3 c
          ∧ r.2.mem ((c.tc : Thread Cert.ProjIdeal.nD Cert.ProjIdeal.τ).loc Cert.ProjIdeal.main_v79_4) = v4 c
          ∧ r.2.mem ((c.tc : Thread Cert.ProjIdeal.nD Cert.ProjIdeal.τ).loc Cert.ProjIdeal.main_v79_5) = v5 c
          ∧ r.2.mem ((c.tc : Thread Cert.ProjIdeal.nD Cert.ProjIdeal.τ).loc Cert.ProjIdeal.main_v79_6) = v6 c
          ∧ r.2.mem ((c.tc : Thread Cert.ProjIdeal.nD Cert.ProjIdeal.τ).loc Cert.ProjIdeal.main_v79_7) = v7 c
          ∧ r.2.mem ((c.tc : Thread Cert.ProjIdeal.nD Cert.ProjIdeal.τ).loc Cert.ProjIdeal.main_v79_8) = v8 c
          ∧ r.2.mem ((c.tc : Thread Cert.ProjIdeal.nD Cert.ProjIdeal.τ).loc Cert.ProjIdeal.main_v79_9) = v9 c
          ∧ r.2.mem ((c.tc : Thread Cert.ProjIdeal.nD Cert.ProjIdeal.τ).loc Cert.ProjIdeal.main_v79_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v134) = v0 c
          ∧ r.2.mem ((c.tc : Thread Cert.ProjRefIdeal.nD Cert.ProjRefIdeal.τ).loc Cert.ProjRefIdeal.main_v137) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v138) = v3 c
          ∧ r.2.mem ((c.tc : Thread Cert.ProjRefIdeal.nD Cert.ProjRefIdeal.τ).loc Cert.ProjRefIdeal.main_v139) = v4 c
          ∧ r.2.mem ((c.tc : Thread Cert.ProjRefIdeal.nD Cert.ProjRefIdeal.τ).loc Cert.ProjRefIdeal.main_v140) = v5 c
          ∧ r.2.mem ((c.tc : Thread Cert.ProjRefIdeal.nD Cert.ProjRefIdeal.τ).loc Cert.ProjRefIdeal.main_v143) = v6 c
          ∧ r.2.mem ((c.tc : Thread Cert.ProjRefIdeal.nD Cert.ProjRefIdeal.τ).loc Cert.ProjRefIdeal.main_v144) = v7 c
          ∧ r.2.mem ((c.tc : Thread Cert.ProjRefIdeal.nD Cert.ProjRefIdeal.τ).loc Cert.ProjRefIdeal.main_v147) = v8 c
          ∧ r.2.mem ((c.tc : Thread Cert.ProjRefIdeal.nD Cert.ProjRefIdeal.τ).loc Cert.ProjRefIdeal.main_v148) = v9 c
          ∧ r.2.mem ((c.tc : Thread Cert.ProjRefIdeal.nD Cert.ProjRefIdeal.τ).loc Cert.ProjRefIdeal.main_v151) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hDiff : Cert.Diff.Facts) (hDiffIdeal : Cert.DiffIdeal.Facts) (hDiffRefIdeal : Cert.DiffRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_diff_finite : Cert.Pre_diff_finite.Facts) (hPre_in_proj_finite : Cert.Pre_in_proj_finite.Facts),
    quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjIdeal_pre_in_proj_finite (hProjIdeal := hProjIdeal) (hPre_in_proj_finite := hPre_in_proj_finite)
    ∧ quiescent_ProjRefIdeal (hProjRefIdeal := hProjRefIdeal)
    ∧ quiescent_ProjRefIdeal_pre_in_proj_finite (hProjRefIdeal := hProjRefIdeal) (hPre_in_proj_finite := hPre_in_proj_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal_pre_in_proj_finite (hProjIdeal := hProjIdeal) (hProjRefIdeal := hProjRefIdeal) (hPre_in_proj_finite := hPre_in_proj_finite)
-- ==== Pre_diff_finite.lean ====
abbrev S4x64 : Shape := ⟨2, ![4, 64]⟩
abbrev S1x128 : Shape := ⟨2, ![1, 128]⟩
abbrev S2x16384x512 : Shape := ⟨3, ![2, 16384, 512]⟩
abbrev S2x64x512x256 : Shape := ⟨4, ![2, 64, 512, 256]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  bcast_S_S2x64x512x256 : S_.BroadcastsInDim S2x64x512x256 (![] : Fin 0 → Fin S2x64x512x256.rank)
  reducesTo_S2x64x512x256_S_d0_1_2_3 : S2x64x512x256.ReducesTo [0, 1, 2, 3] S_

variable [Facts]

def fn_part1 {F : FTy → Type} [FloatOps F] (main_v15 : IVec S_ 1) (main_v17 : FVec F S2x16384x512 .f32) : IVec S_ 1 :=
  let main_cst_4 : FVec F S_ .f32 := constant S_ .f32 0x7F800000#32
  let main_v18 : FVec F S2x16384x512 .f32 := broadcastInDim S2x16384x512 ![] bcast_S_S2x16384x512 main_cst_4
  let main_v19 : IVec S2x16384x512 1 := cmpf .olt main_v17 main_v18
  let main_c_5 : IVec S_ 1 := constantI S_ 1 1#1
  let main_v20 : IVec S_ 1 := (fun x v => Host.reduce IntOp.andi x v reducesTo_S2x16384x512_S_d0_1_2 h_S_) main_v19 main_c_5
  let main_v21 : IVec S_ 1 := andi main_v15 main_v20
  main_v21

def fn {F : FTy → Type} [FloatOps F] (main_arg0 : FVec F S4x64 .f32) (main_arg1 : FVec F S1x128 .f32) (main_arg2 : FVec F S2x16384x512 .bf16) (main_arg3 : FVec F S2x64x512x256 .bf16) (main_arg4 : FVec F S2x16384x512 .bf16) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S2x16384x512 .f32 := (extf .f32 · bitsLt_bf16_f32) main_arg2
  let main_v5 : FVec F S2x16384x512 .f32 := Host.absf main_v4
  let main_cst_0 : FVec F S_ .f32 := constant S_ .f32 0x7F800000#32
  let main_v6 : FVec F S2x16384x512 .f32 := broadcastInDim S2x16384x512 ![] bcast_S_S2x16384x512 main_cst_0
  let main_v7 : IVec S2x16384x512 1 := cmpf .olt main_v5 main_v6
  let main_c_1 : IVec S_ 1 := constantI S_ 1 1#1
  let main_v8 : IVec S_ 1 := (fun x v => Host.reduce IntOp.andi x v reducesTo_S2x16384x512_S_d0_1_2 h_S_) main_v7 main_c_1
  let main_v9 : IVec S_ 1 := andi main_v3 main_v8
  let main_v10 : FVec F S2x64x512x256 .f32 := (extf .f32 · bitsLt_bf16_f32) main_arg3
  let main_v11 : FVec F S2x64x512x256 .f32 := Host.absf main_v10
  let main_cst_2 : FVec F S_ .f32 := constant S_ .f32 0x7F800000#32
  let main_v12 : FVec F S2x64x512x256 .f32 := broadcastInDim S2x64x512x256 ![] bcast_S_S2x64x512x256 main_cst_2
  let main_v13 : IVec S2x64x512x256 1 := cmpf .olt main_v11 main_v12
  let main_c_3 : IVec S_ 1 := constantI S_ 1 1#1
  let main_v14 : IVec S_ 1 := (fun x v => Host.reduce IntOp.andi x v reducesTo_S2x64x512x256_S_d0_1_2_3 h_S_) main_v13 main_c_3
  let main_v15 : IVec S_ 1 := andi main_v9 main_v14
  let main_v16 : FVec F S2x16384x512 .f32 := (extf .f32 · bitsLt_bf16_f32) main_arg4
  let main_v17 : FVec F S2x16384x512 .f32 := Host.absf main_v16
  fn_part1 (F := F) main_v15 main_v17
-- ==== Pre_in_proj_finite.lean ====
abbrev S2x16384x1024 : Shape := ⟨3, ![2, 16384, 1024]⟩
abbrev S1x1024 : Shape := ⟨2, ![1, 1024]⟩
abbrev S1x1024x6656 : Shape := ⟨3, ![1, 1024, 6656]⟩
abbrev S1x64 : Shape := ⟨2, ![1, 64]⟩
abbrev S1x128 : Shape := ⟨2, ![1, 128]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x6656 : S_.BroadcastsInDim S1x1024x6656 (![] : Fin 0 → Fin S1x1024x6656.rank)
  reducesTo_S1x1024x6656_S_d0_1_2 : S1x1024x6656.ReducesTo [0, 1, 2] S_

variable [Facts]

def fn {F : FTy → Type} [FloatOps F] (main_arg0 : FVec F S2x16384x1024 .f32) (main_arg1 : FVec F S1x1024 .f32) (main_arg2 : FVec F S1x1024x6656 .f32) (main_arg3 : FVec F S1x64 .f32) (main_arg4 : FVec F S1x64 .f32) (main_arg5 : FVec F S1x128 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6656 .f32 := Host.absf main_arg2
  let main_cst_2 : FVec F S_ .f32 := constant S_ .f32 0x7F800000#32
  let main_v10 : FVec F S1x1024x6656 .f32 := broadcastInDim S1x1024x6656 ![] bcast_S_S1x1024x6656 main_cst_2
  let main_v11 : IVec S1x1024x6656 1 := cmpf .olt main_v9 main_v10
  let main_c_3 : IVec S_ 1 := constantI S_ 1 1#1
  let main_v12 : IVec S_ 1 := (fun x v => Host.reduce IntOp.andi x v reducesTo_S1x1024x6656_S_d0_1_2 h_S_) main_v11 main_c_3
  let main_v13 : IVec S_ 1 := andi main_v8 main_v12
  main_v13
-- ==== Diff.lean ====
abbrev S4x64 : Shape := ⟨2, ![4, 64]⟩
abbrev S1x128 : Shape := ⟨2, ![1, 128]⟩
abbrev S2x16384x512 : Shape := ⟨3, ![2, 16384, 512]⟩
abbrev S2x64x512x256 : Shape := ⟨4, ![2, 64, 512, 256]⟩
abbrev S1x1024x128 : Shape := ⟨3, ![1, 1024, 128]⟩
abbrev S1x64x128x256 : Shape := ⟨4, ![1, 64, 128, 256]⟩
abbrev S1x16384x128 : Shape := ⟨3, ![1, 16384, 128]⟩
abbrev S2048x128 : Shape := ⟨2, ![2048, 128]⟩
abbrev S2048x256 : Shape := ⟨2, ![2048, 256]⟩
abbrev S1024x128 : Shape := ⟨2, ![1024, 128]⟩
abbrev S1024x256 : Shape := ⟨2, ![1024, 256]⟩
abbrev S1x1x128x256 : Shape := ⟨4, ![1, 1, 128, 256]⟩
abbrev S128x256 : Shape := ⟨2, ![128, 256]⟩
abbrev S2048x1024 : Shape := ⟨2, ![2048, 1024]⟩
abbrev S2048 : Shape := ⟨1, ![2048]⟩
abbrev S2048x1 : Shape := ⟨2, ![2048, 1]⟩
abbrev S1x64 : Shape := ⟨2, ![1, 64]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S2x16384x512, .bf16⟩
  | .hbm, ⟨3, _⟩ => ⟨S2x64x512x256, .bf16⟩
  | .hbm, ⟨4, _⟩ => ⟨S2x16384x512, .bf16⟩
  | .hbm, ⟨5, _⟩ => ⟨S2x16384x512, .bf16⟩
  | .local _ .vmem, ⟨0, _⟩ => ⟨S4x64, .f32⟩
  | .local _ .vmem, ⟨1, _⟩ => ⟨S1x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x64x128x256, .bf16⟩
  | .local _ .vmem, ⟨5, _⟩ => ⟨S1x64x128x256, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S2048x128, .f32⟩
  | .local _ .vmem, ⟨11, _⟩ => ⟨S2048x256, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_14 : BitVec 32 := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let v35 : BitVec 32 := Scalar.subi v34 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_16 : BitVec 32 := 1#32
  ⟨c0_i32_14, v39, c1_i32_16⟩
def k0_mult1 (i : grid0.Coords) (k0_t1 : Fin (k0_t1_loop i).trips) : BitVec 32 :=
  let c4_i32_44 : BitVec 32 := 4#32
  let c0_i32_14 : BitVec 32 := 0#32
  let c1_i32_16 : BitVec 32 := 1#32
  let arg11 : BitVec 32 := Scf.iv c0_i32_14 c1_i32_16 k0_t1
  let v99 : BitVec 32 := Scalar.muli c4_i32_44 arg11
  let c256_i32 : BitVec 32 := 256#32
  let v100 : BitVec 32 := Scalar.muli v99 c256_i32
  v100
def k0_off1 (i : grid0.Coords) (k0_t1 : Fin (k0_t1_loop i).trips) : Fin 3 → Nat :=
  let c0_45 : Index := 0#32
  let c4_i32_44 : BitVec 32 := 4#32
  let c0_i32_14 : BitVec 32 := 0#32
  let c1_i32_16 : BitVec 32 := 1#32
  let arg11 : BitVec 32 := Scf.iv c0_i32_14 c1_i32_16 k0_t1
  let v99 : BitVec 32 := Scalar.muli c4_i32_44 arg11
  let c256_i32 : BitVec 32 := 256#32
  let v100 : BitVec 32 := Scalar.muli v99 c256_i32
  let v101 : BitVec 32 := v100
  let v102 : Index := Scalar.indexCast v101
  let c0_46 : Index := 0#32
  ![0, v102.toNat, 0]
def k0_off2 (i : grid0.Coords) (k0_t1 : Fin (k0_t1_loop i).trips) (c0_i32_39 : BitVec 32) : Fin 4 → Nat :=
  let c0_48 : Index := 0#32
  let c4_i32_38 : BitVec 32 := 4#32
  let c0_i32_14 : BitVec 32 := 0#32
  let c1_i32_16 : BitVec 32 := 1#32
  let arg11 : BitVec 32 := Scf.iv c0_i32_14 c1_i32_16 k0_t1
  let v91 : BitVec 32 := Scalar.muli c4_i32_38 arg11
  let v92 : BitVec 32 := Scalar.addi v91 c0_i32_39
  let v107 : Index := Scalar.indexCast v92
  let c0_49 : Index := 0#32
  let c0_50 : Index := 0#32
  ![0, v107.toNat, 0, 0]
@[reducible] def k0_t2_loop (i : grid0.Coords) : Scf.Loop 32 :=
  let c0_i32_14 : BitVec 32 := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let v35 : BitVec 32 := Scalar.subi v34 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let v36 : BitVec 32 := Scalar.addi c0_i32_14 v35
  let c1_i32_17 : BitVec 32 := 1#32
  ⟨v39, v36, c1_i32_17⟩
def k0_mult2 (i : grid0.Coords) (k0_t2 : Fin (k0_t2_loop i).trips) : BitVec 32 :=
  let c4_i32_44 : BitVec 32 := 4#32
  let c0_i32_14 : BitVec 32 := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let v35 : BitVec 32 := Scalar.subi v34 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg11 : BitVec 32 := Scf.iv v39 c1_i32_17 k0_t2
  let v99 : BitVec 32 := Scalar.muli c4_i32_44 arg11
  let c256_i32 : BitVec 32 := 256#32
  let v100 : BitVec 32 := Scalar.muli v99 c256_i32
  v100
def k0_off3 (i : grid0.Coords) (k0_t2 : Fin (k0_t2_loop i).trips) : Fin 3 → Nat :=
  let c0_45 : Index := 0#32
  let c4_i32_44 : BitVec 32 := 4#32
  let c0_i32_14 : BitVec 32 := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let v35 : BitVec 32 := Scalar.subi v34 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg11 : BitVec 32 := Scf.iv v39 c1_i32_17 k0_t2
  let v99 : BitVec 32 := Scalar.muli c4_i32_44 arg11
  let c256_i32 : BitVec 32 := 256#32
  let v100 : BitVec 32 := Scalar.muli v99 c256_i32
  let v101 : BitVec 32 := v100
  let v102 : Index := Scalar.indexCast v101
  let c0_46 : Index := 0#32
  ![0, v102.toNat, 0]
def k0_off4 (i : grid0.Coords) (k0_t2 : Fin (k0_t2_loop i).trips) (c0_i32_39 : BitVec 32) : Fin 4 → Nat :=
  let c0_48 : Index := 0#32
  let c4_i32_38 : BitVec 32 := 4#32
  let c0_i32_14 : BitVec 32 := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let v35 : BitVec 32 := Scalar.subi v34 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg11 : BitVec 32 := Scf.iv v39 c1_i32_17 k0_t2
  let v91 : BitVec 32 := Scalar.muli c4_i32_38 arg11
  let v92 : BitVec 32 := Scalar.addi v91 c0_i32_39
  let v107 : Index := Scalar.indexCast v92
  let c0_49 : Index := 0#32
  let c0_50 : Index := 0#32
  ![0, v107.toNat, 0, 0]
def k0_cond1 (i : grid0.Coords) : BitVec 1 :=
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let c4_i32_18 : BitVec 32 := 4#32
  let v40 : BitVec 32 := Scalar.muli v34 c4_i32_18
  let v41 : BitVec 32 := Scalar.subi v17 v40
  let c0_i32_19 : BitVec 32 := 0#32
  let v42 : BitVec 1 := Scalar.cmpi .eq v41 c0_i32_19
  let v43 : BitVec 32 := Scalar.extui v42
  let c0_i32_20 : BitVec 32 := 0#32
  let v44 : BitVec 1 := Scalar.cmpi .ne v43 c0_i32_20
  v44

def k0_mult3 (i : grid0.Coords) : BitVec 32 :=
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let c4_i32_18 : BitVec 32 := 4#32
  let v40 : BitVec 32 := Scalar.muli v34 c4_i32_18
  let c256_i32 : BitVec 32 := 256#32
  let v95 : BitVec 32 := Scalar.muli v40 c256_i32
  v95
def k0_off5 (i : grid0.Coords) : Fin 3 → Nat :=
  let c0_40 : Index := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let c4_i32_18 : BitVec 32 := 4#32
  let v40 : BitVec 32 := Scalar.muli v34 c4_i32_18
  let c256_i32 : BitVec 32 := 256#32
  let v95 : BitVec 32 := Scalar.muli v40 c256_i32
  let v96 : BitVec 32 := v95
  let v97 : Index := Scalar.indexCast v96
  let c0_41 : Index := 0#32
  ![0, v97.toNat, 0]
def k0_off6 (i : grid0.Coords) (c0_i32_38 : BitVec 32) : Fin 4 → Nat :=
  let c0_43 : Index := 0#32
  let arg2 : BitVec 32 := BitVec.ofNat 32 (i 2).val
  let c4_i32 : BitVec 32 := 4#32
  let v17 : BitVec 32 := Scalar.muli arg2 c4_i32
  let c0_i32 : BitVec 32 := 0#32
  let v19 : BitVec 1 := Scalar.cmpi .sgt v17 c0_i32
  let v20 : BitVec 32 := Scalar.extui v19
  let c0_i32_9 : BitVec 32 := 0#32
  let v21 : BitVec 1 := Scalar.cmpi .slt v17 c0_i32_9
  let v22 : BitVec 32 := Scalar.extui v21
  let v23 : BitVec 32 := Scalar.subi v20 v22
  let c4_i32_8 : BitVec 32 := 4#32
  let c0_i32_10 : BitVec 32 := 0#32
  let v24 : BitVec 1 := Scalar.cmpi .sgt c4_i32_8 c0_i32_10
  let v25 : BitVec 32 := Scalar.extui v24
  let c0_i32_11 : BitVec 32 := 0#32
  let v26 : BitVec 1 := Scalar.cmpi .slt c4_i32_8 c0_i32_11
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_12 : BitVec 32 := 0#32
  let v31 : BitVec 1 := Scalar.cmpi .ne v30 c0_i32_12
  let v32 : BitVec 1 := Scalar.andi v29 v31
  let v18 : BitVec 32 := Scalar.divsi v17 c4_i32_8
  let c1_i32 : BitVec 32 := 1#32
  let v33 : BitVec 32 := Scalar.subi v18 c1_i32
  let v34 : BitVec 32 := Scalar.select v32 v33 v18
  let c4_i32_18 : BitVec 32 := 4#32
  let v40 : BitVec 32 := Scalar.muli v34 c4_i32_18
  let v91 : BitVec 32 := Scalar.addi v40 c0_i32_38
  let v102 : Index := Scalar.indexCast v91
  let c0_44 : Index := 0#32
  let c0_45 : Index := 0#32
  ![0, v102.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S4x64 : Shape := ⟨2, ![4, 64]⟩
abbrev S1x128 : Shape := ⟨2, ![1, 128]⟩
abbrev S2x16384x512 : Shape := ⟨3, ![2, 16384, 512]⟩
abbrev S2x64x512x256 : Shape := ⟨4, ![2, 64, 512, 256]⟩
abbrev S2x16384x4x2x64 : Shape := ⟨5, ![2, 16384, 4, 2, 64]⟩
abbrev S2x64x256x512 : Shape := ⟨4, ![2, 64, 256, 512]⟩
abbrev S2x16384x4x128 : Shape := ⟨4, ![2, 16384, 4, 128]⟩
abbrev S1x64 : Shape := ⟨2, ![1, 64]⟩
abbrev S64 : Shape := ⟨1, ![64]⟩
abbrev S_ : Shape := ⟨0, ![]⟩
abbrev S16384 : Shape := ⟨1, ![16384]⟩
abbrev S2x4x2x16384x16384 : Shape := ⟨5, ![2, 4, 2, 16384, 16384]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S128 : Shape := ⟨1, ![128]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S2x16384x512, .bf16⟩
  | .hbm, ⟨3, _⟩ => ⟨S2x64x512x256, .bf16⟩
  | .hbm, ⟨4, _⟩ => ⟨S2x16384x512, .bf16⟩
  | .hbm, ⟨5, _⟩ => ⟨S2x16384x512, .f32⟩
  | .hbm, ⟨6, _⟩ => ⟨S2x16384x4x2x64, .f32⟩
  | .hbm, ⟨7, _⟩ => ⟨S2x64x512x256, .f32⟩
  | .hbm, ⟨8, _⟩ => ⟨S2x64x256x512, .f32⟩
  | .hbm, ⟨9, _⟩ => ⟨S2x16384x4x2x64, .f32⟩
  | .hbm, ⟨10, _⟩ => ⟨S2x16384x512, .f32⟩
  | .hbm, ⟨11, _⟩ => ⟨S2x16384x4x128, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384, .i32⟩
  | .hbm, ⟨32, _⟩ => ⟨S2x4x2x16384x16384, .f32⟩
  | .hbm, ⟨33, _⟩ => ⟨S1x16384, .i32⟩
  | .hbm, ⟨34, _⟩ => ⟨S16384x1, .i32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S_, .f32⟩
  | .hbm, ⟨39, _⟩ => ⟨S_, .f32⟩
  | .hbm, ⟨40, _⟩ => ⟨S2x4x2x16384x16384, .i1⟩
  | .hbm, ⟨41, _⟩ => ⟨S2x4x2x16384x16384, .f32⟩
  | .hbm, ⟨42, _⟩ => ⟨S2x4x2x16384x16384, .f32⟩
  | .hbm, ⟨43, _⟩ => ⟨S_, .f32⟩
  | .hbm, ⟨44, _⟩ => ⟨S2x4x2x16384, .f32⟩
  | .hbm, ⟨45, _⟩ => ⟨S_, .f32⟩
  | .hbm, ⟨46, _⟩ => ⟨S2x4x2x16384, .f32⟩
  | .hbm, ⟨47, _⟩ => ⟨S2x4x2x16384, .f32⟩
  | .hbm, ⟨48, _⟩ => ⟨S2x4x2x16384x1, .f32⟩
  | .hbm, ⟨49, _⟩ => ⟨S2x4x2x16384x16384, .f32⟩
  | .hbm, ⟨50, _⟩ => ⟨S2x4x2x16384x16384, .f32⟩
  | .hbm, ⟨51, _⟩ => ⟨S2x4x2x16384x16384, .f32⟩
  | .hbm, ⟨52, _⟩ => ⟨S_, .f32⟩
  | .hbm, ⟨53, _⟩ => ⟨S2x4x2x16384, .f32⟩
  | .hbm, ⟨54, _⟩ => ⟨S2x4x2x16384x1, .f32⟩
  | .hbm, ⟨55, _⟩ => ⟨S2x4x2x16384x16384, .f32⟩
  | .hbm, ⟨56, _⟩ => ⟨S2x4x2x16384x16384, .f32⟩
  | .hbm, ⟨57, _⟩ => ⟨S2x4x1x16384x16384, .f32⟩
  | .hbm, ⟨58, _⟩ => ⟨S2x4x16384x16384, .f32⟩
  | .hbm, ⟨59, _⟩ => ⟨S2x4x1x16384x16384, .f32⟩
  | .hbm, ⟨60, _⟩ => ⟨S2x4x16384x16384, .f32⟩
  | .hbm, ⟨61, _⟩ => ⟨S2x4x16384x16384, .f32⟩
  | .hbm, ⟨62, _⟩ => ⟨S2x4x16384x16384, .f32⟩
  | .hbm, ⟨63, _⟩ => ⟨S2x4x16384x16384, .f32⟩
  | .hbm, ⟨64, _⟩ => ⟨S2x4x128x16384, .f32⟩
  | .hbm, ⟨65, _⟩ => ⟨S2x16384x4x128, .f32⟩
  | .hbm, ⟨66, _⟩ => ⟨S2x16384x4x128, .f32⟩
  | .hbm, ⟨67, _⟩ => ⟨S_, .f32⟩
  | .hbm, ⟨68, _⟩ => ⟨S2x16384x4, .f32⟩
  | .hbm, ⟨69, _⟩ => ⟨S2x16384x4x1, .f32⟩
  | .hbm, ⟨70, _⟩ => ⟨S_, .f32⟩
  | .hbm, ⟨71, _⟩ => ⟨S2x16384x4x1, .f32⟩
  | .hbm, ⟨72, _⟩ => ⟨S2x16384x4x1, .f32⟩
  | .hbm, ⟨73, _⟩ => ⟨S_, .f32⟩
  | .hbm, ⟨74, _⟩ => ⟨S2x16384x4x1, .f32⟩
  | .hbm, ⟨75, _⟩ => ⟨S2x16384x4x1, .f32⟩
  | .hbm, ⟨76, _⟩ => ⟨S2x16384x4x1, .f32⟩
  | .hbm, ⟨77, _⟩ => ⟨S2x16384x4x128, .f32⟩
  | .hbm, ⟨78, _⟩ => ⟨S2x16384x4x128, .f32⟩
  | .hbm, ⟨79, _⟩ => ⟨S128, .f32⟩
  | .hbm, ⟨80, _⟩ => ⟨S1x1x1x128, .f32⟩
  | .hbm, ⟨81, _⟩ => ⟨S2x16384x4x128, .f32⟩
  | .hbm, ⟨82, _⟩ => ⟨S2x16384x4x128, .f32⟩
  | .hbm, ⟨83, _⟩ => ⟨S_, .f32⟩
  | .hbm, ⟨84, _⟩ => ⟨S2x16384x4x128, .f32⟩
  | .hbm, ⟨85, _⟩ => ⟨S2x16384x4x128, .f32⟩
  | .hbm, ⟨86, _⟩ => ⟨S2x16384x512, .f32⟩
  | .hbm, ⟨87, _⟩ => ⟨S2x16384x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1x1024 : Shape := ⟨2, ![1, 1024]⟩
abbrev S1024x3072 : Shape := ⟨2, ![1024, 3072]⟩
abbrev S3x1024 : Shape := ⟨2, ![3, 1024]⟩
abbrev S3x512x1024 : Shape := ⟨3, ![3, 512, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1x1024, .f32⟩
  | .hbm, ⟨5, _⟩ => ⟨S1024x3072, .bf16⟩
  | .hbm, ⟨6, _⟩ => ⟨S3x1024, .f32⟩
  | .hbm, ⟨7, _⟩ => ⟨S3x512x1024, .bf16⟩
  | .hbm, ⟨8, _⟩ => ⟨S1024x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S3x512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32768x1024 : Shape := ⟨2, ![32768, 1024]⟩
abbrev S32768x512 : Shape := ⟨2, ![32768, 512]⟩
abbrev S1x1024 : Shape := ⟨2, ![1, 1024]⟩
abbrev S1024x3072 : Shape := ⟨2, ![1024, 3072]⟩
abbrev S3x1024 : Shape := ⟨2, ![3, 1024]⟩
abbrev S3x512x1024 : Shape := ⟨3, ![3, 512, 1024]⟩
abbrev S1024x1024 : Shape := ⟨2, ![1024, 1024]⟩
abbrev S32768x1x512 : Shape := ⟨3, ![32768, 1, 512]⟩
abbrev S32768x3x512 : Shape := ⟨3, ![32768, 3, 512]⟩
abbrev S_ : Shape := ⟨0, ![]⟩
abbrev S32768 : Shape := ⟨1, ![32768]⟩
abbrev S32768x1 : Shape := ⟨2, ![32768, 1]⟩
abbrev S1024 : Shape := ⟨1, ![1024]⟩
abbrev S32768x3072 : Shape := ⟨2, ![32768, 3072]⟩
abbrev S3x1024x32768 : Shape := ⟨3, ![3, 1024, 32768]⟩
abbrev S32768x3x1024 : Shape := ⟨3, ![32768, 3, 1024]⟩
abbrev S1x3x1024 : Shape := ⟨3, ![1, 3, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1x1024, .f32⟩
  | .hbm, ⟨5, _⟩ => ⟨S1024x3072, .bf16⟩
  | .hbm, ⟨6, _⟩ => ⟨S3x1024, .f32⟩
  | .hbm, ⟨7, _⟩ => ⟨S3x512x1024, .bf16⟩
  | .hbm, ⟨8, _⟩ => ⟨S1024x1024, .bf16⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x1x512, .f32⟩
  | .hbm, ⟨13, _⟩ => ⟨S32768x1x512, .f32⟩
  | .hbm, ⟨14, _⟩ => ⟨S32768x1x512, .f32⟩
  | .hbm, ⟨15, _⟩ => ⟨S32768x3x512, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1024x3072, .f32⟩
  | .hbm, ⟨34, _⟩ => ⟨S32768x3072, .f32⟩
  | .hbm, ⟨35, _⟩ => ⟨S3x512x1024, .f32⟩
  | .hbm, ⟨36, _⟩ => ⟨S3x1024x32768, .f32⟩
  | .hbm, ⟨37, _⟩ => ⟨S32768x3x1024, .f32⟩
  | .hbm, ⟨38, _⟩ => ⟨S32768x3x1024, .f32⟩
  | .hbm, ⟨39, _⟩ => ⟨S1x3x1024, .f32⟩
  | .hbm, ⟨40, _⟩ => ⟨S32768x3x1024, .f32⟩
  | .hbm, ⟨41, _⟩ => ⟨S32768x3x1024, .f32⟩
  | .hbm, ⟨42, _⟩ => ⟨S32768x3x1024, .f32⟩
  | .hbm, ⟨43, _⟩ => ⟨S32768x3x1024, .f32⟩
  | .hbm, ⟨44, _⟩ => ⟨S_, .f32⟩
  | .hbm, ⟨45, _⟩ => ⟨S32768x3x1024, .f32⟩
  | .hbm, ⟨46, _⟩ => ⟨S32768x3x1024, .f32⟩
  | .hbm, ⟨47, _⟩ => ⟨S_, .f32⟩
  | .hbm, ⟨48, _⟩ => ⟨S32768x3x1024, .f32⟩
  | .hbm, ⟨49, _⟩ => ⟨S32768x3x1024, .f32⟩
  | .hbm, ⟨50, _⟩ => ⟨S32768x3x1024, .f32⟩
  | .hbm, ⟨51, _⟩ => ⟨S_, .f32⟩
  | .hbm, ⟨52, _⟩ => ⟨S32768x1024, .f32⟩
  | .hbm, ⟨53, _⟩ => ⟨S1024x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Ffn.lean ====
abbrev S2x16384x1024 : Shape := ⟨3, ![2, 16384, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S2x8x2816 : Shape := ⟨3, ![2, 8, 2816]⟩
abbrev S1x512x1024 : Shape := ⟨3, ![1, 512, 1024]⟩
abbrev S1x8x2816 : Shape := ⟨3, ![1, 8, 2816]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1024x5632, .bf16⟩
  | .hbm, ⟨3, _⟩ => ⟨S3x2816, .f32⟩
  | .hbm, ⟨4, _⟩ => ⟨S1x2816, .f32⟩
  | .hbm, ⟨5, _⟩ => ⟨S2816x1024, .bf16⟩
  | .hbm, ⟨6, _⟩ => ⟨S2x16384x1024, .f32⟩
  | .hbm, ⟨7, _⟩ => ⟨S2x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x8x2816, .f32⟩
  | .local _ .vmem, ⟨10, _⟩ => ⟨S1x8x2816, .f32⟩
  | .local _ .vmem, ⟨11, _⟩ => ⟨S520x2816, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S2x16384x1024 : Shape := ⟨3, ![2, 16384, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1024 : Shape := ⟨1, ![1024]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S2x2x2816 : Shape := ⟨3, ![2, 2, 2816]⟩
abbrev S2x16386x2816 : Shape := ⟨3, ![2, 16386, 2816]⟩
abbrev S2816 : Shape := ⟨1, ![2816]⟩
abbrev S1x1x2816 : Shape := ⟨3, ![1, 1, 2816]⟩
abbrev S2x8x2816 : Shape := ⟨3, ![2, 8, 2816]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1024x5632, .bf16⟩
  | .hbm, ⟨3, _⟩ => ⟨S3x2816, .f32⟩
  | .hbm, ⟨4, _⟩ => ⟨S1x2816, .f32⟩
  | .hbm, ⟨5, _⟩ => ⟨S2816x1024, .bf16⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S1024x5632, .f32⟩
  | .hbm, ⟨24, _⟩ => ⟨S2x16384x5632, .f32⟩
  | .hbm, ⟨25, _⟩ => ⟨S2x16384x2816, .f32⟩
  | .hbm, ⟨26, _⟩ => ⟨S2x16384x2816, .f32⟩
  | .hbm, ⟨27, _⟩ => ⟨S_, .f32⟩
  | .hbm, ⟨28, _⟩ => ⟨S2x2x2816, .f32⟩
  | .hbm, ⟨29, _⟩ => ⟨S2x16386x2816, .f32⟩
  | .hbm, ⟨30, _⟩ => ⟨S2816, .f32⟩
  | .hbm, ⟨31, _⟩ => ⟨S1x2816, .f32⟩
  | .hbm, ⟨32, _⟩ => ⟨S2816, .f32⟩
  | .hbm, ⟨33, _⟩ => ⟨S2x16384x2816, .f32⟩
  | .hbm, ⟨34, _⟩ => ⟨S1x1x2816, .f32⟩
  | .hbm, ⟨35, _⟩ => ⟨S2x16384x2816, .f32⟩
  | .hbm, ⟨36, _⟩ => ⟨S2x16384x2816, .f32⟩
  | .hbm, ⟨37, _⟩ => ⟨S1x1x2816, .f32⟩
  | .hbm, ⟨38, _⟩ => ⟨S2x16384x2816, .f32⟩
  | .hbm, ⟨39, _⟩ => ⟨S2x16384x2816, .f32⟩
  | .hbm, ⟨40, _⟩ => ⟨S1x2816, .f32⟩
  | .hbm, ⟨41, _⟩ => ⟨S2816, .f32⟩
  | .hbm, ⟨42, _⟩ => ⟨S2x16384x2816, .f32⟩
  | .hbm, ⟨43, _⟩ => ⟨S1x1x2816, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S1x2816, .f32⟩
  | .hbm, ⟨48, _⟩ => ⟨S2816, .f32⟩
  | .hbm, ⟨49, _⟩ => ⟨S2x16384x2816, .f32⟩
  | .hbm, ⟨50, _⟩ => ⟨S1x1x2816, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S2x16384x2816, .f32⟩
  | .hbm, ⟨55, _⟩ => ⟨S2x16384x2816, .f32⟩
  | .hbm, ⟨56, _⟩ => ⟨S_, .f32⟩
  | .hbm, ⟨57, _⟩ => ⟨S2x16384x2816, .f32⟩
  | .hbm, ⟨58, _⟩ => ⟨S2x16384x2816, .f32⟩
  | .hbm, ⟨59, _⟩ => ⟨S_, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S2x16384x2816, .f32⟩
  | .hbm, ⟨64, _⟩ => ⟨S2816x1024, .f32⟩
  | .hbm, ⟨65, _⟩ => ⟨S2x16384x1024, .f32⟩
  | .hbm, ⟨66, _⟩ => ⟨S2x16384x1024, .f32⟩
  | .hbm, ⟨67, _⟩ => ⟨S2x8x2816, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proj.lean ====
abbrev S2x16384x1024 : Shape := ⟨3, ![2, 16384, 1024]⟩
abbrev S1x1024 : Shape := ⟨2, ![1, 1024]⟩
abbrev S1x1024x6656 : Shape := ⟨3, ![1, 1024, 6656]⟩
abbrev S1x64 : Shape := ⟨2, ![1, 64]⟩
abbrev S1x128 : Shape := ⟨2, ![1, 128]⟩
abbrev S1024x6656 : Shape := ⟨2, ![1024, 6656]⟩
abbrev S1024x512 : Shape := ⟨2, ![1024, 512]⟩
abbrev S1024x2048 : Shape := ⟨2, ![1024, 2048]⟩
abbrev S1024x1536 : Shape := ⟨2, ![1024, 1536]⟩
abbrev S1536x1024 : Shape := ⟨2, ![1536, 1024]⟩
abbrev S1024 : Shape := ⟨1, ![1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S512x128 : Shape := ⟨2, ![512, 128]⟩
abbrev S128 : Shape := ⟨1, ![128]⟩
abbrev S4x128 : Shape := ⟨2, ![4, 128]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S64x16384 : Shape := ⟨2, ![64, 16384]⟩
abbrev S2x16384x512 : Shape := ⟨3, ![2, 16384, 512]⟩
abbrev S2x512x16384 : Shape := ⟨3, ![2, 512, 16384]⟩
abbrev S2x64x512x256 : Shape := ⟨4, ![2, 64, 512, 256]⟩
abbrev S1x512x1024 : Shape := ⟨3, ![1, 512, 1024]⟩
abbrev S64x512 : Shape := ⟨2, ![64, 512]⟩
abbrev S1x512x512 : Shape := ⟨3, ![1, 512, 512]⟩
abbrev S1x2x512x256 : Shape := ⟨4, ![1, 2, 512, 256]⟩
abbrev S512x1024 : Shape := ⟨2, ![512, 1024]⟩
abbrev S512x256 : Shape := ⟨2, ![512, 256]⟩
abbrev S1x1x512x256 : Shape := ⟨4, ![1, 1, 512, 256]⟩
abbrev S32x512 : Shape := ⟨2, ![32, 512]⟩

abbrev nBuf : Space → Nat
  | .hbm => 134
  | .vmem => 40
  | .smem => 0
  | _ => 0

abbrev hbmTy0_0 (i : Nat) : BufTy := match i % 128 with
  | 0 => ⟨S2x16384x1024, .f32⟩
  | 1 => ⟨S1x1024, .f32⟩
  | 2 => ⟨S1x1024x6656, .f32⟩
  | 3 => ⟨S1x64, .f32⟩
  | 4 => ⟨S1x64, .f32⟩
  | 5 => ⟨S1x128, .f32⟩
  | 6 => ⟨S1024x6656, .f32⟩
  | 7 => ⟨S1024x6656, .bf16⟩
  | 8 => ⟨S1024x512, .bf16⟩
  | 9 => ⟨S1024x512, .bf16⟩
  | 10 => ⟨S1024x512, .bf16⟩
  | 11 => ⟨S1024x512, .bf16⟩
  | 12 => ⟨S1024x2048, .bf16⟩
  | 13 => ⟨S1024x512, .bf16⟩
  | 14 => ⟨S1024x512, .bf16⟩
  | 15 => ⟨S1024x512, .bf16⟩
  | 16 => ⟨S1024x1536, .bf16⟩
  | 17 => ⟨S1536x1024, .bf16⟩
  | 18 => ⟨S1024, .f32⟩
  | 19 => ⟨S1x1024, .f32⟩
  | 20 => ⟨S512, .i32⟩
  | 21 => ⟨S_, .i32⟩
  | 22 => ⟨S_, .i32⟩
  | 23 => ⟨S512, .i32⟩
  | 24 => ⟨S512, .i32⟩
  | 25 => ⟨S512, .i32⟩
  | 26 => ⟨S_, .i32⟩
  | 27 => ⟨S512, .i32⟩
  | 28 => ⟨S512, .i1⟩
  | 29 => ⟨S512, .i32⟩
  | 30 => ⟨S512, .i32⟩
  | 31 => ⟨S_, .i32⟩
  | 32 => ⟨S512, .i32⟩
  | 33 => ⟨S512, .i1⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S1x512, .i32⟩
  | 41 => ⟨S512x512, .i32⟩
  | 42 => ⟨S512x512, .i32⟩
  | 43 => ⟨S512x512, .i1⟩
  | 44 => ⟨S512x512, .f32⟩
  | 45 => ⟨S_, .f32⟩
  | 46 => ⟨S512x512, .f32⟩
  | 47 => ⟨S512x512, .f32⟩
  | 48 => ⟨S512x512, .bf16⟩
  | 49 => ⟨S512, .i32⟩
  | 50 => ⟨S_, .i32⟩
  | 51 => ⟨S_, .i32⟩
  | 52 => ⟨S512, .i32⟩
  | 53 => ⟨S512, .i32⟩
  | 54 => ⟨S512, .i32⟩
  | 55 => ⟨S_, .i32⟩
  | 56 => ⟨S512, .i32⟩
  | 57 => ⟨S512, .i1⟩
  | 58 => ⟨S512, .i32⟩
  | 59 => ⟨S512, .i32⟩
  | 60 => ⟨S_, .i32⟩
  | 61 => ⟨S512, .i32⟩
  | 62 => ⟨S512, .i1⟩
  | 63 => ⟨S512, .i1⟩
  | 64 => ⟨S_, .i32⟩
  | 65 => ⟨S512, .i32⟩
  | 66 => ⟨S512, .i32⟩
  | 67 => ⟨S512, .i32⟩
  | 68 => ⟨S512x1, .i32⟩
  | 69 => ⟨S1x512, .i32⟩
  | 70 => ⟨S512x512, .i32⟩
  | 71 => ⟨S512x512, .i32⟩
  | 72 => ⟨S512x512, .i1⟩
  | 73 => ⟨S512x512, .f32⟩
  | 74 => ⟨S_, .f32⟩
  | 75 => ⟨S512x512, .f32⟩
  | 76 => ⟨S512x512, .f32⟩
  | 77 => ⟨S512x512, .bf16⟩
  | 78 => ⟨S64, .f32⟩
  | 79 => ⟨S1x64, .f32⟩
  | 80 => ⟨S8x64, .f32⟩
  | 81 => ⟨S512, .f32⟩
  | 82 => ⟨S1x512, .f32⟩
  | 83 => ⟨S64, .f32⟩
  | 84 => ⟨S1x64, .f32⟩
  | 85 => ⟨S8x64, .f32⟩
  | 86 => ⟨S512, .f32⟩
  | 87 => ⟨S1x512, .f32⟩
  | 88 => ⟨S512x1, .f32⟩
  | 89 => ⟨S512x128, .f32⟩
  | 90 => ⟨S128, .f32⟩
  | 91 => ⟨S1x128, .f32⟩
  | 92 => ⟨S4x128, .f32⟩
  | 93 => ⟨S512, .f32⟩
  | 94 => ⟨S1x512, .f32⟩
  | 95 => ⟨S16384, .i32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S16384, .f32⟩
  | 105 => ⟨S16384x1, .f32⟩
  | 106 => ⟨S1x32, .f32⟩
  | 107 => ⟨S16384x32, .f32⟩
  | 108 => ⟨S16384x32, .f32⟩
  | 109 => ⟨S16384x32, .f32⟩
  | 110 => ⟨S16384x32, .f32⟩
  | 111 => ⟨S16384x32, .f32⟩
  | 112 => ⟨S16384x64, .f32⟩
  | 113 => ⟨S16384x32, .f32⟩
  | 114 => ⟨S16384x64, .f32⟩
  | 115 => ⟨S1x16384x1x64, .f32⟩
  | 116 => ⟨S1x16384x2x64, .f32⟩
  | 117 => ⟨S16384x128, .f32⟩
  | 118 => ⟨S1x16384x1x64, .f32⟩
  | 119 => ⟨S1x16384x2x64, .f32⟩
  | 120 => ⟨S16384x128, .f32⟩
  | 121 => ⟨S64x16384, .f32⟩
  | 122 => ⟨S64x16384, .f32⟩
  | 123 => ⟨S2x16384x512, .bf16⟩
  | 124 => ⟨S2x16384x512, .bf16⟩
  | 125 => ⟨S2x16384x512, .f32⟩
  | 126 => ⟨S2x16384x512, .bf16⟩
  | 127 => ⟨S2x16384x512, .bf16⟩
  | _ => ⟨S2x16384x1024, .f32⟩

abbrev hbmTy0_1 (i : Nat) : BufTy := match i % 128 with
  | 0 => ⟨S2x512x16384, .f32⟩
  | 1 => ⟨S2x64x512x256, .bf16⟩
  | 2 => ⟨S2x512x16384, .f32⟩
  | 3 => ⟨S2x64x512x256, .bf16⟩
  | 4 => ⟨S2x512x16384, .f32⟩
  | 5 => ⟨S2x64x512x256, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1536x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S512x128, .f32⟩
  | .local _ .vmem, ⟨17, _⟩ => ⟨S1x512, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .f32⟩
  | .local _ .vmem, ⟨29, _⟩ => ⟨S1x512x512, .f32⟩
  | .local _ .vmem, ⟨30, _⟩ => ⟨S1x2x512x256, .bf16⟩
  | .local _ .vmem, ⟨31, _⟩ => ⟨S1x2x512x256, .bf16⟩
  | .local _ .vmem, ⟨32, _⟩ => ⟨S1x512x512, .f32⟩
  | .local _ .vmem, ⟨33, _⟩ => ⟨S1x512x512, .f32⟩
  | .local _ .vmem, ⟨34, _⟩ => ⟨S1x2x512x256, .bf16⟩
  | .local _ .vmem, ⟨35, _⟩ => ⟨S1x2x512x256, .bf16⟩
  | .local _ .vmem, ⟨36, _⟩ => ⟨S1x512x512, .f32⟩
  | .local _ .vmem, ⟨37, _⟩ => ⟨S1x512x512, .f32⟩
  | .local _ .vmem, ⟨38, _⟩ => ⟨S1x2x512x256, .bf16⟩
  | .local _ .vmem, ⟨39, _⟩ => ⟨S1x2x512x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_1 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_2 : Ref sig .tc := ⟨.hbm, 98, rfl⟩
abbrev main_v56 : Ref sig .tc := ⟨.hbm, 99, rfl⟩
abbrev main_v57 : Ref sig .tc := ⟨.hbm, 100, rfl⟩
abbrev main_cst_3 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79_0 : Ref sig .tc := ⟨.hbm, 123, rfl⟩
abbrev main_v79_1 : Ref sig .tc := ⟨.hbm, 124, rfl⟩
abbrev main_v79_2 : Ref sig .tc := ⟨.hbm, 125, rfl⟩
abbrev main_v79_3 : Ref sig .tc := ⟨.hbm, 126, rfl⟩
abbrev main_v79_4 : Ref sig .tc := ⟨.hbm, 127, rfl⟩
abbrev main_v79_5 : Ref sig .tc := ⟨.hbm, 128, rfl⟩
abbrev main_v79_6 : Ref sig .tc := ⟨.hbm, 129, rfl⟩
abbrev main_v79_7 : Ref sig .tc := ⟨.hbm, 130, rfl⟩
abbrev main_v79_8 : Ref sig .tc := ⟨.hbm, 131, rfl⟩
abbrev main_v79_9 : Ref sig .tc := ⟨.hbm, 132, rfl⟩
abbrev main_v79_10 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjRefIdeal.lean ====
abbrev S2x16384x1024 : Shape := ⟨3, ![2, 16384, 1024]⟩
abbrev S1x1024 : Shape := ⟨2, ![1, 1024]⟩
abbrev S1x1024x6656 : Shape := ⟨3, ![1, 1024, 6656]⟩
abbrev S1x64 : Shape := ⟨2, ![1, 64]⟩
abbrev S1x128 : Shape := ⟨2, ![1, 128]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x6656 : Shape := ⟨2, ![1024, 6656]⟩
abbrev S2x16384x6656 : Shape := ⟨3, ![2, 16384, 6656]⟩
abbrev S2x16384x512 : Shape := ⟨3, ![2, 16384, 512]⟩
abbrev S2x16384x3072 : Shape := ⟨3, ![2, 16384, 3072]⟩
abbrev S2x16384x4x2x64 : Shape := ⟨5, ![2, 16384, 4, 2, 64]⟩
abbrev S64 : Shape := ⟨1, ![64]⟩
abbrev S2x16384x4x2 : Shape := ⟨4, ![2, 16384, 4, 2]⟩
abbrev S2x16384x4x2x1 : Shape := ⟨5, ![2, 16384, 4, 2, 1]⟩
abbrev S1x1x1x1x64 : Shape := ⟨5, ![1, 1, 1, 1, 64]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x1x32 : Shape := ⟨5, ![1, 16384, 1, 1, 32]⟩
abbrev S2x16384x4x2x32 : Shape := ⟨5, ![2, 16384, 4, 2, 32]⟩
abbrev S2x16384x4x128 : Shape := ⟨4, ![2, 16384, 4, 128]⟩
abbrev S128 : Shape := ⟨1, ![128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x512x16384 : Shape := ⟨3, ![2, 512, 16384]⟩
abbrev S2x64x256x512 : Shape := ⟨4, ![2, 64, 256, 512]⟩
abbrev S2x64x512x256 : Shape := ⟨4, ![2, 64, 512, 256]⟩

abbrev nBuf : Space → Nat
  | .hbm => 176
  | .vmem => 0
  | .smem => 0
  | _ => 0

abbrev hbmTy0_0 (i : Nat) : BufTy := match i % 128 with
  | 0 => ⟨S2x16384x1024, .f32⟩
  | 1 => ⟨S1x1024, .f32⟩
  | 2 => ⟨S1x1024x6656, .f32⟩
  | 3 => ⟨S1x64, .f32⟩
  | 4 => ⟨S1x64, .f32⟩
  | 5 => ⟨S1x128, .f32⟩
  | 6 => ⟨S1024, .f32⟩
  | 7 => ⟨S2x16384x1024, .f32⟩
  | 8 => ⟨S_, .f32⟩
  | 9 => ⟨S2x16384, .f32⟩
  | 10 => ⟨S2x16384x1, .f32⟩
  | 11 => ⟨S_, .f32⟩
  | 12 => ⟨S2x16384x1, .f32⟩
  | 13 => ⟨S2x16384x1, .f32⟩
  | 14 => ⟨S_, .f32⟩
  | 15 => ⟨S2x16384x1, .f32⟩
  | 16 => ⟨S2x16384x1, .f32⟩
  | 17 => ⟨S2x16384x1, .f32⟩
  | 18 => ⟨S2x16384x1024, .f32⟩
  | 19 => ⟨S2x16384x1024, .f32⟩
  | 20 => ⟨S1x1x1024, .f32⟩
  | 21 => ⟨S2x16384x1024, .f32⟩
  | 22 => ⟨S2x16384x1024, .f32⟩
  | 23 => ⟨S1024x6656, .f32⟩
  | 24 => ⟨S2x16384x6656, .f32⟩
  | 25 => ⟨S2x16384x512, .f32⟩
  | 26 => ⟨S2x16384x512, .f32⟩
  | 27 => ⟨S2x16384x512, .f32⟩
  | 28 => ⟨S2x16384x512, .f32⟩
  | 29 => ⟨S2x16384x512, .f32⟩
  | 30 => ⟨S2x16384x512, .f32⟩
  | 31 => ⟨S2x16384x512, .f32⟩
  | 32 => ⟨S2x16384x3072, .f32⟩
  | 33 => ⟨S2x16384x4x2x64, .f32⟩
  | 34 => ⟨S64, .f32⟩
  | 35 => ⟨S2x16384x4x2x64, .f32⟩
  | 36 => ⟨S_, .f32⟩
  | 37 => ⟨S2x16384x4x2, .f32⟩
  | 38 => ⟨S2x16384x4x2x1, .f32⟩
  | 39 => ⟨S_, .f32⟩
  | 40 => ⟨S2x16384x4x2x1, .f32⟩
  | 41 => ⟨S2x16384x4x2x1, .f32⟩
  | 42 => ⟨S_, .f32⟩
  | 43 => ⟨S2x16384x4x2x1, .f32⟩
  | 44 => ⟨S2x16384x4x2x1, .f32⟩
  | 45 => ⟨S2x16384x4x2x1, .f32⟩
  | 46 => ⟨S2x16384x4x2x64, .f32⟩
  | 47 => ⟨S2x16384x4x2x64, .f32⟩
  | 48 => ⟨S1x1x1x1x64, .f32⟩
  | 49 => ⟨S2x16384x4x2x64, .f32⟩
  | 50 => ⟨S2x16384x4x2x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S16384, .i32⟩
  | 60 => ⟨S16384, .f32⟩
  | 61 => ⟨S16384x1, .f32⟩
  | 62 => ⟨S1x32, .f32⟩
  | 63 => ⟨S16384x32, .f32⟩
  | 64 => ⟨S16384x32, .f32⟩
  | 65 => ⟨S16384x32, .f32⟩
  | 66 => ⟨S16384x32, .f32⟩
  | 67 => ⟨S1x16384x1x1x32, .f32⟩
  | 68 => ⟨S16384x32, .f32⟩
  | 69 => ⟨S1x16384x1x1x32, .f32⟩
  | 70 => ⟨S2x16384x4x2x32, .f32⟩
  | 71 => ⟨S2x16384x4x2x32, .f32⟩
  | 72 => ⟨S2x16384x4x2x32, .f32⟩
  | 73 => ⟨S2x16384x4x2x32, .f32⟩
  | 74 => ⟨S2x16384x4x2x32, .f32⟩
  | 75 => ⟨S2x16384x4x2x32, .f32⟩
  | 76 => ⟨S2x16384x4x2x32, .f32⟩
  | 77 => ⟨S2x16384x4x2x32, .f32⟩
  | 78 => ⟨S2x16384x4x2x32, .f32⟩
  | 79 => ⟨S2x16384x4x2x32, .f32⟩
  | 80 => ⟨S2x16384x4x2x32, .f32⟩
  | 81 => ⟨S2x16384x4x2x32, .f32⟩
  | 82 => ⟨S2x16384x4x2x64, .f32⟩
  | 83 => ⟨S2x16384x512, .f32⟩
  | 84 => ⟨S2x16384x4x2x64, .f32⟩
  | 85 => ⟨S64, .f32⟩
  | 86 => ⟨S2x16384x4x2x64, .f32⟩
  | 87 => ⟨S_, .f32⟩
  | 88 => ⟨S2x16384x4x2, .f32⟩
  | 89 => ⟨S2x16384x4x2x1, .f32⟩
  | 90 => ⟨S_, .f32⟩
  | 91 => ⟨S2x16384x4x2x1, .f32⟩
  | 92 => ⟨S2x16384x4x2x1, .f32⟩
  | 93 => ⟨S_, .f32⟩
  | 94 => ⟨S2x16384x4x2x1, .f32⟩
  | 95 => ⟨S2x16384x4x2x1, .f32⟩
  | 96 => ⟨S2x16384x4x2x1, .f32⟩
  | 97 => ⟨S2x16384x4x2x64, .f32⟩
  | 98 => ⟨S2x16384x4x2x64, .f32⟩
  | 99 => ⟨S1x1x1x1x64, .f32⟩
  | 100 => ⟨S2x16384x4x2x64, .f32⟩
  | 101 => ⟨S2x16384x4x2x64, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S16384, .i32⟩
  | 111 => ⟨S16384, .f32⟩
  | 112 => ⟨S16384x1, .f32⟩
  | 113 => ⟨S1x32, .f32⟩
  | 114 => ⟨S16384x32, .f32⟩
  | 115 => ⟨S16384x32, .f32⟩
  | 116 => ⟨S16384x32, .f32⟩
  | 117 => ⟨S16384x32, .f32⟩
  | 118 => ⟨S1x16384x1x1x32, .f32⟩
  | 119 => ⟨S16384x32, .f32⟩
  | 120 => ⟨S1x16384x1x1x32, .f32⟩
  | 121 => ⟨S2x16384x4x2x32, .f32⟩
  | 122 => ⟨S2x16384x4x2x32, .f32⟩
  | 123 => ⟨S2x16384x4x2x32, .f32⟩
  | 124 => ⟨S2x16384x4x2x32, .f32⟩
  | 125 => ⟨S2x16384x4x2x32, .f32⟩
  | 126 => ⟨S2x16384x4x2x32, .f32⟩
  | 127 => ⟨S2x16384x4x2x32, .f32⟩
  | _ => ⟨S2x16384x1024, .f32⟩

abbrev hbmTy0_1 (i : Nat) : BufTy := match i % 128 with
  | 0 => ⟨S2x16384x4x2x32, .f32⟩
  | 1 => ⟨S2x16384x4x2x32, .f32⟩
  | 2 => ⟨S2x16384x4x2x32, .f32⟩
  | 3 => ⟨S2x16384x4x2x32, .f32⟩
  | 4 => ⟨S2x16384x4x2x32, .f32⟩
  | 5 => ⟨S2x16384x4x2x64, .f32⟩
  | 6 => ⟨S2x16384x512, .f32⟩
  | 7 => ⟨S2x16384x4x128, .f32⟩
  | 8 => ⟨S128, .f32⟩
  | 9 => ⟨S2x16384x4x128, .f32⟩
  | 10 => ⟨S_, .f32⟩
  | 11 => ⟨S2x16384x4, .f32⟩
  | 12 => ⟨S2x16384x4x1, .f32⟩
  | 13 => ⟨S_, .f32⟩
  | 14 => ⟨S2x16384x4x1, .f32⟩
  | 15 => ⟨S2x16384x4x1, .f32⟩
  | 16 => ⟨S_, .f32⟩
  | 17 => ⟨S2x16384x4x1, .f32⟩
  | 18 => ⟨S2x16384x4x1, .f32⟩
  | 19 => ⟨S2x16384x4x1, .f32⟩
  | 20 => ⟨S2x16384x4x128, .f32⟩
  | 21 => ⟨S2x16384x4x128, .f32⟩
  | 22 => ⟨S1x1x1x128, .f32⟩
  | 23 => ⟨S2x16384x4x128, .f32⟩
  | 24 => ⟨S2x16384x4x128, .f32⟩
  | 25 => ⟨S2x16384x512, .f32⟩
  | 26 => ⟨S_, .f32⟩
  | 27 => ⟨S2x16384x512, .f32⟩
  | 28 => ⟨S2x16384x512, .f32⟩
  | 29 => ⟨S2x16384x512, .bf16⟩
  | 30 => ⟨S_, .f32⟩
  | 31 => ⟨S2x16384x512, .f32⟩
  | 32 => ⟨S2x16384x512, .f32⟩
  | 33 => ⟨S2x16384x512, .bf16⟩
  | 34 => ⟨S2x16384x512, .bf16⟩
  | 35 => ⟨S2x16384x512, .bf16⟩
  | 36 => ⟨S2x512x16384, .f32⟩
  | 37 => ⟨S2x64x256x512, .f32⟩
  | 38 => ⟨S2x64x512x256, .f32⟩
  | 39 => ⟨S2x64x512x256, .bf16⟩
  | 40 => ⟨S2x512x16384, .f32⟩
  | 41 => ⟨S2x64x256x512, .f32⟩
  | 42 => ⟨S2x64x512x256, .f32⟩
  | 43 => ⟨S2x64x512x256, .bf16⟩
  | 44 => ⟨S2x512x16384, .f32⟩
  | 45 => ⟨S2x64x256x512, .f32⟩
  | 46 => ⟨S2x64x512x256, .f32⟩
  | 47 => ⟨S2x64x512x256, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_10 : Ref sig .tc := ⟨.hbm, 104, rfl⟩
abbrev main_v87 : Ref sig .tc := ⟨.hbm, 105, rfl⟩
abbrev main_v88 : Ref sig .tc := ⟨.hbm, 106, rfl⟩
abbrev main_cst_11 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_12 : Ref sig .tc := ⟨.hbm, 138, rfl⟩
abbrev main_v119 : Ref sig .tc := ⟨.hbm, 139, rfl⟩
abbrev main_v120 : Ref sig .tc := ⟨.hbm, 140, rfl⟩
abbrev main_cst_13 : Ref sig .tc := ⟨.hbm, 141, rfl⟩
abbrev main_v121 : Ref sig .tc := ⟨.hbm, 142, rfl⟩
abbrev main_v122 : Ref sig .tc := ⟨.hbm, 143, rfl⟩
abbrev main_cst_14 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_15 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_16 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩

abbrev nD : Nat := 1
abbrev τ : Topo := Topo.v7x

variable {F : FTy → Type} [FloatOps F]
-- ==== Proof.Block.lean ====
/- What one grid point of the differential attention kernel leaves in its output block, as a function of the
   five input blocks: the running maximum and accumulator, stepped once per block of 1024 keys. Stated over any
   element type; the arithmetic is Proof/Stream.lean. -/
module

public import proofs.«01_k».proof.Proof.Gen.DiffIdeal.Value
public import Idealize.ShloMosaic.Lib.Tactic
public import Idealize.ShloMosaic.Lib.Pointwise
public import Idealize.ShloMosaic.Lib.Pipeline.ValueKit

@[expose] public section

set_option maxRecDepth 16384
noncomputable section

namespace Cert.DiffIdeal.Block
open Cert.DiffIdeal Cert.DiffIdeal.Gen Idealize.ShloMosaic Idealize.ShloMosaic.TcCoe Idealize.ShloMosaic.Tactic
open Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Trip counts and load offsets -/

/-- The first loop makes one trip per block of keys before the query block's own. -/
theorem trips1 (i : grid0.Coords) : (k0_t1_loop i).trips = (i 2).val := by
  unfold k0_t1_loop
  generalize i 2 = q
  revert q
  decide +kernel

/-- The second loop makes none. -/
theorem trips2 (i : grid0.Coords) : (k0_t2_loop i).trips = 0 := by
  unfold k0_t2_loop
  generalize i 2 = q
  revert q
  decide +kernel

theorem qlt (i : grid0.Coords) : (i 2).val < 16 := (i 2).isLt

theorem off1 (i : grid0.Coords) (k : Fin (k0_t1_loop i).trips) : k0_off1 i k = ![0, 1024 * k.val, 0] := by
  have hk : k.val < 16 := lt_of_lt_of_le (lt_of_lt_of_eq k.isLt (trips1 i)) (qlt i).le
  have := (by decide +kernel : ∀ n : Fin 16, (Scalar.indexCast (Scalar.muli (Scalar.muli 4#32 (Scf.iv 0#32 1#32 n.val)) 256#32)).toNat = 1024 * n.val) ⟨k.val, hk⟩
  unfold k0_off1
  exact congrArg (fun z => (![0, z, 0] : Fin 3 → ℕ)) this

theorem off2 (i : grid0.Coords) (k : Fin (k0_t1_loop i).trips) (r : Fin 4) :
    k0_off2 i k (BitVec.ofNat 32 r.val) = ![0, 4 * k.val + r.val, 0, 0] := by
  have hk : k.val < 16 := lt_of_lt_of_le (lt_of_lt_of_eq k.isLt (trips1 i)) (qlt i).le
  have := (by decide +kernel : ∀ (n : Fin 16) (r : Fin 4), (Scalar.indexCast (Scalar.addi (Scalar.muli 4#32 (Scf.iv 0#32 1#32 n.val)) (BitVec.ofNat 32 r.val))).toNat = 4 * n.val + r.val) ⟨k.val, hk⟩ r
  unfold k0_off2
  exact congrArg (fun z => (![0, z, 0, 0] : Fin 4 → ℕ)) this

theorem off5 (i : grid0.Coords) : k0_off5 i = ![0, 1024 * (i 2).val, 0] := by
  unfold k0_off5
  generalize i 2 = q
  revert q
  decide +kernel

theorem off6 (i : grid0.Coords) (r : Fin 4) : k0_off6 i (BitVec.ofNat 32 r.val) = ![0, 4 * (i 2).val + r.val, 0, 0] := by
  unfold k0_off6
  generalize i 2 = q
  revert q r
  decide +kernel

/-! ## The state -/

/-- The `o`-th block of 1024 value rows. -/
def vrows (x4 : Vec F S1x16384x128 .bf16) (o : ℕ) : Vec F S1x1024x128 .bf16 :=
  fun y => x4 (ix3 (n0 := 1) (n1 := 16384) (n2 := 128) 0 ⟨(1024 * o + (y 1).val) % 16384, Nat.mod_lt _ (by norm_num)⟩ ⟨(y 2).val, (y 2).isLt⟩)

/-- The `o`-th chunk of 256 keys, a key per column. -/
def kchunk (x3 : Vec F S1x64x128x256 .bf16) (o : ℕ) : Vec F S1x1x128x256 .bf16 :=
  fun y => x3 (ix4 (n0 := 1) (n1 := 64) (n2 := 128) (n3 := 256) 0 ⟨o % 64, Nat.mod_lt _ (by norm_num)⟩ ⟨(y 2).val, (y 2).isLt⟩ ⟨(y 3).val, (y 3).isLt⟩)

/-- The scores of the stacked queries with the `t`-th block of 1024 keys. -/
def scores (v8 : FVec F S2048x128 .bf16) (x3 : Vec F S1x64x128x256 .bf16) (t : ℕ) : FVec F S2048x1024 .f32 :=
  k0_pay13 v8 (kchunk x3 (4 * t)) (kchunk x3 (4 * t + 1)) (kchunk x3 (4 * t + 2)) (kchunk x3 (4 * t + 3))

/-- The running maximum, a row's value in each lane, with a block of scores taken in. -/
def mstep (s : FVec F S2048x1024 .f32) (m : Vec F S2048x128 .f32) : FVec F S2048x128 .f32 :=
  maximumf m (broadcastTo S2048x128 (shapeCast S2048x1 (multiReduction .maximumf [1] S2048 s 0xFF800000#32 reduces_S2048x1024_S2048 (.inl rfl) rfl) shapeCasts_S2048_S2048x1) broadcasts_S2048x1_S2048x128)

/-- The accumulator (weighted values beside total weight) with a block of scores and values taken in, where the
    maximum goes from `m` to `m'`. -/
def astep (s : FVec F S2048x1024 .f32) (w : FVec F S1024x256 .bf16) (m m' : Vec F S2048x128 .f32) (a : Vec F S2048x256 .f32) : FVec F S2048x256 .f32 :=
  addf
    (mulf (concatenate S2048x256 1 [⟨S2048x128, exp (subf m m')⟩, ⟨S2048x128, exp (subf m m')⟩] concatenates_S2048x128_S2048x128_S2048x256_d1) a)
    (matmul dot_S2048x1024_S1024x256_S2048x256_1_0_0_1_n_n none
      (truncf .bf16 (exp (subf s (concatenate S2048x1024 1 [⟨S2048x128, m'⟩, ⟨S2048x128, m'⟩, ⟨S2048x128, m'⟩, ⟨S2048x128, m'⟩, ⟨S2048x128, m'⟩, ⟨S2048x128, m'⟩, ⟨S2048x128, m'⟩, ⟨S2048x128, m'⟩] concatenates_S2048x128_S2048x128_S2048x128_S2048x128_S2048x128_S2048x128_S2048x128_S2048x128_S2048x1024_d1))) bitsLt_bf16_f32)
      w (constant S2048x256 .f32 0x00000000#32))

/-- The maximum and the accumulator after `t` blocks of keys. -/
def st (v8 : FVec F S2048x128 .bf16) (x3 : Vec F S1x64x128x256 .bf16) (x4 : Vec F S1x16384x128 .bf16) : ℕ → FVec F S2048x128 .f32 × FVec F S2048x256 .f32
  | 0 => (k0_pay16, k0_pay17)
  | t + 1 =>
    let s := st v8 x3 x4 t
    (mstep (scores v8 x3 t) s.1, astep (scores v8 x3 t) (k0_pay12 (vrows x4 t)) s.1 (mstep (scores v8 x3 t) s.1) s.2)

/-- The accumulator after the last, masked, block. -/
def last (v8 : FVec F S2048x128 .bf16) (x3 : Vec F S1x64x128x256 .bf16) (x4 : Vec F S1x16384x128 .bf16) (q : ℕ) : FVec F S2048x256 .f32 :=
  let s := st v8 x3 x4 q
  let sc := k0_pay26 (scores v8 x3 q) 1024#32 k0_pay14
  astep sc (k0_pay12 (vrows x4 q)) s.1 (mstep sc s.1) s.2

/-- What the grid point leaves in its output block. -/
def out (q : ℕ) (x0 : Vec F S4x64 .f32) (x1 : Vec F S1x128 .f32) (x2 : Vec F S1x1024x128 .bf16) (x3 : Vec F S1x64x128x256 .bf16) (x4 : Vec F S1x16384x128 .bf16) : FVec F S1x1024x128 .bf16 :=
  let a := last (k0_pay15 x2) x3 x4 q
  let lo := View.ld a (Rect.unit (s := S2048x256) ![0, 0] S1024x256.size inb_S2048x256_S1024x256_0_0)
  let hi := View.ld a (Rect.unit (s := S2048x256) ![1024, 0] S1024x256.size inb_S2048x256_S1024x256_1024_0)
  k0_pay1 (k0_pay30 x0 lo hi) x1 (k0_pay31 x0 lo hi)

/-! ## The loop -/

theorem ld_vrows (x4 : Vec F S1x16384x128 .bf16) (o : ℕ) (ho : o < 16) (off : Fin 3 → ℕ) (h : off = ![0, 1024 * o, 0]) (inb) :
    View.ld x4 (Rect.unit (s := S1x16384x128) off S1x1024x128.size inb) = vrows x4 o := by
  subst h
  funext y
  refine View.ld_unit_apply_of x4 _ _ _ y _ fun a => ?_
  have := (y 1).isLt
  have := (y 0).isLt
  fin_cases a
  · change 0 = 0 + (y 0).val
    have : (y 0).val < 1 := (y 0).isLt
    omega
  · change (1024 * o + (y 1).val) % 16384 = 1024 * o + (y 1).val
    have : (y 1).val < 1024 := (y 1).isLt
    omega
  · change (y 2).val = 0 + (y 2).val
    omega

theorem ld_kchunk (x3 : Vec F S1x64x128x256 .bf16) (o : ℕ) (ho : o < 64) (off : Fin 4 → ℕ) (h : off = ![0, o, 0, 0]) (inb) :
    View.ld x3 (Rect.unit (s := S1x64x128x256) off S1x1x128x256.size inb) = kchunk x3 o := by
  subst h
  funext y
  refine View.ld_unit_apply_of x3 _ _ _ y _ fun a => ?_
  fin_cases a
  · change 0 = 0 + (y 0).val
    have : (y 0).val < 1 := (y 0).isLt
    omega
  · change o % 64 = o + (y 1).val
    have : (y 1).val < 1 := (y 1).isLt
    omega
  · change (y 2).val = 0 + (y 2).val
    omega
  · change (y 3).val = 0 + (y 3).val
    omega

theorem pay_m (v8 : FVec F S2048x128 .bf16) (a b c d : Vec F S1x1x128x256 .bf16) (m : Vec F S2048x128 .f32) :
    k0_pay21 v8 (k0_pay3 v8 a) (k0_pay4 v8 b) (k0_pay5 v8 c) (k0_pay6 d) m = mstep (k0_pay13 v8 a b c d) m :=
  shapeCast_self _ _

theorem pay_a (v8 : FVec F S2048x128 .bf16) (a b c d : Vec F S1x1x128x256 .bf16) (w : Vec F S1x1024x128 .bf16) (m : Vec F S2048x128 .f32) (acc : Vec F S2048x256 .f32) :
    k0_pay20 v8 (k0_pay2 w) (k0_pay3 v8 a) (k0_pay4 v8 b) (k0_pay5 v8 c) (k0_pay6 d) m acc
      = astep (k0_pay13 v8 a b c d) (k0_pay12 w) m (mstep (k0_pay13 v8 a b c d) m) acc :=
  shapeCast_self _ _

theorem pay_last (w : FVec F S1024x256 .bf16) (s : FVec F S2048x1024 .f32) (m : Vec F S2048x128 .f32) (acc : Vec F S2048x256 .f32) :
    k0_pay28 w s 1024#32 k0_pay14 m acc
      = astep (k0_pay26 s 1024#32 k0_pay14) w m (mstep (k0_pay26 s 1024#32 k0_pay14) m) acc :=
  shapeCast_self _ _

/-- One trip overwrites the maximum and the accumulator by their step. -/
theorem trip_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x64x128x256 .bf16) (harg6 : arg6.IsWhole) (arg7 : Memref sig .tc .vmem S1x16384x128 .bf16) (harg7 : arg7.IsWhole) (arg8 : Memref sig .tc .vmem S1x1024x128 .bf16) (harg8 : arg8.IsWhole)
    (arg9 : Memref sig .tc .vmem S2048x128 .f32) (harg9 : arg9.IsWhole) (arg10 : Memref sig .tc .vmem S2048x256 .f32) (harg10 : arg10.IsWhole)
    (v8 : FVec F S2048x128 .bf16) (v17 v34 : BitVec 32) (x3 : Vec F S1x64x128x256 .bf16) (x4 : Vec F S1x16384x128 .bf16) (k : Fin (k0_t1_loop i).trips) (f9 f10) (m : Vec F S2048x128 .f32) (a : Vec F S2048x256 .f32)
    (h9 : arg9.view.read (Elt F) f9 = m) (h10 : arg10.view.read (Elt F) f10 = a) :
    tripL_k0_t1 (F := F) Variants.none c none i arg3 harg3 arg4 harg4 arg5 harg5 arg6 harg6 arg7 harg7 arg8 harg8 arg9 harg9 arg10 harg10 v8 v17 v34 (harg6.unread x3) (harg7.unread x4) k f9 f10
      = ([⟨Rect.unit ![0, 0] ![2048, 128] inb_S2048x128_S2048x128_0_0, mstep (scores v8 x3 k) m⟩],
         [⟨Rect.unit ![0, 0] ![2048, 256] inb_S2048x256_S2048x256_0_0, astep (scores v8 x3 k) (k0_pay12 (vrows x4 k)) m (mstep (scores v8 x3 k) m) a⟩]) := by
  have hk : k.val < 16 := lt_of_lt_of_le (lt_of_lt_of_eq k.isLt (trips1 i)) (qlt i).le
  have r6 := harg6.read_unread (Val := Elt F) x3
  have r7 := harg7.read_unread (Val := Elt F) x4
  have e0 : View.readAt (Elt F) arg6.view (Rect.unit (s := S1x64x128x256) (k0_off2 i k 0#32) S1x1x128x256.size (k0_off2_inb i k 0)).toLoadRect (harg6.unread x3) = kchunk x3 (4 * k) := by
    rw [View.readAt_eq_ld, r6]; exact ld_kchunk x3 (4 * k) (by omega) _ (off2 i k 0) _
  have e1 : View.readAt (Elt F) arg6.view (Rect.unit (s := S1x64x128x256) (k0_off2 i k 1#32) S1x1x128x256.size (k0_off2_inb i k 1)).toLoadRect (harg6.unread x3) = kchunk x3 (4 * k + 1) := by
    rw [View.readAt_eq_ld, r6]; exact ld_kchunk x3 (4 * k + 1) (by omega) _ (off2 i k 1) _
  have e2 : View.readAt (Elt F) arg6.view (Rect.unit (s := S1x64x128x256) (k0_off2 i k 2#32) S1x1x128x256.size (k0_off2_inb i k 2)).toLoadRect (harg6.unread x3) = kchunk x3 (4 * k + 2) := by
    rw [View.readAt_eq_ld, r6]; exact ld_kchunk x3 (4 * k + 2) (by omega) _ (off2 i k 2) _
  have e3 : View.readAt (Elt F) arg6.view (Rect.unit (s := S1x64x128x256) (k0_off2 i k 3#32) S1x1x128x256.size (k0_off2_inb i k 3)).toLoadRect (harg6.unread x3) = kchunk x3 (4 * k + 3) := by
    rw [View.readAt_eq_ld, r6]; exact ld_kchunk x3 (4 * k + 3) (by omega) _ (off2 i k 3) _
  have ev : View.readAt (Elt F) arg7.view (Rect.unit (s := S1x16384x128) (k0_off1 i k) S1x1024x128.size (k0_off1_inb i k)).toLoadRect (harg7.unread x4) = vrows x4 k := by
    rw [View.readAt_eq_ld, r7]; exact ld_vrows x4 k hk _ (off1 i k) _
  have em : View.readAt (Elt F) arg9.view (Rect.unit (s := S2048x128) ![0, 0] S2048x128.size inb_S2048x128_S2048x128_0_0).toLoadRect f9 = m := by
    rw [View.readAt_eq_ld, h9]; exact View.ld_unit_zero hz2 _ _
  have ea : View.readAt (Elt F) arg10.view (Rect.unit (s := S2048x256) ![0, 0] S2048x256.size inb_S2048x256_S2048x256_0_0).toLoadRect f10 = a := by
    rw [View.readAt_eq_ld, h10]; exact View.ld_unit_zero hz2 _ _
  unfold tripL_k0_t1 trip_k0_t1
  dsimp only
  sl_unfold_words
  unfold scores
  rw [← pay_a, ← pay_m, ← e0, ← e1, ← e2, ← e3, ← ev, ← em, ← ea]
  rfl

/-- After `n` trips the scratch buffers hold the state after `n` blocks. -/
theorem loop_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x64x128x256 .bf16) (harg6 : arg6.IsWhole) (arg7 : Memref sig .tc .vmem S1x16384x128 .bf16) (harg7 : arg7.IsWhole) (arg8 : Memref sig .tc .vmem S1x1024x128 .bf16) (harg8 : arg8.IsWhole)
    (arg9 : Memref sig .tc .vmem S2048x128 .f32) (harg9 : arg9.IsWhole) (arg10 : Memref sig .tc .vmem S2048x256 .f32) (harg10 : arg10.IsWhole)
    (v8 : FVec F S2048x128 .bf16) (v17 v34 : BitVec 32) (x3 : Vec F S1x64x128x256 .bf16) (x4 : Vec F S1x16384x128 .bf16) (n : ℕ) (hn : n ≤ (k0_t1_loop i).trips) :
    let p := pb_k0_t1 (F := F) Variants.none c none i arg3 harg3 arg4 harg4 arg5 harg5 arg6 harg6 arg7 harg7 arg8 harg8 arg9 harg9 arg10 harg10 v8 v17 v34 (harg6.unread x3) (harg7.unread x4)
      (arg9.view.writes (Elt F) arg9.view.junk kernelRun0_A.sl.HS0_1) (arg10.view.writes (Elt F) arg10.view.junk kernelRun0_A.sl.HS1_1) n
    View.canon (p.1 ++ kernelRun0_A.sl.HS0_1) = (st v8 x3 x4 n).1 ∧ View.canon (p.2 ++ kernelRun0_A.sl.HS1_1) = (st v8 x3 x4 n).2 := by
  induction n with
  | zero =>
    dsimp only
    rw [pb_k0_t1.eq_1]
    exact ⟨View.canon_unit_zero hz2 _ _, View.canon_unit_zero hz2 _ _⟩
  | succ n ih =>
    have ih := ih (by omega)
    dsimp only at ih ⊢
    rw [pb_k0_t1_succ Variants.none c none i arg3 harg3 arg4 harg4 arg5 harg5 arg6 harg6 arg7 harg7 arg8 harg8 arg9 harg9 arg10 harg10 v8 v17 v34 (harg6.unread x3) (harg7.unread x4)
      (arg9.view.writes (Elt F) arg9.view.junk kernelRun0_A.sl.HS0_1) (arg10.view.writes (Elt F) arg10.view.junk kernelRun0_A.sl.HS1_1) ⟨n, hn⟩]
    have h9 := (View.read_writes_junk_eq_canon arg9.view _).trans ih.1
    have h10 := (View.read_writes_junk_eq_canon arg10.view _).trans ih.2
    rw [View.writes_append] at h9 h10
    rw [trip_eq c i arg3 harg3 arg4 harg4 arg5 harg5 arg6 harg6 arg7 harg7 arg8 harg8 arg9 harg9 arg10 harg10 v8 v17 v34 x3 x4 ⟨n, hn⟩ _ _ _ _ h9 h10]
    exact ⟨View.canon_cons_unit_zero hz2 _ _ _, View.canon_cons_unit_zero hz2 _ _ _⟩

/-- What the grid point writes to its output block. -/
theorem out_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x64x128x256 .bf16) (harg6 : arg6.IsWhole) (arg7 : Memref sig .tc .vmem S1x16384x128 .bf16) (harg7 : arg7.IsWhole) (arg8 : Memref sig .tc .vmem S1x1024x128 .bf16) (harg8 : arg8.IsWhole)
    (arg9 : Memref sig .tc .vmem S2048x128 .f32) (harg9 : arg9.IsWhole) (arg10 : Memref sig .tc .vmem S2048x256 .f32) (harg10 : arg10.IsWhole) (hc0 : cond0_0 i)
    (x0 : Vec F S4x64 .f32) (x1 : Vec F S1x128 .f32) (x2 : Vec F S1x1024x128 .bf16) (x3 : Vec F S1x64x128x256 .bf16) (x4 : Vec F S1x16384x128 .bf16) :
    out0_A_5 c i arg3 harg3 arg4 harg4 arg5 harg5 arg6 harg6 arg7 harg7 arg8 harg8 arg9 harg9 arg10 harg10 hc0 x0 x1 x2 x3 x4 = out (i 2).val x0 x1 x2 x3 x4 := by
  have r3 := harg3.read_unread (Val := Elt F) x0
  have r4 := harg4.read_unread (Val := Elt F) x1
  have r5 := harg5.read_unread (Val := Elt F) x2
  have r6 := harg6.read_unread (Val := Elt F) x3
  have r7 := harg7.read_unread (Val := Elt F) x4
  have hq := qlt i
  have er : kernelRun0_A.sl.r c arg5 harg5 x2 = k0_pay15 x2 := by
    unfold kernelRun0_A.sl.r
    rw [View.readAt_eq_ld, r5]
    exact congrArg k0_pay15 (View.ld_unit_zero hz3 _ _)
  have hl := loop_eq c i arg3 harg3 arg4 harg4 arg5 harg5 arg6 harg6 arg7 harg7 arg8 harg8 arg9 harg9 arg10 harg10 (k0_pay15 x2) (kernelRun0_A.sl.v17 i) (kernelRun0_A.sl.v34 i) x3 x4 _ le_rfl
  have et : Scf.trips (k0_t1_loop i).lb (k0_t1_loop i).ub (k0_t1_loop i).st = (i 2).val := trips1 i
  have et2 : Scf.trips (k0_t2_loop i).lb (k0_t2_loop i).ub (k0_t2_loop i).st = 0 := trips2 i
  rw [trips1 i] at hl
  dsimp only at hl
  have e142 : kernelRun0_A.sl.v142 c i arg3 harg3 arg4 harg4 arg5 harg5 arg6 harg6 arg7 harg7 arg8 harg8 arg9 harg9 arg10 harg10 x2 x3 x4 = (st (k0_pay15 x2) x3 x4 (i 2).val).1 := by
    unfold kernelRun0_A.sl.v142
    rw [er, et, et2, pb_k0_t2.eq_1, List.nil_append, View.readCov_eq_canon', hl.1]
    exact View.ld_unit_zero (Val := Elt F) (e := .f32) (S := S2048x128) hz2 inb_S2048x128_S2048x128_0_0 _
  have e153 : kernelRun0_A.sl.v153 c i arg3 harg3 arg4 harg4 arg5 harg5 arg6 harg6 arg7 harg7 arg8 harg8 arg9 harg9 arg10 harg10 x2 x3 x4 = (st (k0_pay15 x2) x3 x4 (i 2).val).2 := by
    unfold kernelRun0_A.sl.v153
    rw [er, et, et2, pb_k0_t2.eq_1, List.nil_append, View.readCov_eq_canon', hl.2]
    exact View.ld_unit_zero (Val := Elt F) (e := .f32) (S := S2048x256) hz2 inb_S2048x256_S2048x256_0_0 _
  have e0 : View.readAt (Elt F) arg6.view (Rect.unit (s := S1x64x128x256) (k0_off6 i 0#32) S1x1x128x256.size (k0_off6_inb i hc0 0)).toLoadRect (harg6.unread x3) = kchunk x3 (4 * (i 2).val) := by
    rw [View.readAt_eq_ld, r6]; exact ld_kchunk x3 (4 * (i 2).val) (by omega) _ (off6 i 0) _
  have e1 : View.readAt (Elt F) arg6.view (Rect.unit (s := S1x64x128x256) (k0_off6 i 1#32) S1x1x128x256.size (k0_off6_inb i hc0 1)).toLoadRect (harg6.unread x3) = kchunk x3 (4 * (i 2).val + 1) := by
    rw [View.readAt_eq_ld, r6]; exact ld_kchunk x3 (4 * (i 2).val + 1) (by omega) _ (off6 i 1) _
  have e2 : View.readAt (Elt F) arg6.view (Rect.unit (s := S1x64x128x256) (k0_off6 i 2#32) S1x1x128x256.size (k0_off6_inb i hc0 2)).toLoadRect (harg6.unread x3) = kchunk x3 (4 * (i 2).val + 2) := by
    rw [View.readAt_eq_ld, r6]; exact ld_kchunk x3 (4 * (i 2).val + 2) (by omega) _ (off6 i 2) _
  have e3 : View.readAt (Elt F) arg6.view (Rect.unit (s := S1x64x128x256) (k0_off6 i 3#32) S1x1x128x256.size (k0_off6_inb i hc0 3)).toLoadRect (harg6.unread x3) = kchunk x3 (4 * (i 2).val + 3) := by
    rw [View.readAt_eq_ld, r6]; exact ld_kchunk x3 (4 * (i 2).val + 3) (by omega) _ (off6 i 3) _
  have ev : View.readAt (Elt F) arg7.view (Rect.unit (s := S1x16384x128) (k0_off5 i) S1x1024x128.size (k0_off5_inb i hc0)).toLoadRect (harg7.unread x4) = vrows x4 (i 2).val := by
    rw [View.readAt_eq_ld, r7]; exact ld_vrows x4 (i 2).val hq _ (off5 i) _
  have e101 : kernelRun0_A.sl.v101 i arg7 harg7 hc0 x4 = k0_pay12 (vrows x4 (i 2).val) := by
    rw [← ev]; rfl
  have e118 : kernelRun0_A.sl.v118 c i arg5 harg5 arg6 harg6 hc0 x2 x3 = scores (k0_pay15 x2) x3 (i 2).val := by
    unfold scores
    rw [← e0, ← e1, ← e2, ← e3, ← er]; rfl
  have e61 : kernelRun0_A.sl.v61 c i arg3 harg3 arg4 harg4 arg5 harg5 arg6 harg6 arg7 harg7 arg8 harg8 arg9 harg9 arg10 harg10 hc0 x2 x3 x4 = View.ld (last (k0_pay15 x2) x3 x4 (i 2).val) (Rect.unit (s := S2048x256) ![0, 0] S1024x256.size inb_S2048x256_S1024x256_0_0) := by
    unfold kernelRun0_A.sl.v61
    rw [View.readCov_eq_canon']
    unfold kernelRun0_A.sl.HS1_1_1
    rw [View.canon_cons_unit_zero hz2, e101, e118, e142, e153]
    exact congrArg (fun z : FVec F S2048x256 .f32 => View.ld (Val := Elt F) (e' := .f32) z (Rect.unit (s := S2048x256) ![0, 0] S1024x256.size inb_S2048x256_S1024x256_0_0)) (pay_last _ _ _ _)
  have e62 : kernelRun0_A.sl.v62 c i arg3 harg3 arg4 harg4 arg5 harg5 arg6 harg6 arg7 harg7 arg8 harg8 arg9 harg9 arg10 harg10 hc0 x2 x3 x4 = View.ld (last (k0_pay15 x2) x3 x4 (i 2).val) (Rect.unit (s := S2048x256) ![1024, 0] S1024x256.size inb_S2048x256_S1024x256_1024_0) := by
    unfold kernelRun0_A.sl.v62
    rw [View.readCov_eq_canon']
    unfold kernelRun0_A.sl.HS1_1_1
    rw [View.canon_cons_unit_zero hz2, e101, e118, e142, e153]
    exact congrArg (fun z : FVec F S2048x256 .f32 => View.ld (Val := Elt F) (e' := .f32) z (Rect.unit (s := S2048x256) ![1024, 0] S1024x256.size inb_S2048x256_S1024x256_1024_0)) (pay_last _ _ _ _)
  unfold out0_A_5
  rw [View.read_writes_eq_canon _ _ _ (cover0_A_5 c i arg3 harg3 arg4 harg4 arg5 harg5 arg6 harg6 arg7 harg7 arg8 harg8 arg9 harg9 arg10 harg10 hc0 x0 x1 x2 x3 x4)]
  unfold kernelRun0_A
  dsimp only
  unfold kernelRun0_A.sl.r_1 kernelRun0_A.sl.r_2 kernelRun0_A.sl.r_3 out
  rw [View.canon_unit_zero hz3, e61, e62, View.readAt_eq_ld, View.readAt_eq_ld, r3, r4]
  dsimp only
  rw [View.ld_unit_zero hz2, View.ld_unit_zero hz2]

end Cert.DiffIdeal.Block
-- ==== Proof.Online.lean ====
/-
  The arithmetic of an attention row over the extended reals: a row of scores, each a real or minus infinity (a masked
  key), weighs the values by the exponentials of the scores. The row may be read all at once, or block by block with a
  running maximum that rescales what was summed before: both are the same quotient.
-/
module

public import Idealize.ShloMosaic.PureOps.Ideal

@[expose] public section

noncomputable section

namespace Cert.Proof.Online

open Idealize.ShloMosaic Finset

/-- The exponential of a score, zero at a masked key. -/
def wt (x : EReal) : ℝ := if x = ⊥ then 0 else Real.exp x.toReal

theorem wt_bot : wt ⊥ = 0 := if_pos rfl

theorem wt_coe (r : ℝ) : wt (r : EReal) = Real.exp r := by
  unfold wt; rw [if_neg (EReal.coe_ne_bot r), EReal.toReal_coe]

theorem wt_nonneg (x : EReal) : 0 ≤ wt x := by
  unfold wt; split
  · exact le_rfl
  · exact (Real.exp_pos _).le

theorem wt_pos (x : EReal) (h : x ≠ ⊥) : 0 < wt x := by
  unfold wt; rw [if_neg h]; exact Real.exp_pos _

/-- A score less a real `M`, exponentiated: the score's exponential scaled by `exp (-M)`. -/
theorem exp_sub (x : EReal) (hx : x ≠ ⊤) (M : ℝ) : Ideal.exp (x - (M : EReal)) = ((Real.exp (-M) * wt x : ℝ) : EReal) := by
  induction x using EReal.rec with
  | bot => rw [EReal.bot_sub, Ideal.exp_bot, wt_bot, mul_zero, EReal.coe_zero]
  | top => exact absurd rfl hx
  | coe r => rw [← EReal.coe_sub, Ideal.exp_coe, wt_coe, ← Real.exp_add]; congr 2; ring

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The values weighed by the first `n` keys' exponentials. -/
def num (n : ℕ) (S : ℕ → EReal) (V : ℕ → ℝ) : ℝ := ∑ k ∈ range n, wt (S k) * V k

/-- The greatest of finitely many scores, none of them plus infinity and one of them not masked, is a real. -/
theorem fold_max_real {n : ℕ} (b : Fin n → EReal) (ht : ∀ j, b j ≠ ⊤) (hb : ∃ j, b j ≠ ⊥) :
    ∃ M : ℝ, Finset.univ.fold max ⊥ b = (M : EReal) := by
  have h1 : Finset.univ.fold max ⊥ b ≠ ⊤ := by
    have : Finset.univ.fold max ⊥ b < ⊤ :=
      (Finset.fold_max_lt (b := (⊥ : EReal)) (f := b) (s := Finset.univ) ⊤).mpr
        ⟨bot_lt_top, fun x _ => lt_top_iff_ne_top.mpr (ht x)⟩
    exact this.ne
  have h2 : Finset.univ.fold max ⊥ b ≠ ⊥ := by
    obtain ⟨j, hj⟩ := hb
    have : b j ≤ Finset.univ.fold max ⊥ b := (Finset.le_fold_max (b := (⊥ : EReal)) (f := b) (s := Finset.univ) _).mpr (Or.inr ⟨j, mem_univ _, le_rfl⟩)
    intro h; rw [h] at this; exact hj (le_bot_iff.mp this)
  exact ⟨_, (EReal.coe_toReal h1 h2).symm⟩

/-- `m` and `a` are a running maximum and a running weighted sum after `n` keys: before the first key minus infinity
    and zero, afterwards a real `M` and the weighted sum scaled by `exp (-M)`. -/
def Holds (n : ℕ) (S : ℕ → EReal) (V : ℕ → ℝ) (m a : EReal) : Prop :=
  (n = 0 ∧ m = ⊥ ∧ a = 0) ∨ ∃ M : ℝ, m = M ∧ a = ((Real.exp (-M) * num n S V : ℝ) : EReal)

theorem holds_zero (S : ℕ → EReal) (V : ℕ → ℝ) : Holds 0 S V ⊥ 0 := Or.inl ⟨rfl, rfl, rfl⟩

/-- The next block of `J` keys: the maximum taken over the block too, the old sum rescaled, the block's terms added. -/
theorem Holds.step {n J : ℕ} {S : ℕ → EReal} {V : ℕ → ℝ} {m a : EReal} (h : Holds n S V m a)
    (b : Fin J → EReal) (v : Fin J → EReal) (hS : ∀ j : Fin J, b j = S (n + j.val)) (hV : ∀ j : Fin J, v j = ((V (n + j.val) : ℝ) : EReal))
    (ht : ∀ j, b j ≠ ⊤) (hb : ∃ j, b j ≠ ⊥) :
    Holds (n + J) S V (max m (Finset.univ.fold max ⊥ b))
      (Ideal.exp (m - max m (Finset.univ.fold max ⊥ b)) * a
        + ∑ j, Ideal.exp (b j - max m (Finset.univ.fold max ⊥ b)) * v j) := by
  obtain ⟨B, hB⟩ := fold_max_real b ht hb
  have key : ∀ M' : ℝ, ∑ j, Ideal.exp (b j - (M' : EReal)) * v j
      = ((Real.exp (-M') * ∑ j : Fin J, wt (S (n + j.val)) * V (n + j.val) : ℝ) : EReal) := fun M' => by
    rw [mul_sum, coe_sum]
    refine sum_congr rfl fun j _ => ?_
    rw [exp_sub _ (ht j), hS j, hV j, ← EReal.coe_mul, mul_assoc]
  have hnum : num (n + J) S V = num n S V + ∑ j : Fin J, wt (S (n + j.val)) * V (n + j.val) := by
    unfold num
    rw [sum_range_add, Fin.sum_univ_eq_sum_range (fun j => wt (S (n + j)) * V (n + j)) J]
  rw [hB]
  right
  rcases h with ⟨rfl, rfl, rfl⟩ | ⟨M, rfl, rfl⟩
  · refine ⟨B, max_eq_right bot_le, ?_⟩
    rw [max_eq_right (bot_le : (⊥ : EReal) ≤ B), mul_zero, zero_add, key, hnum]
    simp [num]
  · have hc : max (M : EReal) (B : EReal) = ((max M B : ℝ) : EReal) := (EReal.coe_strictMono.monotone.map_max).symm
    refine ⟨max M B, hc, ?_⟩
    rw [hc, key, hnum, ← EReal.coe_sub, Ideal.exp_coe, ← EReal.coe_mul, ← EReal.coe_add, mul_add,
      ← mul_assoc, ← Real.exp_add]
    congr 4; ring

/-- The weighted mean of the values. -/
def avg (n : ℕ) (S : ℕ → EReal) (V : ℕ → ℝ) : ℝ := num n S V / num n S fun _ => 1

theorem num_one_pos {n : ℕ} {S : ℕ → EReal} (h : ∃ k < n, S k ≠ ⊥) : 0 < num n S fun _ => 1 := by
  obtain ⟨k, hk, hs⟩ := h
  unfold num
  refine sum_pos' (fun i _ => by rw [mul_one]; exact wt_nonneg _) ⟨k, mem_range.mpr hk, ?_⟩
  rw [mul_one]; exact wt_pos _ hs

theorem div_real (x y : ℝ) (hy : y ≠ 0) : Ideal.div (x : EReal) (y : EReal) = ((x / y : ℝ) : EReal) := by
  rw [Ideal.div_coe hy, ← EReal.coe_mul]; congr 1; ring

/-- The running sum over the running sum of the weights is the weighted mean. -/
theorem Holds.div {n : ℕ} {S : ℕ → EReal} {V : ℕ → ℝ} {m a l : EReal} (h : Holds n S V m a)
    (h' : Holds n S (fun _ => 1) m l) (hb : ∃ k < n, S k ≠ ⊥) : Ideal.div a l = ((avg n S V : ℝ) : EReal) := by
  have hp := num_one_pos hb
  have hn : n ≠ 0 := by obtain ⟨k, hk, _⟩ := hb; omega
  rcases h with ⟨h0, _⟩ | ⟨M, rfl, rfl⟩
  · exact absurd h0 hn
  rcases h' with ⟨h0, _⟩ | ⟨M', hM, rfl⟩
  · exact absurd h0 hn
  obtain rfl : M = M' := EReal.coe_injective hM
  rw [div_real _ _ (mul_pos (Real.exp_pos _) hp).ne']
  congr 1; unfold avg
  rw [mul_div_mul_left _ _ (Real.exp_pos _).ne']

/-- Keys from `n` on that are all masked leave the weighted sum and the mean as they are. -/
theorem num_mono {n N : ℕ} {S : ℕ → EReal} {V : ℕ → ℝ} (hn : n ≤ N) (h : ∀ k, n ≤ k → S k = ⊥) : num N S V = num n S V := by
  obtain ⟨d, rfl⟩ := Nat.exists_eq_add_of_le hn
  unfold num
  rw [sum_range_add]
  refine (add_eq_left).mpr (sum_eq_zero fun k _ => ?_)
  rw [h _ (Nat.le_add_right n k), wt_bot, zero_mul]

theorem avg_mono {n N : ℕ} {S : ℕ → EReal} {V : ℕ → ℝ} (hn : n ≤ N) (h : ∀ k, n ≤ k → S k = ⊥) : avg N S V = avg n S V := by
  unfold avg; rw [num_mono hn h, num_mono hn h]

/-- A row read all at once: each key's exponential over the sum of all, the greatest score taken off first. -/
theorem softmax_eq {n : ℕ} (S : ℕ → EReal) (b : Fin n → EReal) (hS : ∀ j : Fin n, b j = S j.val) (ht : ∀ j, b j ≠ ⊤) (hb : ∃ j, b j ≠ ⊥)
    (j : Fin n) :
    Ideal.div (Ideal.exp (b j - Finset.univ.fold max ⊥ b)) (∑ k, Ideal.exp (b k - Finset.univ.fold max ⊥ b))
      = ((wt (S j.val) / num n S (fun _ => 1) : ℝ) : EReal) := by
  obtain ⟨B, hB⟩ := fold_max_real b ht hb
  have hp : 0 < num n S fun _ => 1 := num_one_pos (by obtain ⟨j, hj⟩ := hb; exact ⟨j.val, j.isLt, by rw [← hS]; exact hj⟩)
  have hs : ∑ k, Ideal.exp (b k - (B : EReal)) = ((Real.exp (-B) * num n S (fun _ => 1) : ℝ) : EReal) := by
    unfold num
    rw [← Fin.sum_univ_eq_sum_range (fun j => wt (S j) * 1) n, mul_sum, coe_sum]
    refine sum_congr rfl fun k _ => ?_
    rw [exp_sub _ (ht k), hS k, mul_one]
  rw [hB, hs, exp_sub _ (ht j), hS j, div_real _ _ (mul_pos (Real.exp_pos _) hp).ne', mul_div_mul_left _ _ (Real.exp_pos _).ne']

end Cert.Proof.Online

end
-- ==== Proof.Stream.lean ====
/- The differential attention kernel's arithmetic over the extended reals: each payload read at an index, and the
   running sums each stacked row holds after any number of key blocks. -/
module

public import proofs.«01_k».proof.Proof.Block
public import proofs.«01_k».proof.Proof.Online
public import Idealize.ShloMosaic.Lib.Pointwise

@[expose] public section

set_option maxRecDepth 16384
noncomputable section

namespace Cert.DiffIdeal.Stream
open Cert.DiffIdeal Cert.DiffIdeal.Gen Cert.DiffIdeal.Block Cert.Proof.Online Idealize.ShloMosaic

/-- A row maximum from minus infinity. -/
theorem rowmax {n0 n1 : ℕ} (s : FVec Ideal (⟨2, ![n0, n1]⟩ : Shape) .f32) (h : (⟨2, ![n0, n1]⟩ : Shape).Reduces [1] (⟨1, ![n0]⟩ : Shape))
    (hφ : FKind.Formats .f32) (hacc) (j : Fin n0) :
    multiReduction .maximumf [1] (⟨1, ![n0]⟩ : Shape) s 0xFF800000#32 h hφ hacc (ix1 j)
      = Finset.univ.fold max (⊥ : EReal) (fun k : Fin n1 => s (ix2 j k)) := by
  have e : (FloatOps.ofBits .f32 0xFF800000#32 : Ideal .f32) = (⊥ : EReal) := by
    change Ideal.ofBits .f32 0xFF800000#32 = ⊥
    simp [Ideal.ofBits, Ideal.ieee]
  rw [multiReduction_maximumf_eq_fold, e]
  exact h.fold_fiber_r2_a1 (ix1 j) max ⊥ s

theorem mstep_apply (s : FVec Ideal S2048x1024 .f32) (m : Vec Ideal S2048x128 .f32) (rr : Fin 2048) (l : Fin 128) :
    mstep s m (ix2 rr l) = max (m (ix2 rr l)) (Finset.univ.fold max (⊥ : EReal) fun k : Fin 1024 => s (ix2 rr k)) := by
  unfold mstep
  have h := rowmax s reduces_S2048x1024_S2048 (.inl rfl) rfl rr
  generalize multiReduction .maximumf [1] S2048 s 0xFF800000#32 reduces_S2048x1024_S2048 (.inl rfl) rfl = R at h ⊢
  rw [← h]
  pointwise []

theorem astep_apply (s : FVec Ideal S2048x1024 .f32) (w : Vec Ideal S1x1024x128 .bf16) (m m' : Vec Ideal S2048x128 .f32) (a : Vec Ideal S2048x256 .f32) (rr : Fin 2048) (c : Fin 256)
    (μ μ' : EReal) (hm : ∀ l, m (ix2 rr l) = μ) (hm' : ∀ l, m' (ix2 rr l) = μ') :
    astep s (k0_pay12 w) m m' a (ix2 rr c)
      = Ideal.exp (μ - μ') * a (ix2 rr c) + ∑ k : Fin 1024, Ideal.exp (s (ix2 rr k) - μ') * (if h : c.val < 128 then w (ix3 0 k ⟨c.val, h⟩) else (1 : EReal)) := by
  pointwise [astep, k0_pay12]
  simp only [hm, hm', dite_eq_ite, ite_self]

theorem init_m (rr : Fin 2048) (l : Fin 128) : k0_pay16 (F := Ideal) (ix2 rr l) = (⊥ : EReal) := by
  pointwise [k0_pay16]
  rfl

theorem init_a (rr : Fin 2048) (c : Fin 256) : k0_pay17 (F := Ideal) (ix2 rr c) = (0 : EReal) := by
  pointwise [k0_pay17]

/-- The stacked queries: the first head map's lanes kept in the upper half, the second's in the lower. -/
theorem stacked (x2 : Vec Ideal S1x1024x128 .bf16) (rr : Fin 2048) (d : Fin 128) :
    k0_pay15 x2 (ix2 rr d) = if d.val / 64 = rr.val / 1024 then x2 (ix3 0 ⟨rr.val % 1024, Nat.mod_lt _ (by norm_num)⟩ d) else (0 : EReal) := by
  pointwise [k0_pay15]
  have hc : IntOp.cmpi CmpIPredicate.slt (BitVec.ofNat 32 d.val) 64#32 = if d.val < 64 then 1#1 else 0#1 :=
    (by decide +kernel : ∀ d : Fin 128, IntOp.cmpi CmpIPredicate.slt (BitVec.ofNat 32 d.val) 64#32 = if d.val < 64 then 1#1 else 0#1) d
  rw [hc]
  have hrr := rr.isLt
  have hdd := d.isLt
  have hx : ∀ a : Fin 1024, a.val = rr.val % 1024 → x2 (ix3 0 a d) = x2 (ix3 0 ⟨rr.val % 1024, Nat.mod_lt _ (by norm_num)⟩ d) :=
    fun a ha => congrArg (fun z => x2 (ix3 0 z d)) (Fin.ext ha)
  by_cases h : rr.val < 1024
  · refine (dif_pos h).trans ?_
    by_cases hd : d.val < 64
    · have hh : d.val / 64 = rr.val / 1024 := by omega
      rw [if_pos hd, if_pos hh]
      exact hx ⟨rr.val, h⟩ (Nat.mod_eq_of_lt h).symm
    · have hh : ¬ d.val / 64 = rr.val / 1024 := by omega
      rw [if_neg hd, if_neg hh]; rfl
  · refine (dif_neg h).trans ?_
    by_cases hd : d.val < 64
    · have hh : ¬ d.val / 64 = rr.val / 1024 := by omega
      rw [if_pos hd, if_neg hh]; rfl
    · have hh : d.val / 64 = rr.val / 1024 := by omega
      have hm : rr.val - 1024 = rr.val % 1024 := by omega
      rw [if_neg hd, if_pos hh]
      exact hx ⟨rr.val - 1024, by omega⟩ hm

/-- The score of a stacked row with a key. -/
theorem scores_apply (v8 : FVec Ideal S2048x128 .bf16) (x3 : Vec Ideal S1x64x128x256 .bf16) (t : ℕ) (ht : t < 16) (rr : Fin 2048) (j : Fin 1024) :
    scores v8 x3 t (ix2 rr j) = ∑ d : Fin 128, v8 (ix2 rr d) * (x3 (ix4 0 ⟨(1024 * t + j.val) / 256, by omega⟩ d ⟨(1024 * t + j.val) % 256, Nat.mod_lt _ (by norm_num)⟩) : EReal) := by
  pointwise [scores, k0_pay13, kchunk]
  have := j.isLt
  have key : ∀ (a : Fin 64) (b : Fin 256) (e1 : a.val = (1024 * t + j.val) / 256) (e2 : b.val = (1024 * t + j.val) % 256),
      (∑ d : Fin 128, v8 (ix2 rr d) * (x3 (ix4 0 a d b) : EReal)) = ∑ d : Fin 128, v8 (ix2 rr d) * (x3 (ix4 0 ⟨(1024 * t + j.val) / 256, by omega⟩ d ⟨(1024 * t + j.val) % 256, Nat.mod_lt _ (by norm_num)⟩) : EReal) := by
    intro a b e1 e2
    exact Finset.sum_congr rfl fun d _ => congrArg₂ (fun z w => v8 (ix2 rr d) * (x3 (ix4 0 z d w) : EReal)) (Fin.ext e1) (Fin.ext e2)
  split
  · exact key _ _ (by simp only; omega) (by simp only; omega)
  split
  · exact key _ _ (by simp only; omega) (by simp only; omega)
  split
  · exact key _ _ (by simp only; omega) (by simp only; omega)
  · exact key _ _ (by simp only; omega) (by simp only; omega)

/-- The masked score: minus infinity past the diagonal. -/
theorem masked_apply (s : FVec Ideal S2048x1024 .f32) (rr : Fin 2048) (j : Fin 1024) :
    k0_pay26 s 1024#32 k0_pay14 (ix2 rr j) = if j.val ≤ rr.val % 1024 then s (ix2 rr j) else (⊥ : EReal) := by
  pointwise [k0_pay26, k0_pay14]
  have e : Scalar.select (Scalar.cmpi CmpIPredicate.eq 1024#32 0#32) 1#32 1024#32 = 1024#32 := by decide
  rw [e]
  have hr : ∀ r : Fin 2048, Scalar.select
          (IntOp.andi
            (IntOp.xori
              (IntOp.cmpi CmpIPredicate.slt
                (IntOp.remsi ArithUnit.vector (BitVec.ofNat 32 r.val) 1024#32)
                0#32)
              (Scalar.cmpi CmpIPredicate.slt 1024#32 0#32))
            (IntOp.cmpi CmpIPredicate.ne
              (IntOp.remsi ArithUnit.vector (BitVec.ofNat 32 r.val) 1024#32)
              0#32))
          (IntOp.addi
            (IntOp.remsi ArithUnit.vector (BitVec.ofNat 32 r.val) 1024#32)
            1024#32)
          (IntOp.remsi ArithUnit.vector (BitVec.ofNat 32 r.val) 1024#32) = BitVec.ofNat 32 (r.val % 1024) := by decide +kernel
  rw [hr]
  have h0 : IntOp.subi (BitVec.ofNat 32 j.val) 0#32 = BitVec.ofNat 32 j.val := BitVec.sub_zero _
  rw [h0]
  have hc : IntOp.cmpi CmpIPredicate.sle (BitVec.ofNat 32 j.val) (BitVec.ofNat 32 (rr.val % 1024)) = if j.val ≤ rr.val % 1024 then 1#1 else 0#1 := by
    have := j.isLt
    have hm : rr.val % 1024 < 1024 := Nat.mod_lt _ (by norm_num)
    generalize rr.val % 1024 = r at hm ⊢
    rw [WordCmp.cmpi_sle_ofNat (by omega) (by omega)]
    by_cases h : j.val ≤ r <;> simp [h]
  rw [hc]
  split <;> rfl

/-! ## The running sums -/

/-- The score of row `r` of query block `q` with key `k`, under head map `h`; minus infinity past the diagonal. -/
def sc (q : ℕ) (Q K : ℕ → ℕ → ℝ) (h r k : ℕ) : EReal :=
  if k ≤ 1024 * q + r then ((∑ d : Fin 64, Q r (64 * h + d.val) * K k (64 * h + d.val) : ℝ) : EReal) else ⊥

/-- What accumulator column `c` weighs: value lane `c`, or one. -/
def col (V : ℕ → ℕ → ℝ) (c k : ℕ) : ℝ := if c < 128 then V k c else 1

section
variable (q : ℕ) (hq : q < 16) (Q K V : ℕ → ℕ → ℝ)
  (x2 : Vec Ideal S1x1024x128 .bf16) (x3 : Vec Ideal S1x64x128x256 .bf16) (x4 : Vec Ideal S1x16384x128 .bf16)
  (hQ : ∀ (r : Fin 1024) (d : Fin 128), x2 (ix3 0 r d) = ((Q r.val d.val : ℝ) : EReal))
  (hK : ∀ (o : Fin 64) (d : Fin 128) (j : Fin 256), x3 (ix4 0 o d j) = ((K (256 * o.val + j.val) d.val : ℝ) : EReal))
  (hV : ∀ (k : Fin 16384) (d : Fin 128), x4 (ix3 0 k d) = ((V k.val d.val : ℝ) : EReal))

include hQ hK in
theorem score_real (t : ℕ) (ht : t < 16) (rr : Fin 2048) (j : Fin 1024) :
    scores (k0_pay15 x2) x3 t (ix2 rr j)
      = ((∑ d : Fin 64, Q (rr.val % 1024) (64 * (rr.val / 1024) + d.val) * K (1024 * t + j.val) (64 * (rr.val / 1024) + d.val) : ℝ) : EReal) := by
  have hj := j.isLt
  have hr := rr.isLt
  have hn : 256 * ((1024 * t + j.val) / 256) + (1024 * t + j.val) % 256 = 1024 * t + j.val := Nat.div_add_mod _ _
  have hterm : ∀ d : Fin 128, (k0_pay15 x2 (ix2 rr d) * x3 (ix4 0 ⟨(1024 * t + j.val) / 256, by omega⟩ d ⟨(1024 * t + j.val) % 256, Nat.mod_lt _ (by norm_num)⟩) : EReal)
      = ((if d.val / 64 = rr.val / 1024 then Q (rr.val % 1024) d.val * K (1024 * t + j.val) d.val else 0 : ℝ) : EReal) := by
    intro d
    rw [stacked, hK]
    simp only [hn]
    split
    · rw [hQ, EReal.coe_mul]
    · rw [zero_mul, EReal.coe_zero]
  rw [scores_apply _ _ t ht, Finset.sum_congr rfl fun d _ => hterm d, ← coe_sum]
  congr 1
  generalize rr.val % 1024 = r
  have hh : rr.val / 1024 = 0 ∨ rr.val / 1024 = 1 := by omega
  generalize rr.val / 1024 = h at hh
  generalize 1024 * t + j.val = k
  rw [Fin.sum_univ_eq_sum_range (fun d => if d / 64 = h then Q r d * K k d else 0) 128,
    Fin.sum_univ_eq_sum_range (fun d => Q r (64 * h + d) * K k (64 * h + d)) 64,
    show (128 : ℕ) = 64 + 64 from rfl, Finset.sum_range_add]
  rcases hh with rfl | rfl
  · rw [Finset.sum_congr rfl (fun d hd => if_pos (show d / 64 = 0 by have := Finset.mem_range.mp hd; omega)),
      Finset.sum_eq_zero (f := fun d => if (64 + d) / 64 = 0 then Q r (64 + d) * K k (64 + d) else 0) (fun d hd => if_neg (by omega)), add_zero]
    simp only [mul_zero, zero_add]
  · rw [Finset.sum_eq_zero (f := fun d => if d / 64 = 1 then Q r d * K k d else 0) (fun d hd => if_neg (by have := Finset.mem_range.mp hd; omega)), zero_add,
      Finset.sum_congr rfl (fun d hd => if_pos (show (64 + d) / 64 = 1 by have := Finset.mem_range.mp hd; omega))]

include hV in
/-- A block of scores taken in, row by row. -/
theorem holds_step (t : ℕ) (ht : t < 16) (rr : Fin 2048) (S : ℕ → EReal) (s : FVec Ideal S2048x1024 .f32) (m : FVec Ideal S2048x128 .f32) (a : FVec Ideal S2048x256 .f32)
    (hs : ∀ j : Fin 1024, s (ix2 rr j) = S (1024 * t + j.val)) (htop : ∀ k, S k ≠ ⊤) (hbot : S (1024 * t) ≠ ⊥)
    (h : ∃ μ : EReal, (∀ l, m (ix2 rr l) = μ) ∧ ∀ c : Fin 256, Holds (1024 * t) S (col V c.val) μ (a (ix2 rr c))) :
    ∃ μ : EReal, (∀ l, mstep s m (ix2 rr l) = μ) ∧ ∀ c : Fin 256, Holds (1024 * (t + 1)) S (col V c.val) μ
      (astep s (k0_pay12 (vrows x4 t)) m (mstep s m) a (ix2 rr c)) := by
  obtain ⟨μ, hm, ha⟩ := h
  have hm' : ∀ l, mstep s m (ix2 rr l) = max μ (Finset.univ.fold max (⊥ : EReal) fun k : Fin 1024 => s (ix2 rr k)) := fun l => by
    rw [mstep_apply, hm]
  refine ⟨_, hm', fun c => ?_⟩
  rw [astep_apply s (vrows x4 t) m (mstep s m) a rr c μ _ hm hm']
  refine Holds.step (J := 1024) (ha c) (fun k => s (ix2 rr k)) _ hs ?_ (fun j => by rw [hs]; exact htop _) ⟨0, by rw [hs]; exact hbot⟩
  intro j
  have hj := j.isLt
  have hmod : (1024 * t + j.val) % 16384 = 1024 * t + j.val := Nat.mod_eq_of_lt (by omega)
  unfold col
  by_cases hc : c.val < 128
  · rw [dif_pos hc, if_pos hc]
    refine (hV ⟨(1024 * t + j.val) % 16384, Nat.mod_lt _ (by norm_num)⟩ ⟨c.val, hc⟩).trans ?_
    simp only [hmod]
  · rw [dif_neg hc, if_neg hc, EReal.coe_one]

include hq hQ hK hV in
/-- After `t` blocks before the diagonal each row holds its running sums over the first `1024 * t` keys. -/
theorem holds_st (rr : Fin 2048) (t : ℕ) (ht : t ≤ q) :
    ∃ μ : EReal, (∀ l, (st (k0_pay15 x2) x3 x4 t).1 (ix2 rr l) = μ) ∧
      ∀ c : Fin 256, Holds (1024 * t) (sc q Q K (rr.val / 1024) (rr.val % 1024)) (col V c.val) μ ((st (k0_pay15 x2) x3 x4 t).2 (ix2 rr c)) := by
  induction t with
  | zero => exact ⟨⊥, fun l => init_m rr l, fun c => by rw [show (st (k0_pay15 x2) x3 x4 0).2 (ix2 rr c) = (0 : EReal) from init_a rr c]; exact holds_zero _ _⟩
  | succ t ih =>
    refine holds_step V x4 hV t (by omega) rr _ (scores (k0_pay15 x2) x3 t) _ _ ?_ ?_ ?_ (ih (by omega))
    · intro j
      have hj := j.isLt
      rw [score_real Q K x2 x3 hQ hK t (by omega)]
      exact (if_pos (by omega)).symm
    · intro k
      unfold sc; split
      · exact EReal.coe_ne_top _
      · exact bot_ne_top
    · unfold sc; rw [if_pos (by omega)]; exact EReal.coe_ne_bot _

include hq hQ hK hV in
/-- After the diagonal block each row holds its sums over every key up to it. -/
theorem holds_last (rr : Fin 2048) :
    ∃ μ : EReal, ∀ c : Fin 256, Holds (1024 * (q + 1)) (sc q Q K (rr.val / 1024) (rr.val % 1024)) (col V c.val) μ (last (k0_pay15 x2) x3 x4 q (ix2 rr c)) := by
  obtain ⟨μ, -, h⟩ := holds_step V x4 hV q hq rr (sc q Q K (rr.val / 1024) (rr.val % 1024)) (k0_pay26 (scores (k0_pay15 x2) x3 q) 1024#32 k0_pay14) (st (k0_pay15 x2) x3 x4 q).1 (st (k0_pay15 x2) x3 x4 q).2
    (fun j => by
      rw [masked_apply, score_real Q K x2 x3 hQ hK q hq]
      unfold sc
      by_cases h : j.val ≤ rr.val % 1024
      · rw [if_pos h, if_pos (by omega)]
      · rw [if_neg h, if_neg (by omega)])
    (fun k => by
      unfold sc; split
      · exact EReal.coe_ne_top _
      · exact bot_ne_top)
    (by unfold sc; rw [if_pos (by omega)]; exact EReal.coe_ne_bot _)
    (holds_st q hq Q K V x2 x3 x4 hQ hK hV rr q le_rfl)
  exact ⟨μ, h⟩

end

end Cert.DiffIdeal.Stream
-- ==== Proof.Spec.lean ====
/- Differential attention in mathematics' terms: what both programs are shown to compute, over the extended reals. -/
module

public import proofs.«01_k».proof.Proof.Online
public import Idealize.ShloMosaic.Lib.Pointwise

@[expose] public section

noncomputable section

namespace Cert.Proof.Spec
open Cert.Proof.Online Idealize.ShloMosaic

/-! ## Arrays of reals -/

/-- No entry is infinite. -/
def Fin_ {s : Shape} (x : s.Idx → EReal) : Prop := ∀ i, x i ≠ ⊤ ∧ x i ≠ ⊥

/-- The real at an index of rank three, zero outside the array. -/
def rd3 {n0 n1 n2 : ℕ} (x : (⟨3, ![n0, n1, n2]⟩ : Shape).Idx → EReal) (a b c : ℕ) : ℝ :=
  if h : a < n0 ∧ b < n1 ∧ c < n2 then (x (ix3 ⟨a, h.1⟩ ⟨b, h.2.1⟩ ⟨c, h.2.2⟩)).toReal else 0

theorem rd3_eq {n0 n1 n2 : ℕ} (x : (⟨3, ![n0, n1, n2]⟩ : Shape).Idx → EReal) (hx : Fin_ x) (a : Fin n0) (b : Fin n1) (c : Fin n2) :
    x (ix3 a b c) = ((rd3 x a b c : ℝ) : EReal) := by
  unfold rd3
  rw [dif_pos ⟨a.isLt, b.isLt, c.isLt⟩]
  exact (EReal.coe_toReal (hx _).1 (hx _).2).symm

/-- The real at an index of rank four, zero outside the array. -/
def rd4 {n0 n1 n2 n3 : ℕ} (x : (⟨4, ![n0, n1, n2, n3]⟩ : Shape).Idx → EReal) (a b c d : ℕ) : ℝ :=
  if h : a < n0 ∧ b < n1 ∧ c < n2 ∧ d < n3 then (x (ix4 ⟨a, h.1⟩ ⟨b, h.2.1⟩ ⟨c, h.2.2.1⟩ ⟨d, h.2.2.2⟩)).toReal else 0

theorem rd4_eq {n0 n1 n2 n3 : ℕ} (x : (⟨4, ![n0, n1, n2, n3]⟩ : Shape).Idx → EReal) (hx : Fin_ x) (a : Fin n0) (b : Fin n1) (c : Fin n2) (d : Fin n3) :
    x (ix4 a b c d) = ((rd4 x a b c d : ℝ) : EReal) := by
  unfold rd4
  rw [dif_pos ⟨a.isLt, b.isLt, c.isLt, d.isLt⟩]
  exact (EReal.coe_toReal (hx _).1 (hx _).2).symm

/-! ## The layer -/

/-- The score of the query at `q` with the key at `k` over the 64 lanes from `o`; minus infinity past the diagonal. -/
def score (Q K : ℕ → ℕ → ℝ) (o q k : ℕ) : EReal :=
  if k ≤ q then ((∑ d : Fin 64, Q q (o + d.val) * K k (o + d.val) : ℝ) : EReal) else ⊥

theorem score_ne_top (Q K : ℕ → ℕ → ℝ) (o q k : ℕ) : score Q K o q k ≠ ⊤ := by
  unfold score; split
  · exact EReal.coe_ne_top _
  · exact bot_ne_top

theorem score_zero_ne_bot (Q K : ℕ → ℕ → ℝ) (o q : ℕ) : score Q K o q 0 ≠ ⊥ := by
  unfold score; rw [if_pos (Nat.zero_le q)]; exact EReal.coe_ne_bot _

/-- Lane `e` of head `h` under its head map `i`: the values averaged with the softmax weights of the query at `q`. -/
def attn (Q K V : ℕ → ℕ → ℝ) (h i q e : ℕ) : ℝ :=
  avg 16384 (score Q K (128 * h + 64 * i) q) fun k => V k (128 * h + e)

/-- The weight of the second head map. -/
def lam (L : (⟨2, ![4, 64]⟩ : Shape).Idx → EReal) : EReal :=
  Ideal.exp (∑ x : Fin 64, L (ix2 0 x) * L (ix2 1 x)) - Ideal.exp (∑ x : Fin 64, L (ix2 2 x) * L (ix2 3 x)) + Ideal.ofBits .f32 0x3E4CCCCD#32

/-- A head's row over its root mean square, times the gain, times the layer's constant. -/
def normed (o : Fin 128 → EReal) (g : EReal) (e : Fin 128) : EReal :=
  o e * Ideal.rsqrt (Ideal.div (∑ x, o x * o x) (Ideal.ofBits .f32 0x43000000#32) + Ideal.ofBits .f32 0x358637BD#32) * g * Ideal.ofBits .f32 0x3F4CCCCD#32

/-- The layer's result for batch row `b`, position `q`, head `h`, lane `e`. -/
def result (L : (⟨2, ![4, 64]⟩ : Shape).Idx → EReal) (g : (⟨2, ![1, 128]⟩ : Shape).Idx → EReal) (Q K V : ℕ → ℕ → ℕ → ℝ) (b q h : ℕ) (e : Fin 128) : EReal :=
  normed (fun e => ((attn (Q b) (K b) (V b) h 0 q e : ℝ) : EReal) - lam L * ((attn (Q b) (K b) (V b) h 1 q e : ℝ) : EReal)) (g (ix2 0 e)) e

/-- The same as an array, from the five argument arrays. -/
def layer (L : (⟨2, ![4, 64]⟩ : Shape).Idx → EReal) (g : (⟨2, ![1, 128]⟩ : Shape).Idx → EReal) (q : (⟨3, ![2, 16384, 512]⟩ : Shape).Idx → EReal)
    (kt : (⟨4, ![2, 64, 512, 256]⟩ : Shape).Idx → EReal) (v : (⟨3, ![2, 16384, 512]⟩ : Shape).Idx → EReal) : (⟨3, ![2, 16384, 512]⟩ : Shape).Idx → EReal :=
  fun j => result L g (rd3 q) (fun b k l => rd4 kt b (k / 256) l (k % 256)) (rd3 v) (j 0).val (j 1).val ((j 2).val / 128) ⟨(j 2).val % 128, Nat.mod_lt _ (by norm_num)⟩

end Cert.Proof.Spec
-- ==== Proof.Final.lean ====
/- The differential attention kernel's result array: the layer, whenever the queries, keys and values are finite. -/
module

public import proofs.«01_k».proof.Proof.Stream
public import proofs.«01_k».proof.Proof.Spec
public import proofs.«01_k».proof.Proof.Gen.DiffIdeal.Value
public import Idealize.ShloMosaic.Lib.Pipeline.ValueKit

@[expose] public section

set_option maxRecDepth 16384
noncomputable section

namespace Cert.DiffIdeal.Final
open Cert.DiffIdeal Cert.DiffIdeal.Gen Cert.DiffIdeal.Block Cert.DiffIdeal.Stream Cert.Proof.Online Cert.Proof.Spec
open Idealize.ShloMosaic Idealize.ShloMosaic.TcCoe Idealize.SL.Sem
open Idealize.ShloMosaic.Pipeline (Dat)

theorem mix_apply (x0 : Vec Ideal S4x64 .f32) (lo hi : Vec Ideal S1024x256 .f32) (r : Fin 1024) (e : Fin 128) :
    k0_pay30 x0 lo hi (ix2 r e)
      = Ideal.div (lo (ix2 r ⟨e.val, by omega⟩)) (lo (ix2 r ⟨128 + e.val, by omega⟩))
        - lam x0 * Ideal.div (hi (ix2 r ⟨e.val, by omega⟩)) (hi (ix2 r ⟨128 + e.val, by omega⟩)) := by
  pointwise [k0_pay30, lam]

theorem square_apply (x0 : Vec Ideal S4x64 .f32) (lo hi : Vec Ideal S1024x256 .f32) (r : Fin 1024) (e : Fin 128) :
    k0_pay31 x0 lo hi (ix2 r e) = (k0_pay30 x0 lo hi (ix2 r e) * k0_pay30 x0 lo hi (ix2 r e) : EReal) := rfl

theorem norm_apply (o : FVec Ideal S1024x128 .f32) (x1 : Vec Ideal S1x128 .f32) (s : FVec Ideal S1024x128 .f32) (r : Fin 1024) (e : Fin 128)
    (hs : ∀ e, s (ix2 r e) = (o (ix2 r e) * o (ix2 r e) : EReal)) :
    k0_pay1 o x1 s (ix3 0 r e) = normed (fun e => o (ix2 r e)) (x1 (ix2 0 e)) e := by
  pointwise [k0_pay1, normed]
  simp only [hs]

/-- A grid point's output block, from its input blocks' reals. -/
theorem out_apply (q : ℕ) (hq : q < 16) (Q K V : ℕ → ℕ → ℝ)
    (x0 : Vec Ideal S4x64 .f32) (x1 : Vec Ideal S1x128 .f32) (x2 : Vec Ideal S1x1024x128 .bf16) (x3 : Vec Ideal S1x64x128x256 .bf16) (x4 : Vec Ideal S1x16384x128 .bf16)
    (hQ : ∀ (r : Fin 1024) (d : Fin 128), x2 (ix3 0 r d) = ((Q r.val d.val : ℝ) : EReal))
    (hK : ∀ (o : Fin 64) (d : Fin 128) (j : Fin 256), x3 (ix4 0 o d j) = ((K (256 * o.val + j.val) d.val : ℝ) : EReal))
    (hV : ∀ (k : Fin 16384) (d : Fin 128), x4 (ix3 0 k d) = ((V k.val d.val : ℝ) : EReal)) (r : Fin 1024) (e : Fin 128) :
    out q x0 x1 x2 x3 x4 (ix3 0 r e)
      = normed (fun e => ((avg 16384 (sc q Q K 0 r.val) (fun k => V k e.val) : ℝ) : EReal) - lam x0 * ((avg 16384 (sc q Q K 1 r.val) (fun k => V k e.val) : ℝ) : EReal)) (x1 (ix2 0 e)) e := by
  have hdiv : ∀ (i : ℕ) (hi : i < 2) (e : Fin 128),
      Ideal.div (last (k0_pay15 x2) x3 x4 q (ix2 ⟨1024 * i + r.val, by omega⟩ ⟨e.val, by omega⟩)) (last (k0_pay15 x2) x3 x4 q (ix2 ⟨1024 * i + r.val, by omega⟩ ⟨128 + e.val, by omega⟩))
        = ((avg 16384 (sc q Q K i r.val) (fun k => V k e.val) : ℝ) : EReal) := by
    intro i hi e
    have hr := r.isLt
    have he := e.isLt
    obtain ⟨μ, h⟩ := holds_last q hq Q K V x2 x3 x4 hQ hK hV ⟨1024 * i + r.val, by omega⟩
    have e1 : (1024 * i + r.val) / 1024 = i := by omega
    have e2 : (1024 * i + r.val) % 1024 = r.val := by omega
    simp only [e1, e2] at h
    have h1 := h ⟨e.val, by omega⟩
    have h2 := h ⟨128 + e.val, by omega⟩
    have c1 : col V e.val = fun k => V k e.val := funext fun k => if_pos he
    have c2 : col V (128 + e.val) = fun _ => 1 := funext fun k => if_neg (by omega)
    simp only [c1] at h1
    simp only [c2] at h2
    rw [Holds.div h1 h2 ⟨0, by omega, by unfold sc; rw [if_pos (Nat.zero_le _)]; exact EReal.coe_ne_bot _⟩]
    rw [avg_mono (n := 1024 * (q + 1)) (N := 16384) (by omega) fun k hk => by unfold sc; exact if_neg (by omega)]
  have h0 := hdiv 0 (by norm_num)
  have h1 := hdiv 1 (by norm_num)
  unfold out
  dsimp only
  rw [norm_apply _ _ _ _ _ fun e => square_apply _ _ _ _ _]
  congr 1
  funext e
  rw [mix_apply, ← h0 e, ← h1 e]
  pointwise []

/-! ## From blocks to arrays -/

/-- Each window's block index at each grid point, and the point's query block. -/
theorem idx : ∀ t : Fin cfg0.N,
    win0_0.index t = ![0, 0] ∧ win0_1.index t = ![0, 0]
    ∧ win0_2.index t = ![t.val / 64, t.val % 16, t.val / 16 % 4]
    ∧ win0_3.index t = ![t.val / 64, 0, t.val / 16 % 4, 0]
    ∧ win0_4.index t = ![t.val / 64, 0, t.val / 16 % 4]
    ∧ win0_5.index t = ![t.val / 64, t.val % 16, t.val / 16 % 4]
    ∧ (grid0.coords t 2).val = t.val % 16 :=
  (by decide +kernel : ∀ t : Fin grid0.N, _)

variable (m : (ℓ : Loc nD τ sig) → Buf (Elt Ideal) ℓ)

/-- The result array is the layer of the argument arrays. -/
theorem final (c : Dev nD) (h2 : Fin_ (V m c main_arg2)) (h3 : Fin_ (V m c main_arg3)) (h4 : Fin_ (V m c main_arg4)) :
    (dats m 0 c).arrAt 5 cfg0.N = layer (V m c main_arg0) (V m c main_arg1) (V m c main_arg2) (V m c main_arg3) (V m c main_arg4) := by
  refine (dats m 0 c).arrAt_eq_of_covers 5 _ (by decide +kernel) fun t hf y => ?_
  obtain ⟨i0, i1, i2, i3, i4, i5, iq⟩ := idx t
  have ht : t.val < 128 := t.isLt
  idx_vars y
  rw [after0_5]
  unfold outsAt0
  rw [out_eq]
  blk_simp
  have he : (win0_5.blk t).view.emb (ix3 y0 y1 y2) = ix3 ⟨t.val / 64, by omega⟩ ⟨1024 * (t.val % 16) + y1.val, by omega⟩ ⟨128 * (t.val / 16 % 4) + y2.val, by omega⟩ := by
    blk_ext [i5]
  have b0 : iblk m c 0 t = V m c main_arg0 := by funext j; blk_ext [iblk, i0]
  have b1 : iblk m c 1 t = V m c main_arg1 := by funext j; blk_ext [iblk, i1]
  have hQ : ∀ (r : Fin 1024) (d : Fin 128), iblk m c 2 t (ix3 0 r d) = ((rd3 (V m c main_arg2) (t.val / 64) (1024 * (t.val % 16) + r.val) (128 * (t.val / 16 % 4) + d.val) : ℝ) : EReal) := by
    intro r d
    refine Eq.trans ?_ (rd3_eq _ h2 ⟨t.val / 64, by omega⟩ ⟨1024 * (t.val % 16) + r.val, by omega⟩ ⟨128 * (t.val / 16 % 4) + d.val, by omega⟩)
    blk_ext [iblk, i2]
  have hK : ∀ (o : Fin 64) (d : Fin 128) (j : Fin 256), iblk m c 3 t (ix4 0 o d j)
      = ((rd4 (V m c main_arg3) (t.val / 64) ((256 * o.val + j.val) / 256) (128 * (t.val / 16 % 4) + d.val) ((256 * o.val + j.val) % 256) : ℝ) : EReal) := by
    intro o d j
    have e1 : (256 * o.val + j.val) / 256 = o.val := by omega
    have e2 : (256 * o.val + j.val) % 256 = j.val := by omega
    rw [e1, e2]
    refine Eq.trans ?_ (rd4_eq _ h3 ⟨t.val / 64, by omega⟩ o ⟨128 * (t.val / 16 % 4) + d.val, by omega⟩ j)
    blk_ext [iblk, i3]
  have hV : ∀ (k : Fin 16384) (d : Fin 128), iblk m c 4 t (ix3 0 k d) = ((rd3 (V m c main_arg4) (t.val / 64) k.val (128 * (t.val / 16 % 4) + d.val) : ℝ) : EReal) := by
    intro k d
    refine Eq.trans ?_ (rd3_eq _ h4 ⟨t.val / 64, by omega⟩ k ⟨128 * (t.val / 16 % 4) + d.val, by omega⟩)
    blk_ext [iblk, i4]
  have hy : y0 = 0 := Fin.eq_zero y0
  subst hy
  have hh : (128 * (t.val / 16 % 4) + y2.val) / 128 = t.val / 16 % 4 := by omega
  have hl : (⟨(128 * (t.val / 16 % 4) + y2.val) % 128, Nat.mod_lt _ (by norm_num)⟩ : Fin 128) = y2 := Fin.ext (by show (128 * (t.val / 16 % 4) + y2.val) % 128 = y2.val; omega)
  rw [iq, out_apply (t.val % 16) (by omega) (fun r d => rd3 (V m c main_arg2) (t.val / 64) (1024 * (t.val % 16) + r) (128 * (t.val / 16 % 4) + d))
    (fun k d => rd4 (V m c main_arg3) (t.val / 64) (k / 256) (128 * (t.val / 16 % 4) + d) (k % 256))
    (fun k d => rd3 (V m c main_arg4) (t.val / 64) k (128 * (t.val / 16 % 4) + d)) _ _ _ _ _ hQ hK hV, b0, b1]
  refine Eq.trans ?_ (congrArg (layer _ _ _ _ _) he).symm
  change _ = result _ _ _ _ _ _ _ ((128 * (t.val / 16 % 4) + y2.val) / 128) ⟨(128 * (t.val / 16 % 4) + y2.val) % 128, _⟩
  rw [hh, hl]
  have hs : ∀ i : ℕ, sc (t.val % 16) (fun r d => rd3 (V m c main_arg2) (t.val / 64) (1024 * (t.val % 16) + r) (128 * (t.val / 16 % 4) + d))
      (fun k d => rd4 (V m c main_arg3) (t.val / 64) (k / 256) (128 * (t.val / 16 % 4) + d) (k % 256)) i y1.val
      = score (rd3 (V m c main_arg2) (t.val / 64)) (fun k l => rd4 (V m c main_arg3) (t.val / 64) (k / 256) l (k % 256)) (128 * (t.val / 16 % 4) + 64 * i) (1024 * (t.val % 16) + y1.val) := by
    intro i
    funext k
    unfold sc score
    simp only [Nat.add_assoc]
  rw [hs 0, hs 1]
  rfl

end Cert.DiffIdeal.Final
-- ==== Proof.Reference.lean ====
/- The differential attention reference: its composed term as five named steps, each read at an index. -/
module

public import proofs.«01_k».proof.Proof.Spec
public import proofs.«01_k».proof.Proof.Gen.DiffRefIdeal.Run
public import Idealize.ShloMosaic.Lib.Pointwise
public import Idealize.ShloMosaic.Lib.WordCmp

@[expose] public section

set_option maxRecDepth 16384
noncomputable section

namespace Cert.DiffRefIdeal.Reference
open Cert.DiffRefIdeal Cert.DiffRefIdeal.Gen Cert.Proof.Online Cert.Proof.Spec
open Idealize.ShloMosaic Idealize.ShloMosaic.TcCoe Idealize.SL.Sem Idealize.ShloMosaic.StableHlo

variable {F : FTy → Type} [FloatOps F]

/-- The causal scores. -/
def scores (A2 : FVec F S2x16384x512 .bf16) (A3 : FVec F S2x64x512x256 .bf16) : FVec F S2x4x2x16384x16384 .f32 :=
  select (broadcastInDim S2x4x2x16384x16384 ![3, 4] bcast_S16384x16384_S2x4x2x16384x16384_3_4 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (Host.dotGeneral dot_S2x16384x4x2x64_S2x16384x4x2x64_S2x4x2x16384x16384_4_4_1_1_023_023 none (shapeCast _ (extf .f32 A2 bitsLt_bf16_f32) shapeCasts_S2x16384x512_S2x16384x4x2x64) (shapeCast _ (transpose S2x64x256x512 [0, 1, 3, 2] (extf .f32 A3 bitsLt_bf16_f32) transposes_S2x64x512x256_S2x64x256x512_0_1_3_2) shapeCasts_S2x64x256x512_S2x16384x4x2x64)) (broadcastInDim S2x4x2x16384x16384 ![] bcast_S_S2x4x2x16384x16384 (id (constant S_ .f32 0xFF800000#32)))

/-- Each row's maximum. -/
def top (s : FVec F S2x4x2x16384x16384 .f32) : FVec F S2x4x2x16384 .f32 :=
  maximumf (broadcastInDim S2x4x2x16384 ![] bcast_S_S2x4x2x16384 (constant S_ .f32 0xFF800000#32)) (Host.reduce FloatOps.maximumf s (constant S_ .f32 0xFF800000#32) reducesTo_S2x4x2x16384x16384_S2x4x2x16384_d4 h_S_)

/-- The exponentials of the scores less a row's value. -/
def shifted (s : FVec F S2x4x2x16384x16384 .f32) (t : FVec F S2x4x2x16384 .f32) : FVec F S2x4x2x16384x16384 .f32 :=
  Host.exp (subf s (broadcastInDim S2x4x2x16384x16384 ![0, 1, 2, 3, 4] bcast_S2x4x2x16384x1_S2x4x2x16384x16384_0_1_2_3_4 (broadcastInDim S2x4x2x16384x1 ![0, 1, 2, 3] bcast_S2x4x2x16384_S2x4x2x16384x1_0_1_2_3 t)))

/-- Each row over its sum. -/
def probs (x : FVec F S2x4x2x16384x16384 .f32) : FVec F S2x4x2x16384x16384 .f32 :=
  Host.divf x (broadcastInDim S2x4x2x16384x16384 ![0, 1, 2, 3, 4] bcast_S2x4x2x16384x1_S2x4x2x16384x16384_0_1_2_3_4 (broadcastInDim S2x4x2x16384x1 ![0, 1, 2, 3] bcast_S2x4x2x16384_S2x4x2x16384x1_0_1_2_3 (Host.reduceAdd x (constant S_ .f32 0x00000000#32) reducesTo_S2x4x2x16384x16384_S2x4x2x16384_d4 h_S_)))

/-- The weight of the second head map. -/
def lamT (A0 : FVec F S4x64 .f32) : FVec F S_ .f32 :=
  addf (subf (Host.exp (Host.reduceAdd (mulf (shapeCast _ (extractStridedSlice S1x64 ![0, 0] A0 slices_S4x64_S1x64_0_0) shapeCasts_S1x64_S64) (shapeCast _ (extractStridedSlice S1x64 ![1, 0] A0 slices_S4x64_S1x64_1_0) shapeCasts_S1x64_S64)) (constant S_ .f32 0x00000000#32) reducesTo_S64_S_d0 h_S_)) (Host.exp (Host.reduceAdd (mulf (shapeCast _ (extractStridedSlice S1x64 ![2, 0] A0 slices_S4x64_S1x64_2_0) shapeCasts_S1x64_S64) (shapeCast _ (extractStridedSlice S1x64 ![3, 0] A0 slices_S4x64_S1x64_3_0) shapeCasts_S1x64_S64)) (constant S_ .f32 0x00000000#32) reducesTo_S64_S_d0 h_S_))) (constant S_ .f32 0x3E4CCCCD#32)

/-- The two head maps' weights combined. -/
def mixed (l : FVec F S_ .f32) (p : FVec F S2x4x2x16384x16384 .f32) : FVec F S2x4x16384x16384 .f32 :=
  subf (shapeCast _ (extractStridedSlice S2x4x1x16384x16384 ![0, 0, 0, 0, 0] p slices_S2x4x2x16384x16384_S2x4x1x16384x16384_0_0_0_0_0) shapeCasts_S2x4x1x16384x16384_S2x4x16384x16384) (mulf (broadcastInDim S2x4x16384x16384 ![] bcast_S_S2x4x16384x16384 l) (shapeCast _ (extractStridedSlice S2x4x1x16384x16384 ![0, 0, 1, 0, 0] p slices_S2x4x2x16384x16384_S2x4x1x16384x16384_0_0_1_0_0) shapeCasts_S2x4x1x16384x16384_S2x4x16384x16384))

/-- The values combined with those weights. -/
def heads (A4 : FVec F S2x16384x512 .bf16) (w : FVec F S2x4x16384x16384 .f32) : FVec F S2x16384x4x128 .f32 :=
  transpose S2x16384x4x128 [0, 3, 1, 2] (Host.dotGeneral dot_S2x16384x4x128_S2x4x16384x16384_S2x4x128x16384_1_3_3_2_02_01 none (shapeCast _ (extf .f32 A4 bitsLt_bf16_f32) shapeCasts_S2x16384x512_S2x16384x4x128) w) transposes_S2x4x128x16384_S2x16384x4x128_0_3_1_2

/-- The heads' rows normalised. -/
def finish (A1 : FVec F S1x128 .f32) (o : FVec F S2x16384x4x128 .f32) : FVec F S2x16384x512 .bf16 :=
  truncf .bf16 (shapeCast _ (mulf (mulf (mulf o (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf o o) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 (shapeCast _ A1 shapeCasts_S1x128_S128)))) (broadcastInDim S2x16384x4x128 ![] bcast_S_S2x16384x4x128 (constant S_ .f32 0x3F4CCCCD#32))) shapeCasts_S2x16384x4x128_S2x16384x512) bitsLt_bf16_f32

/-- The steps in order. -/
def whole (A0 : FVec F S4x64 .f32) (A1 : FVec F S1x128 .f32) (A2 : FVec F S2x16384x512 .bf16) (A3 : FVec F S2x64x512x256 .bf16) (A4 : FVec F S2x16384x512 .bf16) : FVec F S2x16384x512 .bf16 :=
  finish A1 (heads A4 (mixed (lamT A0) (probs (shifted (scores A2 A3) (top (scores A2 A3))))))

/-- The reference's result is the steps in order on its arguments. -/
theorem res_eq (m : (ℓ : Loc nD τ sig) → Buf (Elt F) ℓ) (c : Dev nD) :
    Value.res_main_v68 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ## Each step at an index -/

theorem scores_apply (A2 : FVec Ideal S2x16384x512 .bf16) (A3 : FVec Ideal S2x64x512x256 .bf16) (b : Fin 2) (h : Fin 4) (i : Fin 2) (q k : Fin 16384) :
    scores A2 A3 (ix5 b h i q k)
      = if k.val ≤ q.val then
          ∑ d : Fin 64, (A2 (ix3 b q ⟨h.val * 128 + i.val * 64 + d.val, by omega⟩) * A3 (ix4 b ⟨k.val / 256, by omega⟩ ⟨h.val * 128 + i.val * 64 + d.val, by omega⟩ ⟨k.val % 256, Nat.mod_lt _ (by norm_num)⟩) : EReal)
        else (⊥ : EReal) := by
  have hb : (id (constant (F := Ideal) S_ .f32 0xFF800000#32) ix0) = (⊥ : EReal) := by
    change Ideal.ofBits .f32 0xFF800000#32 = ⊥
    simp [Ideal.ofBits, Ideal.ieee]
  have hc : IntOp.cmpi CmpIPredicate.sle (BitVec.ofNat 32 k.val) (BitVec.ofNat 32 q.val) = if k.val ≤ q.val then 1#1 else 0#1 := by
    have := k.isLt
    have := q.isLt
    rw [WordCmp.cmpi_sle_ofNat (by omega) (by omega)]
    by_cases h : k.val ≤ q.val <;> simp [h]
  pointwise [scores]
  rw [hb, hc]
  by_cases h : k.val ≤ q.val
  · rw [if_pos h, if_pos h]; rfl
  · rw [if_neg h, if_neg h]; rfl

/-- A maximum over the last of five axes, from minus infinity. -/
theorem rowmax {n0 n1 n2 n3 n4 : ℕ} (s : FVec Ideal (⟨5, ![n0, n1, n2, n3, n4]⟩ : Shape) .f32)
    (h : (⟨5, ![n0, n1, n2, n3, n4]⟩ : Shape).ReducesTo [4] (⟨4, ![n0, n1, n2, n3]⟩ : Shape)) (h0 : 0 < S_.numel)
    (b : Fin n0) (c : Fin n1) (d : Fin n2) (e : Fin n3) :
    Host.reduce FloatOps.maximumf s (constant S_ .f32 0xFF800000#32) h h0 (ix4 b c d e)
      = Finset.univ.fold max (⊥ : EReal) (fun k : Fin n4 => s (ix5 b c d e k)) := by
  have hb : constant (F := Ideal) S_ .f32 0xFF800000#32 (Shape.Idx.first h0) = (⊥ : EReal) := by
    change Ideal.ofBits .f32 0xFF800000#32 = ⊥
    simp [Ideal.ofBits, Ideal.ieee]
  refine (Host.reduce_eq_fold (max : EReal → EReal → EReal) s _ h h0 _).trans ?_
  rw [hb]
  exact h.fold_fiber_r5_a4 (ix4 b c d e) max ⊥ s

/-- The maximum with minus infinity changes nothing. -/
theorem floor_apply (R : FVec Ideal S2x4x2x16384 .f32) (j : S2x4x2x16384.Idx) :
    maximumf (broadcastInDim S2x4x2x16384 ![] bcast_S_S2x4x2x16384 (constant S_ .f32 0xFF800000#32)) R j = R j := by
  have hb : (FloatOps.ofBits .f32 0xFF800000#32 : Ideal .f32) = (⊥ : EReal) := by
    change Ideal.ofBits .f32 0xFF800000#32 = ⊥
    simp [Ideal.ofBits, Ideal.ieee]
  change max (FloatOps.ofBits .f32 0xFF800000#32 : Ideal .f32) (R j) = R j
  rw [hb]
  exact max_eq_right bot_le

theorem top_apply (s : FVec Ideal S2x4x2x16384x16384 .f32) (b : Fin 2) (h : Fin 4) (i : Fin 2) (q : Fin 16384) :
    top s (ix4 b h i q) = Finset.univ.fold max (⊥ : EReal) (fun k : Fin 16384 => s (ix5 b h i q k)) :=
  (floor_apply _ _).trans (rowmax s _ _ b h i q)

theorem shifted_apply (s : FVec Ideal S2x4x2x16384x16384 .f32) (t : FVec Ideal S2x4x2x16384 .f32) (b : Fin 2) (h : Fin 4) (i : Fin 2) (q k : Fin 16384) :
    shifted s t (ix5 b h i q k) = Ideal.exp (s (ix5 b h i q k) - t (ix4 b h i q)) := by
  pointwise [shifted]

theorem probs_apply (x : FVec Ideal S2x4x2x16384x16384 .f32) (b : Fin 2) (h : Fin 4) (i : Fin 2) (q k : Fin 16384) :
    probs x (ix5 b h i q k) = Ideal.div (x (ix5 b h i q k)) (∑ k : Fin 16384, x (ix5 b h i q k)) := by
  pointwise [probs]

theorem lam_apply (A0 : FVec Ideal S4x64 .f32) : lamT A0 ix0 = lam A0 := by
  pointwise [lamT, lam]

theorem mixed_apply (l : FVec Ideal S_ .f32) (p : FVec Ideal S2x4x2x16384x16384 .f32) (b : Fin 2) (h : Fin 4) (q k : Fin 16384) :
    mixed l p (ix4 b h q k) = (p (ix5 b h 0 q k) - l ix0 * p (ix5 b h 1 q k) : EReal) := by
  pointwise [mixed]

theorem heads_apply (A4 : FVec Ideal S2x16384x512 .bf16) (w : FVec Ideal S2x4x16384x16384 .f32) (b : Fin 2) (q : Fin 16384) (h : Fin 4) (e : Fin 128) :
    heads A4 w (ix4 b q h e) = (∑ k : Fin 16384, A4 (ix3 b k ⟨h.val * 128 + e.val, by omega⟩) * w (ix4 b h q k) : EReal) := by
  pointwise [heads]

theorem finish_apply (A1 : FVec Ideal S1x128 .f32) (o : FVec Ideal S2x16384x4x128 .f32) (b : Fin 2) (q : Fin 16384) (l : Fin 512) :
    finish A1 o (ix3 b q l) = normed (fun e => o (ix4 b q ⟨l.val / 128, by omega⟩ e)) (A1 (ix2 0 ⟨l.val % 128, Nat.mod_lt _ (by norm_num)⟩)) ⟨l.val % 128, Nat.mod_lt _ (by norm_num)⟩ := by
  pointwise [finish, normed]

end Cert.DiffRefIdeal.Reference
-- ==== Proof.RefValue.lean ====
/- The differential attention reference computes the layer, whenever the weights' vectors, the queries, the keys and the values are finite. -/
module

public import proofs.«01_k».proof.Proof.Reference

@[expose] public section

set_option maxRecDepth 16384
noncomputable section

namespace Cert.DiffRefIdeal.Reference
open Cert.DiffRefIdeal Cert.DiffRefIdeal.Gen Cert.Proof.Online Cert.Proof.Spec
open Idealize.ShloMosaic

/-- The scores are the layer's. -/
theorem scores_eq (A2 : FVec Ideal S2x16384x512 .bf16) (A3 : FVec Ideal S2x64x512x256 .bf16) (h2 : Fin_ A2) (h3 : Fin_ A3) (b : Fin 2) (h : Fin 4) (i : Fin 2) (q k : Fin 16384) :
    scores A2 A3 (ix5 b h i q k) = score (rd3 A2 b.val) (fun k l => rd4 A3 b.val (k / 256) l (k % 256)) (128 * h.val + 64 * i.val) q.val k.val := by
  rw [scores_apply]
  unfold score
  refine if_congr Iff.rfl ?_ rfl
  refine (Finset.sum_congr rfl fun d _ => ?_).trans (coe_sum _ _).symm
  rw [rd3_eq A2 h2, rd4_eq A3 h3]
  have e : h.val * 128 + i.val * 64 + d.val = 128 * h.val + 64 * i.val + d.val := by omega
  simp only [e]
  exact (EReal.coe_mul _ _).symm

/-- The weights are the softmax of the scores. -/
theorem probs_eq (A2 : FVec Ideal S2x16384x512 .bf16) (A3 : FVec Ideal S2x64x512x256 .bf16) (h2 : Fin_ A2) (h3 : Fin_ A3) (b : Fin 2) (h : Fin 4) (i : Fin 2) (q k : Fin 16384) :
    probs (shifted (scores A2 A3) (top (scores A2 A3))) (ix5 b h i q k)
      = ((wt (score (rd3 A2 b.val) (fun k l => rd4 A3 b.val (k / 256) l (k % 256)) (128 * h.val + 64 * i.val) q.val k.val)
          / num 16384 (score (rd3 A2 b.val) (fun k l => rd4 A3 b.val (k / 256) l (k % 256)) (128 * h.val + 64 * i.val) q.val) (fun _ => 1) : ℝ) : EReal) := by
  rw [probs_apply]
  simp only [shifted_apply, top_apply]
  exact softmax_eq _ (fun k : Fin 16384 => scores A2 A3 (ix5 b h i q k)) (fun k => scores_eq A2 A3 h2 h3 b h i q k)
    (fun k => by rw [scores_eq A2 A3 h2 h3]; exact score_ne_top _ _ _ _ _)
    ⟨0, by rw [scores_eq A2 A3 h2 h3]; exact score_zero_ne_bot _ _ _ _⟩ k

/-- The second head map's weight is a real. -/
theorem lam_real (L : FVec Ideal S4x64 .f32) (h : Fin_ L) : ∃ l : ℝ, lam L = (l : EReal) := by
  have hs : ∀ a b : Fin 4, ∃ r : ℝ, (∑ x : Fin 64, L (ix2 a x) * L (ix2 b x) : EReal) = (r : EReal) := by
    intro a b
    refine ⟨∑ x : Fin 64, (L (ix2 a x) : EReal).toReal * (L (ix2 b x) : EReal).toReal, ?_⟩
    refine (Finset.sum_congr rfl fun x _ => ?_).trans (coe_sum _ _).symm
    rw [EReal.coe_mul, EReal.coe_toReal (h _).1 (h _).2, EReal.coe_toReal (h _).1 (h _).2]
  obtain ⟨r0, e0⟩ := hs 0 1
  obtain ⟨r1, e1⟩ := hs 2 3
  have hc : ∃ c : ℝ, Ideal.ofBits .f32 0x3E4CCCCD#32 = (c : EReal) := by
    simp [Ideal.ofBits, Ideal.ieee]
    exact ⟨_, (EReal.coe_mul _ _).symm⟩
  obtain ⟨c, hc⟩ := hc
  refine ⟨Real.exp r0 - Real.exp r1 + c, ?_⟩
  unfold lam
  rw [e0, e1, hc, Ideal.exp_coe, Ideal.exp_coe, EReal.coe_add, EReal.coe_sub]

/-- A difference of two softmax weights against the values is the difference of the two averages. -/
theorem avg_sub {n : ℕ} (S T : ℕ → EReal) (V : ℕ → ℝ) (l : ℝ) :
    ∑ k : Fin n, V k.val * (wt (S k.val) / num n S (fun _ => 1) - l * (wt (T k.val) / num n T fun _ => 1)) = avg n S V - l * avg n T V := by
  unfold avg
  generalize num n S (fun _ => 1) = x, num n T (fun _ => 1) = y
  unfold num
  rw [← Fin.sum_univ_eq_sum_range (fun k => wt (S k) * V k), ← Fin.sum_univ_eq_sum_range (fun k => wt (T k) * V k), Finset.sum_div, Finset.sum_div,
    Finset.mul_sum, ← Finset.sum_sub_distrib]
  exact Finset.sum_congr rfl fun k _ => by ring

/-- The mixed weights against the values: the two head maps' averages, the second times its weight taken from the first. -/
theorem heads_eq (A0 : FVec Ideal S4x64 .f32) (A2 : FVec Ideal S2x16384x512 .bf16) (A3 : FVec Ideal S2x64x512x256 .bf16) (A4 : FVec Ideal S2x16384x512 .bf16)
    (h0 : Fin_ A0) (h2 : Fin_ A2) (h3 : Fin_ A3) (h4 : Fin_ A4) (b : Fin 2) (q : Fin 16384) (h : Fin 4) (e : Fin 128) :
    heads A4 (mixed (lamT A0) (probs (shifted (scores A2 A3) (top (scores A2 A3))))) (ix4 b q h e)
      = ((attn (rd3 A2 b.val) (fun k l => rd4 A3 b.val (k / 256) l (k % 256)) (rd3 A4 b.val) h.val 0 q.val e.val : ℝ) : EReal)
        - lam A0 * ((attn (rd3 A2 b.val) (fun k l => rd4 A3 b.val (k / 256) l (k % 256)) (rd3 A4 b.val) h.val 1 q.val e.val : ℝ) : EReal) := by
  obtain ⟨l, hl⟩ := lam_real A0 h0
  rw [heads_apply]
  simp only [mixed_apply, lam_apply, probs_eq A2 A3 h2 h3, hl, rd3_eq A4 h4, ← EReal.coe_mul, ← EReal.coe_sub, ← coe_sum]
  refine congrArg (fun r : ℝ => (r : EReal)) ((Finset.sum_congr rfl fun k _ => ?_).trans (avg_sub (n := 16384) _ _ (fun k => rd3 A4 b.val k (128 * h.val + e.val)) l))
  have e1 : h.val * 128 + e.val = 128 * h.val + e.val := by omega
  rw [e1]
  rfl

/-- The reference is the layer. -/
theorem whole_eq (A0 : FVec Ideal S4x64 .f32) (A1 : FVec Ideal S1x128 .f32) (A2 : FVec Ideal S2x16384x512 .bf16) (A3 : FVec Ideal S2x64x512x256 .bf16) (A4 : FVec Ideal S2x16384x512 .bf16)
    (h0 : Fin_ A0) (h2 : Fin_ A2) (h3 : Fin_ A3) (h4 : Fin_ A4) : whole A0 A1 A2 A3 A4 = layer A0 A1 A2 A3 A4 := by
  funext j
  idx_vars j
  unfold whole layer result
  rw [finish_apply]
  simp only [heads_eq A0 A2 A3 A4 h0 h2 h3 h4]
  rfl

end Cert.DiffRefIdeal.Reference
-- ==== Proof.Finite.lean ====
/- The precondition read as four facts: no entry of the weights' vectors, the queries, the keys or the values is infinite. -/
module

public import proofs.«01_k».proof.Pre_diff_finite
public import proofs.«01_k».proof.Proof.Spec
public import Idealize.ShloMosaic.Lib.ReduceAll
public import Idealize.ShloMosaic.Lib.Affine

@[expose] public section

set_option maxRecDepth 16384
noncomputable section

namespace Cert.Proof.Finite
open Cert.Proof.Spec Idealize.ShloMosaic

/-- A magnitude below plus infinity is a real's. -/
theorem of_lt (x : EReal) (h : Ideal.cmp .olt (max x (-x)) (⊤ : EReal) = 1#1) : x ≠ ⊤ ∧ x ≠ ⊥ := by
  constructor
  · rintro rfl
    simp [Ideal.cmp] at h
  · rintro rfl
    simp [Ideal.cmp] at h

/-- The one index of a rank-zero shape. -/
theorem scalar_idx (i j : (⟨0, ![]⟩ : Shape).Idx) : i = j := funext fun a => a.elim0

/-- An array whose magnitudes are all below plus infinity has no infinite entry. -/
theorem of_all {s u : Shape} {axes : List (Fin s.rank)} {φ : FTy} (x : FVec Ideal s φ) (b : FVec Ideal s φ) (hb : ∀ i, b i = (⊤ : EReal))
    (init : u.Idx → BitVec 1) (h : s.ReducesTo axes (⟨0, ![]⟩ : Shape)) (hu : 0 < u.numel) (j : (⟨0, ![]⟩ : Shape).Idx)
    (e : Host.reduce IntOp.andi (cmpf .olt (Host.absf x) b) init h hu j = 1#1) : Fin_ x := by
  intro i
  have hi := Host.reduce_andi_eq_one _ init h hu j e i (scalar_idx _ _)
  refine of_lt (x i) ?_
  rw [← hb i]
  exact hi

/-- The literal is plus infinity. -/
theorem top_bits : (FloatOps.ofBits .f32 0x7F800000#32 : Ideal .f32) = (⊤ : EReal) := by
  change Ideal.ofBits .f32 0x7F800000#32 = ⊤
  simp [Ideal.ofBits, Ideal.ieee]

variable [Cert.Pre_diff_finite.Facts]
open Cert.Pre_diff_finite Cert.Pre_diff_finite.Facts

/-- The precondition read back. -/
theorem decode (A0 : FVec Ideal S4x64 .f32) (A1 : FVec Ideal S1x128 .f32) (A2 : FVec Ideal S2x16384x512 .bf16) (A3 : FVec Ideal S2x64x512x256 .bf16) (A4 : FVec Ideal S2x16384x512 .bf16)
    (h : fn (F := Ideal) A0 A1 A2 A3 A4 = fun _ => 1#1) : Fin_ A0 ∧ Fin_ A2 ∧ Fin_ A3 ∧ Fin_ A4 := by
  have h := congrFun h ix0
  unfold fn fn_part1 at h
  dsimp only at h
  obtain ⟨h, h4⟩ := IntOp.andi_eq_one.1 h
  obtain ⟨h, h3⟩ := IntOp.andi_eq_one.1 h
  obtain ⟨h0, h2⟩ := IntOp.andi_eq_one.1 h
  exact ⟨of_all A0 _ (fun _ => top_bits) _ _ _ _ h0, of_all (φ := .f32) A2 _ (fun _ => top_bits) _ _ _ _ h2, of_all (φ := .f32) A3 _ (fun _ => top_bits) _ _ _ _ h3,
    of_all (φ := .f32) A4 _ (fun _ => top_bits) _ _ _ _ h4⟩

end Cert.Proof.Finite
-- ==== Proof.Rows.lean ====
/- The row functions that the merge and the feed-forward share, and the merge's result at an index. -/
module

public import Idealize.ShloMosaic.PureOps.Ideal
public import Idealize.ShloMosaic.Lib.Pointwise

@[expose] public section

noncomputable section

namespace Cert.Proof.Rows
open Idealize.ShloMosaic

/-- A row over its root mean square, times the gain. -/
def normRow (x : Fin 1024 → EReal) (g : (⟨2, ![1, 1024]⟩ : Shape).Idx → EReal) (k : Fin 1024) : EReal :=
  x k * Ideal.rsqrt (Ideal.div (∑ j, x j * x j) (Ideal.ofBits .f32 0x44800000#32) + Ideal.ofBits .f32 0x358637BD#32) * g (ix2 0 k)

/-- One branch's gated projection at column `d`, for the input row `x` and the branch's row `o`. -/
def term (x : Fin 1024 → EReal) (o : Fin 512 → EReal) (g : (⟨2, ![1, 1024]⟩ : Shape).Idx → EReal)
    (W : (⟨2, ![1024, 3072]⟩ : Shape).Idx → EReal) (B : (⟨2, ![3, 1024]⟩ : Shape).Idx → EReal)
    (P : (⟨3, ![3, 512, 1024]⟩ : Shape).Idx → EReal) (n : Fin 3) (d : Fin 1024) : EReal :=
  Ideal.logistic ((∑ k, normRow x g k * W (ix2 k ⟨1024 * n.val + d.val, by omega⟩)) + B (ix2 n d)) * ∑ c, o c * P (ix3 n c d)

/-- The merge's result for one row at column `j`. -/
def mergeRow (x : Fin 1024 → EReal) (o0 o1 o2 : Fin 512 → EReal) (g : (⟨2, ![1, 1024]⟩ : Shape).Idx → EReal)
    (W : (⟨2, ![1024, 3072]⟩ : Shape).Idx → EReal) (B : (⟨2, ![3, 1024]⟩ : Shape).Idx → EReal)
    (P : (⟨3, ![3, 512, 1024]⟩ : Shape).Idx → EReal) (O : (⟨2, ![1024, 1024]⟩ : Shape).Idx → EReal) (j : Fin 1024) : EReal :=
  x j + ∑ d, (term x o0 g W B P 0 d + term x o1 g W B P 1 d + term x o2 g W B P 2 d) * O (ix2 d j)

/-- The merge's result array. -/
def merge (X : (⟨2, ![32768, 1024]⟩ : Shape).Idx → EReal) (O0 O1 O2 : (⟨2, ![32768, 512]⟩ : Shape).Idx → EReal)
    (g : (⟨2, ![1, 1024]⟩ : Shape).Idx → EReal)
    (W : (⟨2, ![1024, 3072]⟩ : Shape).Idx → EReal) (B : (⟨2, ![3, 1024]⟩ : Shape).Idx → EReal)
    (P : (⟨3, ![3, 512, 1024]⟩ : Shape).Idx → EReal) (O : (⟨2, ![1024, 1024]⟩ : Shape).Idx → EReal) :
    (⟨2, ![32768, 1024]⟩ : Shape).Idx → EReal := fun i =>
  mergeRow (fun k => X (ix2 (i 0) k)) (fun c => O0 (ix2 (i 0) c)) (fun c => O1 (ix2 (i 0) c)) (fun c => O2 (ix2 (i 0) c)) g W B P O (i 1)

end Cert.Proof.Rows
-- ==== Proof.MergeFinal.lean ====
/- The merge kernel's result array: each row of the merge, from the rows of its arguments. -/
module

public import proofs.«01_k».proof.Proof.Rows
public import proofs.«01_k».proof.Proof.Gen.MergeIdeal.Value
public import Idealize.ShloMosaic.Lib.Pointwise
public import Idealize.ShloMosaic.Lib.Pipeline.ValueKit

@[expose] public section

set_option maxRecDepth 16384
noncomputable section

namespace Cert.MergeIdeal.Final
open Cert.MergeIdeal Cert.MergeIdeal.Gen Cert.Proof.Rows
open Idealize.ShloMosaic Idealize.ShloMosaic.TcCoe Idealize.SL.Sem
open Idealize.ShloMosaic.Pipeline (Dat)

theorem norm_apply (x : Vec Ideal S512x1024 .f32) (g : Vec Ideal S1x1024 .f32) (r : Fin 512) (k : Fin 1024) :
    k0_pay2 x g (ix2 r k) = normRow (fun k => x (ix2 r k)) g k := by
  pointwise [k0_pay2, normRow]

theorem first_apply (x : Vec Ideal S512x1024 .f32) (g : Vec Ideal S1x1024 .f32) (w : Vec Ideal S1024x1024 .bf16) (b : Vec Ideal S1x1024 .f32)
    (o : Vec Ideal S512x512 .bf16) (p : Vec Ideal S1x512x1024 .bf16) (r : Fin 512) (d : Fin 1024) :
    k0_pay3 x g w b o p (ix2 r d)
      = Ideal.logistic ((∑ k : Fin 1024, k0_pay2 x g (ix2 r k) * w (ix2 k d)) + b (ix2 0 d)) * ∑ c : Fin 512, o (ix2 r c) * p (ix3 0 c d) := by
  pointwise [k0_pay3]

theorem gate_apply (x : Vec Ideal S512x1024 .f32) (g : Vec Ideal S1x1024 .f32) (w : Vec Ideal S1024x1024 .bf16) (b : Vec Ideal S1x1024 .f32)
    (r : Fin 512) (d : Fin 1024) :
    k0_pay4 x g w b (ix2 r d) = Ideal.logistic ((∑ k : Fin 1024, k0_pay2 x g (ix2 r k) * w (ix2 k d)) + b (ix2 0 d)) := by
  pointwise [k0_pay4]

theorem last_apply (x : Vec Ideal S512x1024 .f32) (h : FVec Ideal S512x1024 .bf16) (t0 t1 : FVec Ideal S512x1024 .f32) (o1 : Vec Ideal S512x512 .bf16)
    (p1 : Vec Ideal S1x512x1024 .bf16) (w : Vec Ideal S1024x1024 .bf16) (b : Vec Ideal S1x1024 .f32) (o2 : Vec Ideal S512x512 .bf16)
    (p2 : Vec Ideal S1x512x1024 .bf16) (O : Vec Ideal S1024x1024 .bf16) (r : Fin 512) (j : Fin 1024) :
    k0_pay1 x h t0 t1 o1 p1 w b o2 p2 O (ix2 r j)
      = x (ix2 r j) + ∑ d : Fin 1024, (t0 (ix2 r d) + t1 (ix2 r d) * (∑ c : Fin 512, o1 (ix2 r c) * p1 (ix3 0 c d))
          + Ideal.logistic ((∑ k : Fin 1024, h (ix2 r k) * w (ix2 k d)) + b (ix2 0 d)) * ∑ c : Fin 512, o2 (ix2 r c) * p2 (ix3 0 c d)) * O (ix2 d j) := by
  pointwise [k0_pay1]

/-- A grid point's output block at an index: the merge of that row. -/
theorem out_apply (x : Vec Ideal S512x1024 .f32) (o0 o1 o2 : Vec Ideal S512x512 .bf16) (g : Vec Ideal S1x1024 .f32) (w : Vec Ideal S1024x3072 .bf16)
    (b : Vec Ideal S3x1024 .f32) (p : Vec Ideal S3x512x1024 .bf16) (O : Vec Ideal S1024x1024 .bf16) (r : Fin 512) (j : Fin 1024) :
    out0_9 x o0 o1 o2 g w b p O (ix2 r j)
      = mergeRow (fun k => x (ix2 r k)) (fun c => o0 (ix2 r c)) (fun c => o1 (ix2 r c)) (fun c => o2 (ix2 r c)) g w b p O j := by
  have hz : (![0, 0] : Fin 2 → Nat) = fun _ => 0 := funext fun a => by fin_cases a <;> rfl
  have e0 : ∀ y : Vec Ideal S512x1024 .f32, View.ld y r0_0 = y := fun y => View.ld_unit_zero hz _ _
  have e1 : ∀ y : Vec Ideal S1x1024 .f32, View.ld y r0_1 = y := fun y => View.ld_unit_zero hz _ _
  have e4 : ∀ y : Vec Ideal S512x512 .bf16, View.ld y r0_4 = y := fun y => View.ld_unit_zero hz _ _
  have e12 : ∀ y : Vec Ideal S1024x1024 .bf16, View.ld y r0_12 = y := fun y => View.ld_unit_zero hz _ _
  have w0 : ∀ k d : Fin 1024, View.ld w r0_2 (ix2 k d) = w (ix2 k ⟨1024 * (0 : Fin 3).val + d.val, by omega⟩) := fun k d => View.ld_unit_apply_of _ _ _ _ _ _ fun a => by fin_cases a <;> simp
  have w1 : ∀ k d : Fin 1024, View.ld w r0_6 (ix2 k d) = w (ix2 k ⟨1024 * (1 : Fin 3).val + d.val, by omega⟩) := fun k d => View.ld_unit_apply_of _ _ _ _ _ _ fun a => by fin_cases a <;> simp
  have w2 : ∀ k d : Fin 1024, View.ld w r0_9 (ix2 k d) = w (ix2 k ⟨1024 * (2 : Fin 3).val + d.val, by omega⟩) := fun k d => View.ld_unit_apply_of _ _ _ _ _ _ fun a => by fin_cases a <;> simp
  have b0 : ∀ d : Fin 1024, View.ld b r0_3 (ix2 0 d) = b (ix2 0 d) := fun d => View.ld_unit_apply_of _ _ _ _ _ _ fun a => by fin_cases a <;> simp
  have b1 : ∀ d : Fin 1024, View.ld b r0_7 (ix2 0 d) = b (ix2 1 d) := fun d => View.ld_unit_apply_of _ _ _ _ _ _ fun a => by fin_cases a <;> simp
  have b2 : ∀ d : Fin 1024, View.ld b r0_10 (ix2 0 d) = b (ix2 2 d) := fun d => View.ld_unit_apply_of _ _ _ _ _ _ fun a => by fin_cases a <;> simp
  have p0 : ∀ (c : Fin 512) (d : Fin 1024), View.ld p r0_5 (ix3 0 c d) = p (ix3 0 c d) := fun c d => View.ld_unit_apply_of _ _ _ _ _ _ fun a => by fin_cases a <;> simp
  have p1 : ∀ (c : Fin 512) (d : Fin 1024), View.ld p r0_8 (ix3 0 c d) = p (ix3 1 c d) := fun c d => View.ld_unit_apply_of _ _ _ _ _ _ fun a => by fin_cases a <;> simp
  have p2 : ∀ (c : Fin 512) (d : Fin 1024), View.ld p r0_11 (ix3 0 c d) = p (ix3 2 c d) := fun c d => View.ld_unit_apply_of _ _ _ _ _ _ fun a => by fin_cases a <;> simp
  unfold out0_9
  rw [View.canon_unit_zero hz]
  simp only [e0, e1, e4, e12]
  rw [last_apply]
  simp only [first_apply, gate_apply, norm_apply, w0, w1, w2, b0, b1, b2, p0, p1, p2]
  rfl

/-! ## From blocks to arrays -/

/-- Each window's block index at each grid point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0, 0] ∧ win0_8.index t = ![0, 0]
    ∧ win0_9.index t = ![t.val, 0] :=
  (by decide +kernel : ∀ t : Fin grid0.N, _)

variable (m : (ℓ : Loc nD τ sig) → Buf (Elt Ideal) ℓ)

/-- The result array is the merge of the argument arrays. -/
theorem final (c : Dev nD) :
    (dats m 0 c).arrAt 9 cfg0.N = merge (V m c main_arg0) (V m c main_arg1) (V m c main_arg2) (V m c main_arg3) (V m c main_arg4)
      (V m c main_arg5) (V m c main_arg6) (V m c main_arg7) (V m c main_arg8) := by
  refine (dats m 0 c).arrAt_eq_of_covers 9 _ (by decide +kernel) fun t hf y => ?_
  obtain ⟨i0, i1, i2, i3, i4, i5, i6, i7, i8, i9⟩ := idx t
  have ht : t.val < 64 := t.isLt
  idx_vars y
  rw [after0_9]
  blk_simp
  have he : (win0_9.blk t).view.emb (ix2 y0 y1) = ix2 ⟨512 * t.val + y0.val, by omega⟩ y1 := by
    blk_ext [i9]
  have h0 : ∀ k : Fin 1024, iblk m c 0 t (ix2 y0 k) = V m c main_arg0 (ix2 ⟨512 * t.val + y0.val, by omega⟩ k) := fun k => by blk_ext [iblk, i0]
  have h1 : ∀ k : Fin 512, iblk m c 1 t (ix2 y0 k) = V m c main_arg1 (ix2 ⟨512 * t.val + y0.val, by omega⟩ k) := fun k => by blk_ext [iblk, i1]
  have h2 : ∀ k : Fin 512, iblk m c 2 t (ix2 y0 k) = V m c main_arg2 (ix2 ⟨512 * t.val + y0.val, by omega⟩ k) := fun k => by blk_ext [iblk, i2]
  have h3 : ∀ k : Fin 512, iblk m c 3 t (ix2 y0 k) = V m c main_arg3 (ix2 ⟨512 * t.val + y0.val, by omega⟩ k) := fun k => by blk_ext [iblk, i3]
  have h4 : iblk m c 4 t = V m c main_arg4 := by funext j; blk_ext [iblk, i4]
  have h5 : iblk m c 5 t = V m c main_arg5 := by funext j; blk_ext [iblk, i5]
  have h6 : iblk m c 6 t = V m c main_arg6 := by funext j; blk_ext [iblk, i6]
  have h7 : iblk m c 7 t = V m c main_arg7 := by funext j; blk_ext [iblk, i7]
  have h8 : iblk m c 8 t = V m c main_arg8 := by funext j; blk_ext [iblk, i8]
  refine Eq.trans ?_ (congrArg (merge _ _ _ _ _ _ _ _ _) he).symm
  rw [out_apply, h4, h5, h6, h7, h8]
  simp only [h0, h1, h2, h3]
  rfl

end Cert.MergeIdeal.Final
-- ==== Proof.MergeReference.lean ====
/- The merge reference: its composed term as five named steps, each read at an index, together the merge. -/
module

public import proofs.«01_k».proof.Proof.Rows
public import proofs.«01_k».proof.Proof.Gen.MergeRefIdeal.Run
public import Idealize.ShloMosaic.Lib.Pointwise

@[expose] public section

set_option maxRecDepth 16384
noncomputable section

namespace Cert.MergeRefIdeal.Reference
open Cert.MergeRefIdeal Cert.MergeRefIdeal.Gen Cert.Proof.Rows
open Idealize.ShloMosaic Idealize.ShloMosaic.TcCoe Idealize.SL.Sem Idealize.ShloMosaic.StableHlo

variable {F : FTy → Type} [FloatOps F]

/-- The input's rows normalised. -/
def rows (A0 : FVec F S32768x1024 .f32) (A4 : FVec F S1x1024 .f32) : FVec F S32768x1024 .f32 :=
  mulf (mulf A0 (broadcastInDim S32768x1024 ![0, 1] bcast_S32768x1_S32768x1024_0_1 (Host.rsqrt (addf (Host.divf (broadcastInDim S32768x1 ![0] bcast_S32768_S32768x1_0 (Host.reduceAdd (mulf A0 A0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ A4 shapeCasts_S1x1024_S1024)))

/-- Each branch's gate. -/
def gates (A5 : FVec F S1024x3072 .bf16) (A6 : FVec F S3x1024 .f32) (h : FVec F S32768x1024 .f32) : FVec F S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32)) (Host.exp (Host.negf (addf (shapeCast _ (Host.dotGeneral dot_S32768x1024_S1024x3072_S32768x3072_1_0_0_1_n_n none h (extf .f32 A5 bitsLt_bf16_f32)) shapeCasts_S32768x3072_S32768x3x1024) (broadcastInDim S32768x3x1024 ![0, 1, 2] bcast_S1x3x1024_S32768x3x1024_0_1_2 (broadcastInDim S1x3x1024 ![1, 2] bcast_S3x1024_S1x3x1024_1_2 A6))))))

/-- The three branches' outputs, one beside the other. -/
def stacked (A1 A2 A3 : FVec F S32768x512 .bf16) : FVec F S32768x3x512 .f32 :=
  concatenate S32768x3x512 1 [⟨S32768x1x512, ((broadcastInDim S32768x1x512 ![0, 2] bcast_S32768x512_S32768x1x512_0_2 (extf .f32 A1 bitsLt_bf16_f32)) : (⟨S32768x1x512, .f32⟩ : BufTy).Contents (Elt F))⟩, ⟨S32768x1x512, ((broadcastInDim S32768x1x512 ![0, 2] bcast_S32768x512_S32768x1x512_0_2 (extf .f32 A2 bitsLt_bf16_f32)) : (⟨S32768x1x512, .f32⟩ : BufTy).Contents (Elt F))⟩, ⟨S32768x1x512, ((broadcastInDim S32768x1x512 ![0, 2] bcast_S32768x512_S32768x1x512_0_2 (extf .f32 A3 bitsLt_bf16_f32)) : (⟨S32768x1x512, .f32⟩ : BufTy).Contents (Elt F))⟩] concatenates_S32768x1x512_S32768x1x512_S32768x1x512_S32768x3x512_d1

/-- Each branch's projection. -/
def branches (A7 : FVec F S3x512x1024 .bf16) (o : FVec F S32768x3x512 .f32) : FVec F S32768x3x1024 .f32 :=
  transpose S32768x3x1024 [2, 0, 1] (Host.dotGeneral dot_S3x512x1024_S32768x3x512_S3x1024x32768_1_2_2_0_0_1 none (extf .f32 A7 bitsLt_bf16_f32) o) transposes_S3x1024x32768_S32768x3x1024_2_0_1

/-- The gated projections summed, projected and added to the input. -/
def joined (A0 : FVec F S32768x1024 .f32) (A8 : FVec F S1024x1024 .bf16) (g b : FVec F S32768x3x1024 .f32) : FVec F S32768x1024 .f32 :=
  addf A0 (Host.dotGeneral dot_S32768x1024_S1024x1024_S32768x1024_1_0_0_1_n_n none (Host.reduceAdd (mulf g b) (constant S_ .f32 0x00000000#32) reducesTo_S32768x3x1024_S32768x1024_d1 h_S_) (extf .f32 A8 bitsLt_bf16_f32))

/-- The steps in order. -/
def whole (A0 : FVec F S32768x1024 .f32) (A1 A2 A3 : FVec F S32768x512 .bf16) (A4 : FVec F S1x1024 .f32) (A5 : FVec F S1024x3072 .bf16) (A6 : FVec F S3x1024 .f32) (A7 : FVec F S3x512x1024 .bf16) (A8 : FVec F S1024x1024 .bf16) : FVec F S32768x1024 .f32 :=
  joined A0 A8 (gates A5 A6 (rows A0 A4)) (branches A7 (stacked A1 A2 A3))

/-! ## Each step at an index -/

theorem rows_apply (A0 : FVec Ideal S32768x1024 .f32) (A4 : FVec Ideal S1x1024 .f32) (t : Fin 32768) (k : Fin 1024) :
    rows A0 A4 (ix2 t k) = normRow (fun k => A0 (ix2 t k)) A4 k := by
  pointwise [rows, normRow]

theorem gates_apply (A5 : FVec Ideal S1024x3072 .bf16) (A6 : FVec Ideal S3x1024 .f32) (h : FVec Ideal S32768x1024 .f32) (t : Fin 32768) (n : Fin 3) (d : Fin 1024) :
    gates A5 A6 h (ix3 t n d)
      = Ideal.logistic ((∑ k : Fin 1024, h (ix2 t k) * A5 (ix2 k ⟨1024 * n.val + d.val, by omega⟩)) + A6 (ix2 n d)) := by
  pointwise [gates, Ideal.logistic]
  simp only [Nat.mul_comm n.val]

theorem stacked_apply (A1 A2 A3 : FVec Ideal S32768x512 .bf16) (t : Fin 32768) (c : Fin 512) :
    stacked A1 A2 A3 (ix3 t 0 c) = A1 (ix2 t c) ∧ stacked A1 A2 A3 (ix3 t 1 c) = A2 (ix2 t c) ∧ stacked A1 A2 A3 (ix3 t 2 c) = A3 (ix2 t c) := by
  refine ⟨?_, ?_, ?_⟩ <;> pointwise [stacked]

theorem branches_apply (A7 : FVec Ideal S3x512x1024 .bf16) (o : FVec Ideal S32768x3x512 .f32) (t : Fin 32768) (n : Fin 3) (d : Fin 1024) :
    branches A7 o (ix3 t n d) = (∑ c : Fin 512, A7 (ix3 n c d) * o (ix3 t n c) : EReal) := by
  pointwise [branches]

theorem joined_apply (A0 : FVec Ideal S32768x1024 .f32) (A8 : FVec Ideal S1024x1024 .bf16) (g b : FVec Ideal S32768x3x1024 .f32) (t : Fin 32768) (j : Fin 1024) :
    joined A0 A8 g b (ix2 t j) = (A0 (ix2 t j) + ∑ d : Fin 1024, (∑ n : Fin 3, g (ix3 t n d) * b (ix3 t n d)) * A8 (ix2 d j) : EReal) := by
  pointwise [joined]

/-- The reference's term is the merge of its arguments. -/
theorem whole_eq (A0 : FVec Ideal S32768x1024 .f32) (A1 A2 A3 : FVec Ideal S32768x512 .bf16) (A4 : FVec Ideal S1x1024 .f32) (A5 : FVec Ideal S1024x3072 .bf16)
    (A6 : FVec Ideal S3x1024 .f32) (A7 : FVec Ideal S3x512x1024 .bf16) (A8 : FVec Ideal S1024x1024 .bf16) :
    whole A0 A1 A2 A3 A4 A5 A6 A7 A8 = merge A0 A1 A2 A3 A4 A5 A6 A7 A8 := by
  funext i
  idx_vars i
  have ht : ∀ (o : Fin 512 → EReal) (n : Fin 3) (d : Fin 1024), (∀ c, stacked A1 A2 A3 (ix3 i0 n c) = o c) →
      gates A5 A6 (rows A0 A4) (ix3 i0 n d) * branches A7 (stacked A1 A2 A3) (ix3 i0 n d) = term (fun k => A0 (ix2 i0 k)) o A4 A5 A6 A7 n d := by
    intro o n d ho
    rw [gates_apply, branches_apply]
    unfold term
    simp only [rows_apply, ho, mul_comm (A7 _)]
  unfold whole
  rw [joined_apply]
  change _ = mergeRow _ _ _ _ _ _ _ _ _ i1
  unfold mergeRow
  congr 1
  refine Finset.sum_congr rfl fun d _ => ?_
  rw [Fin.sum_univ_three, ht _ 0 d fun c => (stacked_apply A1 A2 A3 i0 c).1, ht _ 1 d fun c => (stacked_apply A1 A2 A3 i0 c).2.1,
    ht _ 2 d fun c => (stacked_apply A1 A2 A3 i0 c).2.2]
  rfl

end Cert.MergeRefIdeal.Reference
-- ==== Proof.FfnRows.lean ====
/- The gated feed-forward's result at an index, as a function of its arguments. -/
module

public import proofs.«01_k».proof.Proof.Rows

@[expose] public section

noncomputable section

namespace Cert.Proof.FfnRows
open Idealize.ShloMosaic Cert.Proof.Rows

/-- The convolution of three rows of one column, through the gate, times the second half's product. -/
def gated (cb w0 s0 w1 s1 w2 s2 u : EReal) : EReal :=
  (cb + w0 * s0 + w1 * s1 + w2 * s2) * Ideal.logistic (cb + w0 * s0 + w1 * s1 + w2 * s2) * u

/-- A normalised row against column `j` of the up-projection. -/
def proj (x : Fin 1024 → EReal) (g : (⟨2, ![1, 1024]⟩ : Shape).Idx → EReal) (W : (⟨2, ![1024, 5632]⟩ : Shape).Idx → EReal)
    (j : Fin 5632) : EReal :=
  ∑ k, normRow x g k * W (ix2 k j)

/-- The first half of the up-projection, at a column of that half. -/
def low (j : Fin 2816) : Fin 5632 := ⟨j.val, by omega⟩

/-- The second half of the up-projection, at a column of that half. -/
def high (j : Fin 2816) : Fin 5632 := ⟨2816 + j.val, by omega⟩

/-- The result of one row at column `d`: the row `x`, and what the first half holds two rows, one row and no row up. -/
def ffnRow (x : Fin 1024 → EReal) (s0 s1 s2 : Fin 2816 → EReal) (g : (⟨2, ![1, 1024]⟩ : Shape).Idx → EReal)
    (W : (⟨2, ![1024, 5632]⟩ : Shape).Idx → EReal) (cw : (⟨2, ![3, 2816]⟩ : Shape).Idx → EReal)
    (cb : (⟨2, ![1, 2816]⟩ : Shape).Idx → EReal) (D : (⟨2, ![2816, 1024]⟩ : Shape).Idx → EReal) (d : Fin 1024) : EReal :=
  x d + ∑ j : Fin 2816, gated (cb (ix2 0 j)) (cw (ix2 0 j)) (s0 j) (cw (ix2 1 j)) (s1 j) (cw (ix2 2 j)) (s2 j) (proj x g W (high j)) * D (ix2 j d)

/-- The first half's product at row `s` of batch `b`. -/
def first (X : (⟨3, ![2, 16384, 1024]⟩ : Shape).Idx → EReal) (g : (⟨2, ![1, 1024]⟩ : Shape).Idx → EReal)
    (W : (⟨2, ![1024, 5632]⟩ : Shape).Idx → EReal) (b : Fin 2) (s : Fin 16384) (j : Fin 2816) : EReal :=
  proj (fun k => X (ix3 b s k)) g W (low j)

/-- The same `n` rows up: nothing before the first row. -/
def back (X : (⟨3, ![2, 16384, 1024]⟩ : Shape).Idx → EReal) (g : (⟨2, ![1, 1024]⟩ : Shape).Idx → EReal)
    (W : (⟨2, ![1024, 5632]⟩ : Shape).Idx → EReal) (b : Fin 2) (n : Nat) (s : Fin 16384) (j : Fin 2816) : EReal :=
  if s.val < n then 0 else first X g W b ⟨s.val - n, by omega⟩ j

/-- The feed-forward's result array. -/
def ffn (X : (⟨3, ![2, 16384, 1024]⟩ : Shape).Idx → EReal) (g : (⟨2, ![1, 1024]⟩ : Shape).Idx → EReal)
    (W : (⟨2, ![1024, 5632]⟩ : Shape).Idx → EReal) (cw : (⟨2, ![3, 2816]⟩ : Shape).Idx → EReal)
    (cb : (⟨2, ![1, 2816]⟩ : Shape).Idx → EReal) (D : (⟨2, ![2816, 1024]⟩ : Shape).Idx → EReal) :
    (⟨3, ![2, 16384, 1024]⟩ : Shape).Idx → EReal := fun i =>
  ffnRow (fun k => X (ix3 (i 0) (i 1) k)) (back X g W (i 0) 2 (i 1)) (back X g W (i 0) 1 (i 1)) (first X g W (i 0) (i 1)) g W cw cb D (i 2)

/-- The last eight rows of the first half's product. -/
def tail (X : (⟨3, ![2, 16384, 1024]⟩ : Shape).Idx → EReal) (g : (⟨2, ![1, 1024]⟩ : Shape).Idx → EReal)
    (W : (⟨2, ![1024, 5632]⟩ : Shape).Idx → EReal) : (⟨3, ![2, 8, 2816]⟩ : Shape).Idx → EReal := fun i =>
  first X g W (i 0) ⟨16376 + (i 1).val, by have := (i 1).isLt; simp at this; omega⟩ (i 2)

end Cert.Proof.FfnRows
-- ==== Proof.FfnBlock.lean ====
/- One grid point of the feed-forward kernel: the column chunks of 256 one after another, each storing its columns below
the carried rows of the scratch and reading them back zero, one and two rows up. -/
module

public import proofs.«01_k».proof.Proof.FfnRows
public import proofs.«01_k».proof.Proof.Gen.FfnIdeal.Value
public import Idealize.ShloMosaic.Lib.WritesUnit
public import Idealize.ShloMosaic.Lib.Pointwise
public import Idealize.ShloMosaic.Lib.Pipeline.ValueKit

@[expose] public section

set_option maxRecDepth 16384
noncomputable section

namespace Cert.FfnIdeal.Block
open Cert.FfnIdeal Cert.FfnIdeal.Gen Cert.Proof.Rows Cert.Proof.FfnRows
open Idealize.ShloMosaic Idealize.ShloMosaic.TcCoe Idealize.SL.Sem
open Idealize.ShloMosaic.Pipeline (Dat)

/-! ## One chunk of columns -/

/-- A chunk's contribution added to the accumulator, on the vectors it loads. -/
def chunk (acc : FVec Ideal S512x1024 .f32) (h : FVec Ideal S512x1024 .bf16) (cb w0 : Vec Ideal S1x256 .f32) (s0 : Vec Ideal S512x256 .f32)
    (w1 : Vec Ideal S1x256 .f32) (s1 : Vec Ideal S512x256 .f32) (w2 : Vec Ideal S1x256 .f32) (s2 : Vec Ideal S512x256 .f32)
    (up : Vec Ideal S1024x256 .bf16) (dn : Vec Ideal S256x1024 .bf16) : FVec Ideal S512x1024 .f32 :=
  k0_pay9 acc h (k0_pay8 cb w0 s0) w1 s1 w2 s2 up dn

theorem chunk_apply (acc : FVec Ideal S512x1024 .f32) (h : FVec Ideal S512x1024 .bf16) (cb w0 : Vec Ideal S1x256 .f32) (s0 : Vec Ideal S512x256 .f32)
    (w1 : Vec Ideal S1x256 .f32) (s1 : Vec Ideal S512x256 .f32) (w2 : Vec Ideal S1x256 .f32) (s2 : Vec Ideal S512x256 .f32)
    (up : Vec Ideal S1024x256 .bf16) (dn : Vec Ideal S256x1024 .bf16) (r : Fin 512) (d : Fin 1024) :
    chunk acc h cb w0 s0 w1 s1 w2 s2 up dn (ix2 r d)
      = acc (ix2 r d) + ∑ c : Fin 256,
          gated (cb (ix2 0 c)) (w0 (ix2 0 c)) (s0 (ix2 r c)) (w1 (ix2 0 c)) (s1 (ix2 r c)) (w2 (ix2 0 c)) (s2 (ix2 r c))
            (∑ k : Fin 1024, h (ix2 r k) * up (ix2 k c)) * dn (ix2 c d) := by
  pointwise [chunk, k0_pay9, k0_pay8, gated]

theorem norm_apply (x : Vec Ideal S1x512x1024 .f32) (g : Vec Ideal S1x1024 .f32) (r : Fin 512) (k : Fin 1024) :
    k0_pay6 x g (ix2 r k) = normRow (fun k => x (ix3 0 r k)) g k := by
  pointwise [k0_pay6, k0_pay5, normRow]

theorem first_apply (x : Vec Ideal S1x512x1024 .f32) (r : Fin 512) (d : Fin 1024) : k0_pay5 x (ix2 r d) = x (ix3 0 r d) := by
  pointwise [k0_pay5]

theorem proj_apply (h : FVec Ideal S512x1024 .bf16) (w : Vec Ideal S1024x256 .bf16) (r : Fin 512) (c : Fin 256) :
    k0_pay10 h w (ix2 r c) = ∑ k : Fin 1024, h (ix2 r k) * w (ix2 k c) := by
  pointwise [k0_pay10]

/-! ## The scratch read back -/

/-- The pieces leave `a` below the eight carried rows in the columns before `n`, whatever the buffer held. -/
def Body (L : List (View.Piece (Elt Ideal) S520x2816 .f32)) (n : Nat) (a : Fin 512 → Fin 2816 → EReal) : Prop :=
  ∀ (v : View sig .tc .vmem S520x2816 .f32) (f : v.ty.Contents (Elt Ideal)) (r : Fin 512) (j : Fin 2816), j.val < n →
    v.read (Elt Ideal) (v.writes (Elt Ideal) f L) (ix2 ⟨8 + r.val, by omega⟩ j) = a r j

/-- The pieces over `f` leave `p` in the eight carried rows. -/
def Head (v : View sig .tc .vmem S520x2816 .f32) (f : v.ty.Contents (Elt Ideal)) (L : List (View.Piece (Elt Ideal) S520x2816 .f32))
    (p : Fin 8 → Fin 2816 → EReal) : Prop :=
  ∀ (q : Fin 8) (j : Fin 2816), v.read (Elt Ideal) (v.writes (Elt Ideal) f L) (ix2 ⟨q.val, by omega⟩ j) = p q j

theorem body_cons {L : List (View.Piece (Elt Ideal) S520x2816 .f32)} {a : Fin 512 → Fin 2816 → EReal} (o : Nat) (ho : o + 256 ≤ 2816)
    (h : Body L o a) (inb : ∀ i, (![8, o] : Fin 2 → Nat) i + S512x256.size i ≤ S520x2816.size i) (w : Vec Ideal S512x256 .f32)
    (hw : ∀ (r : Fin 512) (c : Fin 256), w (ix2 r c) = a r ⟨o + c.val, by omega⟩) :
    Body (⟨Rect.unit ![8, o] S512x256.size inb, w⟩ :: L) (o + 256) a := by
  intro v f r j hj
  by_cases hlt : j.val < o
  · rw [View.read_writes_cons_unit_of_not_mem (s := S520x2816) v f inb w L _ rfl 1 (Or.inl hlt)]
    exact h v f r j hlt
  · rw [View.read_writes_cons_unit_of_mem (s := S520x2816) v f inb w L _ (ix2 r ⟨j.val - o, by omega⟩) rfl (fun i => by
      fin_cases i
      · rfl
      · show j.val = o + (j.val - o); omega)]
    rw [hw]
    exact congrArg (a r) (Fin.ext (by show o + (j.val - o) = j.val; omega))

theorem head_cons {v : View sig .tc .vmem S520x2816 .f32} {f : v.ty.Contents (Elt Ideal)} {L : List (View.Piece (Elt Ideal) S520x2816 .f32)}
    {p : Fin 8 → Fin 2816 → EReal} (h : Head v f L p) (o : Nat)
    (inb : ∀ i, (![8, o] : Fin 2 → Nat) i + S512x256.size i ≤ S520x2816.size i) (w : Vec Ideal S512x256 .f32) :
    Head v f (⟨Rect.unit ![8, o] S512x256.size inb, w⟩ :: L) p := by
  intro q j
  rw [View.read_writes_cons_unit_of_not_mem (s := S520x2816) v f inb w L _ rfl 0 (Or.inl (show q.val < 8 from q.isLt))]
  exact h q j

/-- Row `r` of the first half `n` rows up: the carried rows before the tile's first. -/
def lag (p : Fin 8 → Fin 2816 → EReal) (a : Fin 512 → Fin 2816 → EReal) (n : Fin 9) (r : Fin 512) (j : Fin 2816) : EReal :=
  if h : r.val < n.val then p ⟨8 - n.val + r.val, by omega⟩ j else a ⟨r.val - n.val, by omega⟩ j

theorem read_lag {v : View sig .tc .vmem S520x2816 .f32} {f : v.ty.Contents (Elt Ideal)} {L : List (View.Piece (Elt Ideal) S520x2816 .f32)}
    {p : Fin 8 → Fin 2816 → EReal} {a : Fin 512 → Fin 2816 → EReal} (o : Nat) (ho : o + 256 ≤ 2816) (hb : Body L (o + 256) a) (hh : Head v f L p)
    (m : Nat) (n : Fin 9) (hm : m + n.val = 8) (inb : ∀ i, (![m, o] : Fin 2 → Nat) i + S512x256.size i ≤ S520x2816.size i) (r : Fin 512) (c : Fin 256) :
    View.readAt (Elt Ideal) v (Rect.unit (s := S520x2816) ![m, o] S512x256.size inb).toLoadRect (v.writes (Elt Ideal) f L) (ix2 r c)
      = lag p a n r ⟨o + c.val, by omega⟩ := by
  have he : ∀ y : Vec Ideal S520x2816 .f32, View.ld y (Rect.unit (s := S520x2816) ![m, o] S512x256.size inb) (ix2 r c)
      = y (ix2 ⟨m + r.val, by omega⟩ ⟨o + c.val, by omega⟩) := fun y => View.ld_unit_apply_of _ _ _ _ _ _ fun i => by fin_cases i <;> rfl
  rw [View.readAt_eq_ld]
  refine (he _).trans ?_
  unfold lag
  by_cases h : r.val < n.val
  · rw [dif_pos h, ← hh]
    exact congrArg (fun z => v.read (Elt Ideal) (v.writes (Elt Ideal) f L) (ix2 z _)) (Fin.ext (by show m + r.val = 8 - n.val + r.val; omega))
  · rw [dif_neg h, ← hb v f _ _ (by show o + c.val < o + 256; omega)]
    exact congrArg (fun z => v.read (Elt Ideal) (v.writes (Elt Ideal) f L) (ix2 z _)) (Fin.ext (by show m + r.val = 8 + (r.val - n.val); omega))

theorem read_body {v : View sig .tc .vmem S520x2816 .f32} {f : v.ty.Contents (Elt Ideal)} {L : List (View.Piece (Elt Ideal) S520x2816 .f32)}
    {a : Fin 512 → Fin 2816 → EReal} (o : Nat) (ho : o + 256 ≤ 2816) (hb : Body L (o + 256) a)
    (inb : ∀ i, (![8, o] : Fin 2 → Nat) i + S512x256.size i ≤ S520x2816.size i) (r : Fin 512) (c : Fin 256) :
    View.readAt (Elt Ideal) v (Rect.unit (s := S520x2816) ![8, o] S512x256.size inb).toLoadRect (v.writes (Elt Ideal) f L) (ix2 r c)
      = a r ⟨o + c.val, by omega⟩ := by
  have he : ∀ y : Vec Ideal S520x2816 .f32, View.ld y (Rect.unit (s := S520x2816) ![8, o] S512x256.size inb) (ix2 r c)
      = y (ix2 ⟨8 + r.val, by omega⟩ ⟨o + c.val, by omega⟩) := fun y => View.ld_unit_apply_of _ _ _ _ _ _ fun i => by fin_cases i <;> rfl
  rw [View.readAt_eq_ld]
  refine (he _).trans ?_
  exact hb v f r _ (by show o + c.val < o + 256; omega)

/-! ## One chunk's step -/

theorem inb2 {m n a b A B : Nat} (h : m + a ≤ A) (h' : n + b ≤ B) : ∀ i : Fin 2, (![m, n] : Fin 2 → Nat) i + (![a, b] : Fin 2 → Nat) i ≤ (![A, B] : Fin 2 → Nat) i := by
  intro i; fin_cases i
  · exact h
  · exact h'

/-- The chunk of columns from `o`: its loads from the argument blocks, and from the scratch after the pieces `L`, read over
`f` two rows and one row up and over `g` in place. -/
def step (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole)
    (v : View sig .tc .vmem S520x2816 .f32) (x2 : Vec Ideal S1024x5632 .bf16) (x3 : Vec Ideal S3x2816 .f32) (x4 : Vec Ideal S1x2816 .f32) (x5 : Vec Ideal S2816x1024 .bf16)
    (h : FVec Ideal S512x1024 .bf16) (o : Nat) (ho : o + 256 ≤ 2816) (f g : v.ty.Contents (Elt Ideal)) (L : List (View.Piece (Elt Ideal) S520x2816 .f32))
    (acc : FVec Ideal S512x1024 .f32) : FVec Ideal S512x1024 .f32 :=
  chunk acc h
    (View.readAt (Elt Ideal) arg6.view (Rect.unit (s := S1x2816) ![0, o] S1x256.size (inb2 (by omega) ho)).toLoadRect (harg6.unread x4))
    (View.readAt (Elt Ideal) arg5.view (Rect.unit (s := S3x2816) ![0, o] S1x256.size (inb2 (by omega) ho)).toLoadRect (harg5.unread x3))
    (View.readAt (Elt Ideal) v (Rect.unit (s := S520x2816) ![6, o] S512x256.size (inb2 (by omega) ho)).toLoadRect (v.writes (Elt Ideal) f L))
    (View.readAt (Elt Ideal) arg5.view (Rect.unit (s := S3x2816) ![1, o] S1x256.size (inb2 (by omega) ho)).toLoadRect (harg5.unread x3))
    (View.readAt (Elt Ideal) v (Rect.unit (s := S520x2816) ![7, o] S512x256.size (inb2 (by omega) ho)).toLoadRect (v.writes (Elt Ideal) f L))
    (View.readAt (Elt Ideal) arg5.view (Rect.unit (s := S3x2816) ![2, o] S1x256.size (inb2 (by omega) ho)).toLoadRect (harg5.unread x3))
    (View.readAt (Elt Ideal) v (Rect.unit (s := S520x2816) ![8, o] S512x256.size (inb2 (by omega) ho)).toLoadRect (v.writes (Elt Ideal) g L))
    (View.readAt (Elt Ideal) arg4.view (Rect.unit (s := S1024x5632) ![0, 2816 + o] S1024x256.size (inb2 (by omega) (by omega))).toLoadRect (harg4.unread x2))
    (View.readAt (Elt Ideal) arg7.view (Rect.unit (s := S2816x1024) ![o, 0] S256x1024.size (inb2 (by omega) (by omega))).toLoadRect (harg7.unread x5))

/-- What column `j` adds to the result of row `r` at column `d`. -/
def part (h : FVec Ideal S512x1024 .bf16) (p : Fin 8 → Fin 2816 → EReal) (a : Fin 512 → Fin 2816 → EReal)
    (x2 : Vec Ideal S1024x5632 .bf16) (x3 : Vec Ideal S3x2816 .f32) (x4 : Vec Ideal S1x2816 .f32) (x5 : Vec Ideal S2816x1024 .bf16) (r : Fin 512) (d : Fin 1024) (j : Nat) : EReal :=
  if hj : j < 2816 then
    gated (x4 (ix2 0 ⟨j, hj⟩)) (x3 (ix2 0 ⟨j, hj⟩)) (lag p a 2 r ⟨j, hj⟩) (x3 (ix2 1 ⟨j, hj⟩)) (lag p a 1 r ⟨j, hj⟩) (x3 (ix2 2 ⟨j, hj⟩)) (a r ⟨j, hj⟩)
      (∑ k : Fin 1024, h (ix2 r k) * x2 (ix2 k (high ⟨j, hj⟩))) * x5 (ix2 ⟨j, hj⟩ d)
  else 0

theorem step_apply (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole)
    (v : View sig .tc .vmem S520x2816 .f32) (x2 : Vec Ideal S1024x5632 .bf16) (x3 : Vec Ideal S3x2816 .f32) (x4 : Vec Ideal S1x2816 .f32) (x5 : Vec Ideal S2816x1024 .bf16)
    (h : FVec Ideal S512x1024 .bf16) (o : Nat) (ho : o + 256 ≤ 2816) (f g : v.ty.Contents (Elt Ideal)) (L : List (View.Piece (Elt Ideal) S520x2816 .f32))
    (acc : FVec Ideal S512x1024 .f32) (p : Fin 8 → Fin 2816 → EReal) (a : Fin 512 → Fin 2816 → EReal) (hb : Body L (o + 256) a) (hh : Head v f L p)
    (r : Fin 512) (d : Fin 1024) (e : EReal) (hacc : acc (ix2 r d) = e + ∑ j ∈ Finset.range o, part h p a x2 x3 x4 x5 r d j) :
    step arg4 harg4 arg5 harg5 arg6 harg6 arg7 harg7 v x2 x3 x4 x5 h o ho f g L acc (ix2 r d)
      = e + ∑ j ∈ Finset.range (o + 256), part h p a x2 x3 x4 x5 r d j := by
  have r4 := harg4.read_unread (Val := Elt Ideal) x2
  have r5 := harg5.read_unread (Val := Elt Ideal) x3
  have r6 := harg6.read_unread (Val := Elt Ideal) x4
  have r7 := harg7.read_unread (Val := Elt Ideal) x5
  have ecb : ∀ c : Fin 256, View.readAt (Elt Ideal) arg6.view (Rect.unit (s := S1x2816) ![0, o] S1x256.size (inb2 (by omega) ho)).toLoadRect (harg6.unread x4) (ix2 0 c)
      = x4 (ix2 0 ⟨o + c.val, by omega⟩) := fun c => by
    rw [View.readAt_eq_ld, r6]
    exact View.ld_unit_apply_of _ _ _ _ _ _ fun i => by fin_cases i <;> rfl
  have ew : ∀ (m : Fin 3) (c : Fin 256), View.readAt (Elt Ideal) arg5.view (Rect.unit (s := S3x2816) ![m.val, o] S1x256.size (inb2 (by omega) ho)).toLoadRect (harg5.unread x3) (ix2 0 c)
      = x3 (ix2 m ⟨o + c.val, by omega⟩) := fun m c => by
    rw [View.readAt_eq_ld, r5]
    exact View.ld_unit_apply_of _ _ _ _ _ _ fun i => by fin_cases i <;> rfl
  have eu : ∀ (k : Fin 1024) (c : Fin 256), View.readAt (Elt Ideal) arg4.view (Rect.unit (s := S1024x5632) ![0, 2816 + o] S1024x256.size (inb2 (by omega) (by omega))).toLoadRect (harg4.unread x2) (ix2 k c)
      = x2 (ix2 k (high ⟨o + c.val, by omega⟩)) := fun k c => by
    rw [View.readAt_eq_ld, r4]
    refine View.ld_unit_apply_of _ _ _ _ _ _ fun i => ?_
    fin_cases i
    · exact (Nat.zero_add _).symm
    · exact (Nat.add_assoc 2816 o c.val).symm
  have ed : ∀ c : Fin 256, View.readAt (Elt Ideal) arg7.view (Rect.unit (s := S2816x1024) ![o, 0] S256x1024.size (inb2 (by omega) (by omega))).toLoadRect (harg7.unread x5) (ix2 c d)
      = x5 (ix2 ⟨o + c.val, by omega⟩ d) := fun c => by
    rw [View.readAt_eq_ld, r7]
    refine View.ld_unit_apply_of _ _ _ _ _ _ fun i => ?_
    fin_cases i
    · rfl
    · exact (Nat.zero_add _).symm
  unfold step
  rw [chunk_apply, hacc, Finset.sum_range_add, add_assoc]
  congr 2
  rw [Finset.sum_range]
  refine Finset.sum_congr rfl fun c _ => ?_
  unfold part
  rw [dif_pos (by omega)]
  rw [ecb, ed]
  refine congrArg₂ (· * ·) ?_ rfl
  have e0 := ew 0 c
  have e1 := ew 1 c
  have e2 := ew 2 c
  have l2 := read_lag o ho hb hh 6 2 rfl (inb2 (by omega) ho) r c
  have l1 := read_lag o ho hb hh 7 1 rfl (inb2 (by omega) ho) r c
  have l0 := read_body (f := g) (v := v) o ho hb (inb2 (by omega) ho) r c
  have esum := Finset.sum_congr (rfl : (Finset.univ : Finset (Fin 1024)) = Finset.univ) fun k _ => congrArg (h (ix2 r k) * ·) (eu k c)
  exact congr (congr (congr (congr (congr (congr (congrArg (gated _) e0) l2) e1) l1) e2) l0) esum

end Cert.FfnIdeal.Block
-- ==== Proof.FfnCases.lean ====
/- The two cases of the feed-forward kernel's grid points: a batch's first tile, and a later one with the rows carried
into it. -/
module

public import proofs.«01_k».proof.Proof.FfnBlock

@[expose] public section

set_option maxRecDepth 16384
noncomputable section

namespace Cert.FfnIdeal.Block
open Cert.FfnIdeal Cert.FfnIdeal.Gen Cert.Proof.Rows Cert.Proof.FfnRows
open Idealize.ShloMosaic Idealize.ShloMosaic.TcCoe Idealize.SL.Sem
open Idealize.ShloMosaic.Pipeline (Dat)

/-- The tile's first half of the up-projection. -/
def half (x0 : Vec Ideal S1x512x1024 .f32) (x1 : Vec Ideal S1x1024 .f32) (x2 : Vec Ideal S1024x5632 .bf16) (r : Fin 512) (j : Fin 2816) : EReal :=
  proj (fun k => x0 (ix3 0 r k)) x1 x2 (low j)

theorem hz2 : (![0, 0] : Fin 2 → Nat) = fun _ => 0 := funext fun a => by fin_cases a <;> rfl

theorem hz3 : (![0, 0, 0] : Fin 3 → Nat) = fun _ => 0 := funext fun a => by fin_cases a <;> rfl

/-- The normalised rows, on the blocks loaded whole. -/
theorem norm_eq (arg2 : Memref sig .tc .vmem S1x512x1024 .f32) (harg2 : arg2.IsWhole) (arg3 : Memref sig .tc .vmem S1x1024 .f32) (harg3 : arg3.IsWhole)
    (x0 : Vec Ideal S1x512x1024 .f32) (x1 : Vec Ideal S1x1024 .f32) :
    k0_pay6 (View.readAt (Elt Ideal) arg2.view (Rect.unit (s := S1x512x1024) ![0, 0, 0] S1x512x1024.size inb_S1x512x1024_S1x512x1024_0_0_0).toLoadRect (harg2.unread x0))
      (View.readAt (Elt Ideal) arg3.view (Rect.unit (s := S1x1024) ![0, 0] S1x1024.size inb_S1x1024_S1x1024_0_0).toLoadRect (harg3.unread x1))
    = k0_pay6 x0 x1 := by
  rw [View.readAt_eq_ld, View.readAt_eq_ld, harg2.read_unread, harg3.read_unread]
  exact congrArg₂ k0_pay6 (View.ld_unit_zero hz3 _ _) (View.ld_unit_zero hz2 _ _)

theorem half_eq (arg4 : Memref sig .tc .vmem S1024x5632 .bf16) (harg4 : arg4.IsWhole) (x0 : Vec Ideal S1x512x1024 .f32) (x1 : Vec Ideal S1x1024 .f32)
    (x2 : Vec Ideal S1024x5632 .bf16) (h : FVec Ideal S512x1024 .bf16) (eh : h = k0_pay6 x0 x1) (o : Nat) (ho : o + 256 ≤ 2816)
    (inb : ∀ i, (![0, o] : Fin 2 → Nat) i + S1024x256.size i ≤ S1024x5632.size i) (r : Fin 512) (c : Fin 256) :
    k0_pay10 h (View.readAt (Elt Ideal) arg4.view (Rect.unit (s := S1024x5632) ![0, o] S1024x256.size inb).toLoadRect (harg4.unread x2)) (ix2 r c)
      = half x0 x1 x2 r ⟨o + c.val, by omega⟩ := by
  rw [eh, proj_apply]
  unfold half proj
  refine Finset.sum_congr rfl fun k _ => ?_
  rw [norm_apply, View.readAt_eq_ld, harg4.read_unread]
  refine congrArg (normRow (fun k => x0 (ix3 0 r k)) x1 k * ·) ?_
  exact View.ld_unit_apply_of _ _ _ _ _ _ fun i => by
    fin_cases i
    · exact (Nat.zero_add _).symm
    · rfl

/-- The last eight rows below the carried ones. -/
theorem read_last {v : View sig .tc .vmem S520x2816 .f32} {f : v.ty.Contents (Elt Ideal)} {L : List (View.Piece (Elt Ideal) S520x2816 .f32)}
    {a : Fin 512 → Fin 2816 → EReal} (hb : Body L 2816 a)
    (inb : ∀ i, (![512, 0] : Fin 2 → Nat) i + S8x2816.size i ≤ S520x2816.size i) (q : Fin 8) (j : Fin 2816) :
    View.readAt (Elt Ideal) v (Rect.unit (s := S520x2816) ![512, 0] S8x2816.size inb).toLoadRect (v.writes (Elt Ideal) f L) (ix2 q j)
      = a ⟨504 + q.val, by omega⟩ j := by
  have he : ∀ y : Vec Ideal S520x2816 .f32, View.ld y (Rect.unit (s := S520x2816) ![512, 0] S8x2816.size inb) (ix2 q j)
      = y (ix2 ⟨8 + (504 + q.val), by omega⟩ j) := fun y => View.ld_unit_apply_of _ _ _ _ _ _ fun i => by
    fin_cases i
    · show 8 + (504 + q.val) = 512 + q.val; omega
    · exact (Nat.zero_add _).symm
  rw [View.readAt_eq_ld]
  refine (he _).trans ?_
  exact hb v f ⟨504 + q.val, by omega⟩ j j.isLt

theorem head_zero (v : View sig .tc .vmem S520x2816 .f32) (f : v.ty.Contents (Elt Ideal)) :
    Head v f [⟨Rect.unit (s := S520x2816) ![0, 0] S8x2816.size inb_S520x2816_S8x2816_0_0, k0_pay4 (F := Ideal)⟩] (fun _ _ => 0) := by
  intro q j
  rw [View.read_writes_cons_unit_of_mem (s := S520x2816) v f inb_S520x2816_S8x2816_0_0 _ _ _ (ix2 q j) rfl (fun i => by
    fin_cases i
    · exact (Nat.zero_add _).symm
    · exact (Nat.zero_add _).symm)]
  pointwise [k0_pay4]

theorem head_nil (arg10 : Memref sig .tc .vmem S520x2816 .f32) (harg10 : arg10.IsWhole) (xs0 : Vec Ideal S520x2816 .f32) :
    Head arg10.view (harg10.unread xs0) [] (fun q j => xs0 (ix2 ⟨q.val, by omega⟩ j)) := by
  intro q j
  exact congrFun (harg10.read_unread (Val := Elt Ideal) xs0) _

theorem carried_read {κ : Kind} {sp : Space} (v : View sig κ sp S520x2816 .f32) (f : v.ty.Contents (Elt Ideal)) (L : List (View.Piece (Elt Ideal) S520x2816 .f32))
    (inb : ∀ i, (![0, 0] : Fin 2 → Nat) i + (![8, 2816] : Fin 2 → Nat) i ≤ S520x2816.size i) (w : Vec Ideal S8x2816 .f32) (q : Fin 8) (j : Fin 2816) :
    v.read (Elt Ideal) (v.writes (Elt Ideal) f (⟨Rect.unit (s := S520x2816) ![0, 0] ![8, 2816] inb, w⟩ :: L)) (ix2 ⟨q.val, by omega⟩ j) = w (ix2 q j) :=
  View.read_writes_cons_unit_of_mem (s := S520x2816) v f inb w L _ (ix2 q j) rfl (fun i => by
    fin_cases i
    · exact (Nat.zero_add _).symm
    · exact (Nat.zero_add _).symm)

theorem copy_apply (v : Vec Ideal S8x2816 .f32) (q : Fin 8) (j : Fin 2816) : k0_pay3 v (ix2 q j) = v (ix2 q j) := by
  pointwise [k0_pay3]

theorem tail_apply (v : Vec Ideal S8x2816 .f32) (q : Fin 8) (j : Fin 2816) : k0_pay2 v (ix3 0 q j) = v (ix2 q j) := by
  pointwise [k0_pay2]

theorem last_apply (v : FVec Ideal S512x1024 .f32) (r : Fin 512) (d : Fin 1024) : k0_pay1 v (ix3 0 r d) = v (ix2 r d) := by
  pointwise [k0_pay1]

theorem first_eq (arg2 : Memref sig .tc .vmem S1x512x1024 .f32) (harg2 : arg2.IsWhole) (x0 : Vec Ideal S1x512x1024 .f32) (r : Fin 512) (d : Fin 1024) :
    k0_pay5 (View.readAt (Elt Ideal) arg2.view (Rect.unit (s := S1x512x1024) ![0, 0, 0] S1x512x1024.size inb_S1x512x1024_S1x512x1024_0_0_0).toLoadRect (harg2.unread x0)) (ix2 r d)
      = x0 (ix3 0 r d) := by
  rw [View.readAt_eq_ld, harg2.read_unread, first_apply]
  exact congrFun (View.ld_unit_zero hz3 _ _) _

theorem chain_A (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg10 : Memref sig .tc .vmem S520x2816 .f32)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) :
    kernelRun0_A.sl.r_28 c arg2 harg2 arg3 harg3 arg4 harg4 arg5 harg5 arg6 harg6 arg7 harg7 arg10 x0 x1 x2 x3 x4 x5
    = step arg4 harg4 arg5 harg5 arg6 harg6 arg7 harg7 arg10.view x2 x3 x4 x5 (kernelRun0_A.sl.r_1 c arg2 harg2 arg3 harg3 x0 x1) 2560 (by decide) arg10.view.junk arg10.view.junk (kernelRun0_A.sl.HS0_12 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 2304 (by decide) arg10.view.junk arg10.view.junk (kernelRun0_A.sl.HS0_11 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 2048 (by decide) arg10.view.junk arg10.view.junk (kernelRun0_A.sl.HS0_10 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 1792 (by decide) arg10.view.junk arg10.view.junk (kernelRun0_A.sl.HS0_9 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 1536 (by decide) arg10.view.junk arg10.view.junk (kernelRun0_A.sl.HS0_8 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 1280 (by decide) arg10.view.junk arg10.view.junk (kernelRun0_A.sl.HS0_7 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 1024 (by decide) arg10.view.junk arg10.view.junk (kernelRun0_A.sl.HS0_6 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 768 (by decide) arg10.view.junk arg10.view.junk (kernelRun0_A.sl.HS0_5 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 512 (by decide) arg10.view.junk arg10.view.junk (kernelRun0_A.sl.HS0_4 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 256 (by decide) arg10.view.junk arg10.view.junk (kernelRun0_A.sl.HS0_3 c arg2 harg2 arg3 harg3 arg4 harg4 x0 x1 x2)
      (step arg4 harg4 arg5 harg5 arg6 harg6 arg7 harg7 arg10.view x2 x3 x4 x5 (kernelRun0_A.sl.r_1 c arg2 harg2 arg3 harg3 x0 x1) 0 (by decide) arg10.view.junk arg10.view.junk (kernelRun0_A.sl.HS0_2 c arg2 harg2 arg3 harg3 arg4 harg4 x0 x1 x2)
      (kernelRun0_A.sl.r c arg2 harg2 x0))))))))))) := rfl

theorem chain_B (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg10 : Memref sig .tc .vmem S520x2816 .f32) (harg10 : arg10.IsWhole)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (xs0 : Vec Ideal S520x2816 .f32) :
    kernelRun0_B.sl.r_29 c arg2 harg2 arg3 harg3 arg4 harg4 arg5 harg5 arg6 harg6 arg7 harg7 arg10 harg10 x0 x1 x2 x3 x4 x5 xs0
    = step arg4 harg4 arg5 harg5 arg6 harg6 arg7 harg7 arg10.view x2 x3 x4 x5 (kernelRun0_B.sl.r_1 c arg2 harg2 arg3 harg3 x0 x1) 2560 (by decide) (harg10.unread xs0) arg10.view.junk (kernelRun0_B.sl.HS0_11 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 2304 (by decide) (harg10.unread xs0) arg10.view.junk (kernelRun0_B.sl.HS0_10 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 2048 (by decide) (harg10.unread xs0) arg10.view.junk (kernelRun0_B.sl.HS0_9 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 1792 (by decide) (harg10.unread xs0) arg10.view.junk (kernelRun0_B.sl.HS0_8 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 1536 (by decide) (harg10.unread xs0) arg10.view.junk (kernelRun0_B.sl.HS0_7 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 1280 (by decide) (harg10.unread xs0) arg10.view.junk (kernelRun0_B.sl.HS0_6 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 1024 (by decide) (harg10.unread xs0) arg10.view.junk (kernelRun0_B.sl.HS0_5 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 768 (by decide) (harg10.unread xs0) arg10.view.junk (kernelRun0_B.sl.HS0_4 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 512 (by decide) (harg10.unread xs0) arg10.view.junk (kernelRun0_B.sl.HS0_3 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 256 (by decide) (harg10.unread xs0) arg10.view.junk (kernelRun0_B.sl.HS0_2 c arg2 harg2 arg3 harg3 arg4 harg4 x0 x1 x2)
      (step arg4 harg4 arg5 harg5 arg6 harg6 arg7 harg7 arg10.view x2 x3 x4 x5 (kernelRun0_B.sl.r_1 c arg2 harg2 arg3 harg3 x0 x1) 0 (by decide) (harg10.unread xs0) arg10.view.junk (kernelRun0_B.sl.HS0_1 c arg2 harg2 arg3 harg3 arg4 harg4 x0 x1 x2)
      (kernelRun0_B.sl.r c arg2 harg2 x0))))))))))) := rfl

theorem rows_A (c : Dev nD) (arg2 : Memref sig .tc .vmem S1x512x1024 .f32) (harg2 : arg2.IsWhole) (arg3 : Memref sig .tc .vmem S1x1024 .f32) (harg3 : arg3.IsWhole) (x0 : Vec Ideal S1x512x1024 .f32) (x1 : Vec Ideal S1x1024 .f32) :
    kernelRun0_A.sl.r_1 (F := Ideal) c arg2 harg2 arg3 harg3 x0 x1 = k0_pay6 x0 x1 := norm_eq arg2 harg2 arg3 harg3 x0 x1

theorem body_A_0 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_2 c arg2 harg2 arg3 harg3 arg4 harg4 x0 x1 x2) 256 (half x0 x1 x2) := by
  unfold kernelRun0_A.sl.HS0_2
  exact body_cons 0 (by decide) (fun _ _ _ _ hj => absurd hj (Nat.not_lt_zero _)) _ _ fun r n => half_eq arg4 harg4 x0 x1 x2 _ (norm_eq arg2 harg2 arg3 harg3 x0 x1) 0 (by decide) _ r n

theorem body_A_1 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_3 c arg2 harg2 arg3 harg3 arg4 harg4 x0 x1 x2) 512 (half x0 x1 x2) := by
  unfold kernelRun0_A.sl.HS0_3
  exact body_cons 256 (by decide) (body_A_0 c arg2 harg2 arg3 harg3 arg4 harg4 x0 x1 x2) _ _ fun r n => half_eq arg4 harg4 x0 x1 x2 _ (rows_A c arg2 harg2 arg3 harg3 x0 x1) 256 (by decide) _ r n

theorem body_A_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_4 c arg2 harg2 arg3 harg3 arg4 harg4 x0 x1 x2) 768 (half x0 x1 x2) := by
  unfold kernelRun0_A.sl.HS0_4
  exact body_cons 512 (by decide) (body_A_1 c arg2 harg2 arg3 harg3 arg4 harg4 x0 x1 x2) _ _ fun r n => half_eq arg4 harg4 x0 x1 x2 _ (rows_A c arg2 harg2 arg3 harg3 x0 x1) 512 (by decide) _ r n

theorem body_A_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_5 c arg2 harg2 arg3 harg3 arg4 harg4 x0 x1 x2) 1024 (half x0 x1 x2) := by
  unfold kernelRun0_A.sl.HS0_5
  exact body_cons 768 (by decide) (body_A_2 c arg2 harg2 arg3 harg3 arg4 harg4 x0 x1 x2) _ _ fun r n => half_eq arg4 harg4 x0 x1 x2 _ (rows_A c arg2 harg2 arg3 harg3 x0 x1) 768 (by decide) _ r n

theorem body_A_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_6 c arg2 harg2 arg3 harg3 arg4 harg4 x0 x1 x2) 1280 (half x0 x1 x2) := by
  unfold kernelRun0_A.sl.HS0_6
  exact body_cons 1024 (by decide) (body_A_3 c arg2 harg2 arg3 harg3 arg4 harg4 x0 x1 x2) _ _ fun r n => half_eq arg4 harg4 x0 x1 x2 _ (rows_A c arg2 harg2 arg3 harg3 x0 x1) 1024 (by decide) _ r n

theorem body_A_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_7 c arg2 harg2 arg3 harg3 arg4 harg4 x0 x1 x2) 1536 (half x0 x1 x2) := by
  unfold kernelRun0_A.sl.HS0_7
  exact body_cons 1280 (by decide) (body_A_4 c arg2 harg2 arg3 harg3 arg4 harg4 x0 x1 x2) _ _ fun r n => half_eq arg4 harg4 x0 x1 x2 _ (rows_A c arg2 harg2 arg3 harg3 x0 x1) 1280 (by decide) _ r n

theorem body_A_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_8 c arg2 harg2 arg3 harg3 arg4 harg4 x0 x1 x2) 1792 (half x0 x1 x2) := by
  unfold kernelRun0_A.sl.HS0_8
  exact body_cons 1536 (by decide) (body_A_5 c arg2 harg2 arg3 harg3 arg4 harg4 x0 x1 x2) _ _ fun r n => half_eq arg4 harg4 x0 x1 x2 _ (rows_A c arg2 harg2 arg3 harg3 x0 x1) 1536 (by decide) _ r n

theorem body_A_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_9 c arg2 harg2 arg3 harg3 arg4 harg4 x0 x1 x2) 2048 (half x0 x1 x2) := by
  unfold kernelRun0_A.sl.HS0_9
  exact body_cons 1792 (by decide) (body_A_6 c arg2 harg2 arg3 harg3 arg4 harg4 x0 x1 x2) _ _ fun r n => half_eq arg4 harg4 x0 x1 x2 _ (rows_A c arg2 harg2 arg3 harg3 x0 x1) 1792 (by decide) _ r n

theorem body_A_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_10 c arg2 harg2 arg3 harg3 arg4 harg4 x0 x1 x2) 2304 (half x0 x1 x2) := by
  unfold kernelRun0_A.sl.HS0_10
  exact body_cons 2048 (by decide) (body_A_7 c arg2 harg2 arg3 harg3 arg4 harg4 x0 x1 x2) _ _ fun r n => half_eq arg4 harg4 x0 x1 x2 _ (rows_A c arg2 harg2 arg3 harg3 x0 x1) 2048 (by decide) _ r n

theorem body_A_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_11 c arg2 harg2 arg3 harg3 arg4 harg4 x0 x1 x2) 2560 (half x0 x1 x2) := by
  unfold kernelRun0_A.sl.HS0_11
  exact body_cons 2304 (by decide) (body_A_8 c arg2 harg2 arg3 harg3 arg4 harg4 x0 x1 x2) _ _ fun r n => half_eq arg4 harg4 x0 x1 x2 _ (rows_A c arg2 harg2 arg3 harg3 x0 x1) 2304 (by decide) _ r n

theorem body_A_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_A.sl.HS0_12 c arg2 harg2 arg3 harg3 arg4 harg4 x0 x1 x2) 2816 (half x0 x1 x2) := by
  unfold kernelRun0_A.sl.HS0_12
  exact body_cons 2560 (by decide) (body_A_9 c arg2 harg2 arg3 harg3 arg4 harg4 x0 x1 x2) _ _ fun r n => half_eq arg4 harg4 x0 x1 x2 _ (rows_A c arg2 harg2 arg3 harg3 x0 x1) 2560 (by decide) _ r n

theorem head_A_0 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_2 c arg2 harg2 arg3 harg3 arg4 harg4 x0 x1 x2) (fun _ _ => 0) := by
  unfold kernelRun0_A.sl.HS0_2
  exact head_cons (head_zero v f) 0 _ _

theorem head_A_1 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_3 c arg2 harg2 arg3 harg3 arg4 harg4 x0 x1 x2) (fun _ _ => 0) := by
  unfold kernelRun0_A.sl.HS0_3
  exact head_cons (head_A_0 c arg2 harg2 arg3 harg3 arg4 harg4 x0 x1 x2 v f) 256 _ _

theorem head_A_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_4 c arg2 harg2 arg3 harg3 arg4 harg4 x0 x1 x2) (fun _ _ => 0) := by
  unfold kernelRun0_A.sl.HS0_4
  exact head_cons (head_A_1 c arg2 harg2 arg3 harg3 arg4 harg4 x0 x1 x2 v f) 512 _ _

theorem head_A_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_5 c arg2 harg2 arg3 harg3 arg4 harg4 x0 x1 x2) (fun _ _ => 0) := by
  unfold kernelRun0_A.sl.HS0_5
  exact head_cons (head_A_2 c arg2 harg2 arg3 harg3 arg4 harg4 x0 x1 x2 v f) 768 _ _

theorem head_A_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_6 c arg2 harg2 arg3 harg3 arg4 harg4 x0 x1 x2) (fun _ _ => 0) := by
  unfold kernelRun0_A.sl.HS0_6
  exact head_cons (head_A_3 c arg2 harg2 arg3 harg3 arg4 harg4 x0 x1 x2 v f) 1024 _ _

theorem head_A_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_7 c arg2 harg2 arg3 harg3 arg4 harg4 x0 x1 x2) (fun _ _ => 0) := by
  unfold kernelRun0_A.sl.HS0_7
  exact head_cons (head_A_4 c arg2 harg2 arg3 harg3 arg4 harg4 x0 x1 x2 v f) 1280 _ _

theorem head_A_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_8 c arg2 harg2 arg3 harg3 arg4 harg4 x0 x1 x2) (fun _ _ => 0) := by
  unfold kernelRun0_A.sl.HS0_8
  exact head_cons (head_A_5 c arg2 harg2 arg3 harg3 arg4 harg4 x0 x1 x2 v f) 1536 _ _

theorem head_A_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_9 c arg2 harg2 arg3 harg3 arg4 harg4 x0 x1 x2) (fun _ _ => 0) := by
  unfold kernelRun0_A.sl.HS0_9
  exact head_cons (head_A_6 c arg2 harg2 arg3 harg3 arg4 harg4 x0 x1 x2 v f) 1792 _ _

theorem head_A_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_10 c arg2 harg2 arg3 harg3 arg4 harg4 x0 x1 x2) (fun _ _ => 0) := by
  unfold kernelRun0_A.sl.HS0_10
  exact head_cons (head_A_7 c arg2 harg2 arg3 harg3 arg4 harg4 x0 x1 x2 v f) 2048 _ _

theorem head_A_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_11 c arg2 harg2 arg3 harg3 arg4 harg4 x0 x1 x2) (fun _ _ => 0) := by
  unfold kernelRun0_A.sl.HS0_11
  exact head_cons (head_A_8 c arg2 harg2 arg3 harg3 arg4 harg4 x0 x1 x2 v f) 2304 _ _

theorem head_A_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (v : View sig .tc .vmem S520x2816 .f32) (f : v.ty.Contents (Elt Ideal)) :
    Head v f (kernelRun0_A.sl.HS0_12 c arg2 harg2 arg3 harg3 arg4 harg4 x0 x1 x2) (fun _ _ => 0) := by
  unfold kernelRun0_A.sl.HS0_12
  exact head_cons (head_A_9 c arg2 harg2 arg3 harg3 arg4 harg4 x0 x1 x2 v f) 2560 _ _

theorem acc_A (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg10 : Memref sig .tc .vmem S520x2816 .f32)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (r : Fin 512) (d : Fin 1024) :
    kernelRun0_A.sl.r_28 c arg2 harg2 arg3 harg3 arg4 harg4 arg5 harg5 arg6 harg6 arg7 harg7 arg10 x0 x1 x2 x3 x4 x5 (ix2 r d)
      = x0 (ix3 0 r d) + ∑ j ∈ Finset.range 2816, part (k0_pay6 x0 x1) (fun _ _ => 0) (half x0 x1 x2) x2 x3 x4 x5 r d j := by
  rw [chain_A, ← rows_A c arg2 harg2 arg3 harg3 x0 x1]
  exact step_apply arg4 harg4 arg5 harg5 arg6 harg6 arg7 harg7 arg10.view x2 x3 x4 x5 _ 2560 (by decide) _ _ _ _ _ _
      (body_A_10 c arg2 harg2 arg3 harg3 arg4 harg4 x0 x1 x2) (head_A_10 c arg2 harg2 arg3 harg3 arg4 harg4 x0 x1 x2 arg10.view arg10.view.junk) r d _ (step_apply arg4 harg4 arg5 harg5 arg6 harg6 arg7 harg7 arg10.view x2 x3 x4 x5 _ 2304 (by decide) _ _ _ _ _ _
      (body_A_9 c arg2 harg2 arg3 harg3 arg4 harg4 x0 x1 x2) (head_A_9 c arg2 harg2 arg3 harg3 arg4 harg4 x0 x1 x2 arg10.view arg10.view.junk) r d _ (step_apply arg4 harg4 arg5 harg5 arg6 harg6 arg7 harg7 arg10.view x2 x3 x4 x5 _ 2048 (by decide) _ _ _ _ _ _
      (body_A_8 c arg2 harg2 arg3 harg3 arg4 harg4 x0 x1 x2) (head_A_8 c arg2 harg2 arg3 harg3 arg4 harg4 x0 x1 x2 arg10.view arg10.view.junk) r d _ (step_apply arg4 harg4 arg5 harg5 arg6 harg6 arg7 harg7 arg10.view x2 x3 x4 x5 _ 1792 (by decide) _ _ _ _ _ _
      (body_A_7 c arg2 harg2 arg3 harg3 arg4 harg4 x0 x1 x2) (head_A_7 c arg2 harg2 arg3 harg3 arg4 harg4 x0 x1 x2 arg10.view arg10.view.junk) r d _ (step_apply arg4 harg4 arg5 harg5 arg6 harg6 arg7 harg7 arg10.view x2 x3 x4 x5 _ 1536 (by decide) _ _ _ _ _ _
      (body_A_6 c arg2 harg2 arg3 harg3 arg4 harg4 x0 x1 x2) (head_A_6 c arg2 harg2 arg3 harg3 arg4 harg4 x0 x1 x2 arg10.view arg10.view.junk) r d _ (step_apply arg4 harg4 arg5 harg5 arg6 harg6 arg7 harg7 arg10.view x2 x3 x4 x5 _ 1280 (by decide) _ _ _ _ _ _
      (body_A_5 c arg2 harg2 arg3 harg3 arg4 harg4 x0 x1 x2) (head_A_5 c arg2 harg2 arg3 harg3 arg4 harg4 x0 x1 x2 arg10.view arg10.view.junk) r d _ (step_apply arg4 harg4 arg5 harg5 arg6 harg6 arg7 harg7 arg10.view x2 x3 x4 x5 _ 1024 (by decide) _ _ _ _ _ _
      (body_A_4 c arg2 harg2 arg3 harg3 arg4 harg4 x0 x1 x2) (head_A_4 c arg2 harg2 arg3 harg3 arg4 harg4 x0 x1 x2 arg10.view arg10.view.junk) r d _ (step_apply arg4 harg4 arg5 harg5 arg6 harg6 arg7 harg7 arg10.view x2 x3 x4 x5 _ 768 (by decide) _ _ _ _ _ _
      (body_A_3 c arg2 harg2 arg3 harg3 arg4 harg4 x0 x1 x2) (head_A_3 c arg2 harg2 arg3 harg3 arg4 harg4 x0 x1 x2 arg10.view arg10.view.junk) r d _ (step_apply arg4 harg4 arg5 harg5 arg6 harg6 arg7 harg7 arg10.view x2 x3 x4 x5 _ 512 (by decide) _ _ _ _ _ _
      (body_A_2 c arg2 harg2 arg3 harg3 arg4 harg4 x0 x1 x2) (head_A_2 c arg2 harg2 arg3 harg3 arg4 harg4 x0 x1 x2 arg10.view arg10.view.junk) r d _ (step_apply arg4 harg4 arg5 harg5 arg6 harg6 arg7 harg7 arg10.view x2 x3 x4 x5 _ 256 (by decide) _ _ _ _ _ _
      (body_A_1 c arg2 harg2 arg3 harg3 arg4 harg4 x0 x1 x2) (head_A_1 c arg2 harg2 arg3 harg3 arg4 harg4 x0 x1 x2 arg10.view arg10.view.junk) r d _ (step_apply arg4 harg4 arg5 harg5 arg6 harg6 arg7 harg7 arg10.view x2 x3 x4 x5 _ 0 (by decide) _ _ _ _ _ _
      (body_A_0 c arg2 harg2 arg3 harg3 arg4 harg4 x0 x1 x2) (head_A_0 c arg2 harg2 arg3 harg3 arg4 harg4 x0 x1 x2 arg10.view arg10.view.junk) r d _ (by rw [Finset.sum_range_zero, add_zero]; exact first_eq arg2 harg2 x0 r d)))))))))))

theorem rows_B (c : Dev nD) (arg2 : Memref sig .tc .vmem S1x512x1024 .f32) (harg2 : arg2.IsWhole) (arg3 : Memref sig .tc .vmem S1x1024 .f32) (harg3 : arg3.IsWhole) (x0 : Vec Ideal S1x512x1024 .f32) (x1 : Vec Ideal S1x1024 .f32) :
    kernelRun0_B.sl.r_1 (F := Ideal) c arg2 harg2 arg3 harg3 x0 x1 = k0_pay6 x0 x1 := norm_eq arg2 harg2 arg3 harg3 x0 x1

theorem body_B_0 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_1 c arg2 harg2 arg3 harg3 arg4 harg4 x0 x1 x2) 256 (half x0 x1 x2) := by
  unfold kernelRun0_B.sl.HS0_1
  exact body_cons 0 (by decide) (fun _ _ _ _ hj => absurd hj (Nat.not_lt_zero _)) _ _ fun r n => half_eq arg4 harg4 x0 x1 x2 _ (norm_eq arg2 harg2 arg3 harg3 x0 x1) 0 (by decide) _ r n

theorem body_B_1 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_2 c arg2 harg2 arg3 harg3 arg4 harg4 x0 x1 x2) 512 (half x0 x1 x2) := by
  unfold kernelRun0_B.sl.HS0_2
  exact body_cons 256 (by decide) (body_B_0 c arg2 harg2 arg3 harg3 arg4 harg4 x0 x1 x2) _ _ fun r n => half_eq arg4 harg4 x0 x1 x2 _ (rows_B c arg2 harg2 arg3 harg3 x0 x1) 256 (by decide) _ r n

theorem body_B_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_3 c arg2 harg2 arg3 harg3 arg4 harg4 x0 x1 x2) 768 (half x0 x1 x2) := by
  unfold kernelRun0_B.sl.HS0_3
  exact body_cons 512 (by decide) (body_B_1 c arg2 harg2 arg3 harg3 arg4 harg4 x0 x1 x2) _ _ fun r n => half_eq arg4 harg4 x0 x1 x2 _ (rows_B c arg2 harg2 arg3 harg3 x0 x1) 512 (by decide) _ r n

theorem body_B_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_4 c arg2 harg2 arg3 harg3 arg4 harg4 x0 x1 x2) 1024 (half x0 x1 x2) := by
  unfold kernelRun0_B.sl.HS0_4
  exact body_cons 768 (by decide) (body_B_2 c arg2 harg2 arg3 harg3 arg4 harg4 x0 x1 x2) _ _ fun r n => half_eq arg4 harg4 x0 x1 x2 _ (rows_B c arg2 harg2 arg3 harg3 x0 x1) 768 (by decide) _ r n

theorem body_B_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_5 c arg2 harg2 arg3 harg3 arg4 harg4 x0 x1 x2) 1280 (half x0 x1 x2) := by
  unfold kernelRun0_B.sl.HS0_5
  exact body_cons 1024 (by decide) (body_B_3 c arg2 harg2 arg3 harg3 arg4 harg4 x0 x1 x2) _ _ fun r n => half_eq arg4 harg4 x0 x1 x2 _ (rows_B c arg2 harg2 arg3 harg3 x0 x1) 1024 (by decide) _ r n

theorem body_B_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_6 c arg2 harg2 arg3 harg3 arg4 harg4 x0 x1 x2) 1536 (half x0 x1 x2) := by
  unfold kernelRun0_B.sl.HS0_6
  exact body_cons 1280 (by decide) (body_B_4 c arg2 harg2 arg3 harg3 arg4 harg4 x0 x1 x2) _ _ fun r n => half_eq arg4 harg4 x0 x1 x2 _ (rows_B c arg2 harg2 arg3 harg3 x0 x1) 1280 (by decide) _ r n

theorem body_B_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_7 c arg2 harg2 arg3 harg3 arg4 harg4 x0 x1 x2) 1792 (half x0 x1 x2) := by
  unfold kernelRun0_B.sl.HS0_7
  exact body_cons 1536 (by decide) (body_B_5 c arg2 harg2 arg3 harg3 arg4 harg4 x0 x1 x2) _ _ fun r n => half_eq arg4 harg4 x0 x1 x2 _ (rows_B c arg2 harg2 arg3 harg3 x0 x1) 1536 (by decide) _ r n

theorem body_B_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_8 c arg2 harg2 arg3 harg3 arg4 harg4 x0 x1 x2) 2048 (half x0 x1 x2) := by
  unfold kernelRun0_B.sl.HS0_8
  exact body_cons 1792 (by decide) (body_B_6 c arg2 harg2 arg3 harg3 arg4 harg4 x0 x1 x2) _ _ fun r n => half_eq arg4 harg4 x0 x1 x2 _ (rows_B c arg2 harg2 arg3 harg3 x0 x1) 1792 (by decide) _ r n

theorem body_B_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_9 c arg2 harg2 arg3 harg3 arg4 harg4 x0 x1 x2) 2304 (half x0 x1 x2) := by
  unfold kernelRun0_B.sl.HS0_9
  exact body_cons 2048 (by decide) (body_B_7 c arg2 harg2 arg3 harg3 arg4 harg4 x0 x1 x2) _ _ fun r n => half_eq arg4 harg4 x0 x1 x2 _ (rows_B c arg2 harg2 arg3 harg3 x0 x1) 2048 (by decide) _ r n

theorem body_B_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_10 c arg2 harg2 arg3 harg3 arg4 harg4 x0 x1 x2) 2560 (half x0 x1 x2) := by
  unfold kernelRun0_B.sl.HS0_10
  exact body_cons 2304 (by decide) (body_B_8 c arg2 harg2 arg3 harg3 arg4 harg4 x0 x1 x2) _ _ fun r n => half_eq arg4 harg4 x0 x1 x2 _ (rows_B c arg2 harg2 arg3 harg3 x0 x1) 2304 (by decide) _ r n

theorem body_B_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) : Body (kernelRun0_B.sl.HS0_11 c arg2 harg2 arg3 harg3 arg4 harg4 x0 x1 x2) 2816 (half x0 x1 x2) := by
  unfold kernelRun0_B.sl.HS0_11
  exact body_cons 2560 (by decide) (body_B_9 c arg2 harg2 arg3 harg3 arg4 harg4 x0 x1 x2) _ _ fun r n => half_eq arg4 harg4 x0 x1 x2 _ (rows_B c arg2 harg2 arg3 harg3 x0 x1) 2560 (by decide) _ r n

theorem head_B_0 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_1 c arg2 harg2 arg3 harg3 arg4 harg4 x0 x1 x2) (fun q j => xs0 (ix2 ⟨q.val, by omega⟩ j)) := by
  unfold kernelRun0_B.sl.HS0_1
  exact head_cons (head_nil arg10 harg10 xs0) 0 _ _

theorem head_B_1 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_2 c arg2 harg2 arg3 harg3 arg4 harg4 x0 x1 x2) (fun q j => xs0 (ix2 ⟨q.val, by omega⟩ j)) := by
  unfold kernelRun0_B.sl.HS0_2
  exact head_cons (head_B_0 c arg2 harg2 arg3 harg3 arg4 harg4 x0 x1 x2 arg10 harg10 xs0) 256 _ _

theorem head_B_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_3 c arg2 harg2 arg3 harg3 arg4 harg4 x0 x1 x2) (fun q j => xs0 (ix2 ⟨q.val, by omega⟩ j)) := by
  unfold kernelRun0_B.sl.HS0_3
  exact head_cons (head_B_1 c arg2 harg2 arg3 harg3 arg4 harg4 x0 x1 x2 arg10 harg10 xs0) 512 _ _

theorem head_B_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_4 c arg2 harg2 arg3 harg3 arg4 harg4 x0 x1 x2) (fun q j => xs0 (ix2 ⟨q.val, by omega⟩ j)) := by
  unfold kernelRun0_B.sl.HS0_4
  exact head_cons (head_B_2 c arg2 harg2 arg3 harg3 arg4 harg4 x0 x1 x2 arg10 harg10 xs0) 768 _ _

theorem head_B_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_5 c arg2 harg2 arg3 harg3 arg4 harg4 x0 x1 x2) (fun q j => xs0 (ix2 ⟨q.val, by omega⟩ j)) := by
  unfold kernelRun0_B.sl.HS0_5
  exact head_cons (head_B_3 c arg2 harg2 arg3 harg3 arg4 harg4 x0 x1 x2 arg10 harg10 xs0) 1024 _ _

theorem head_B_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_6 c arg2 harg2 arg3 harg3 arg4 harg4 x0 x1 x2) (fun q j => xs0 (ix2 ⟨q.val, by omega⟩ j)) := by
  unfold kernelRun0_B.sl.HS0_6
  exact head_cons (head_B_4 c arg2 harg2 arg3 harg3 arg4 harg4 x0 x1 x2 arg10 harg10 xs0) 1280 _ _

theorem head_B_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_7 c arg2 harg2 arg3 harg3 arg4 harg4 x0 x1 x2) (fun q j => xs0 (ix2 ⟨q.val, by omega⟩ j)) := by
  unfold kernelRun0_B.sl.HS0_7
  exact head_cons (head_B_5 c arg2 harg2 arg3 harg3 arg4 harg4 x0 x1 x2 arg10 harg10 xs0) 1536 _ _

theorem head_B_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_8 c arg2 harg2 arg3 harg3 arg4 harg4 x0 x1 x2) (fun q j => xs0 (ix2 ⟨q.val, by omega⟩ j)) := by
  unfold kernelRun0_B.sl.HS0_8
  exact head_cons (head_B_6 c arg2 harg2 arg3 harg3 arg4 harg4 x0 x1 x2 arg10 harg10 xs0) 1792 _ _

theorem head_B_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_9 c arg2 harg2 arg3 harg3 arg4 harg4 x0 x1 x2) (fun q j => xs0 (ix2 ⟨q.val, by omega⟩ j)) := by
  unfold kernelRun0_B.sl.HS0_9
  exact head_cons (head_B_7 c arg2 harg2 arg3 harg3 arg4 harg4 x0 x1 x2 arg10 harg10 xs0) 2048 _ _

theorem head_B_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_10 c arg2 harg2 arg3 harg3 arg4 harg4 x0 x1 x2) (fun q j => xs0 (ix2 ⟨q.val, by omega⟩ j)) := by
  unfold kernelRun0_B.sl.HS0_10
  exact head_cons (head_B_8 c arg2 harg2 arg3 harg3 arg4 harg4 x0 x1 x2 arg10 harg10 xs0) 2304 _ _

theorem head_B_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
    (x0 : Vec Ideal S1x512x1024 .f32) (x1 : Vec Ideal S1x1024 .f32) (x2 : Vec Ideal S1024x5632 .bf16) (arg10 : Memref sig .tc .vmem S520x2816 .f32) (harg10 : arg10.IsWhole) (xs0 : Vec Ideal S520x2816 .f32) :
    Head arg10.view (harg10.unread xs0) (kernelRun0_B.sl.HS0_11 c arg2 harg2 arg3 harg3 arg4 harg4 x0 x1 x2) (fun q j => xs0 (ix2 ⟨q.val, by omega⟩ j)) := by
  unfold kernelRun0_B.sl.HS0_11
  exact head_cons (head_B_9 c arg2 harg2 arg3 harg3 arg4 harg4 x0 x1 x2 arg10 harg10 xs0) 2560 _ _

theorem acc_B (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg10 : Memref sig .tc .vmem S520x2816 .f32) (harg10 : arg10.IsWhole)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (xs0 : Vec Ideal S520x2816 .f32) (r : Fin 512) (d : Fin 1024) :
    kernelRun0_B.sl.r_29 c arg2 harg2 arg3 harg3 arg4 harg4 arg5 harg5 arg6 harg6 arg7 harg7 arg10 harg10 x0 x1 x2 x3 x4 x5 xs0 (ix2 r d)
      = x0 (ix3 0 r d) + ∑ j ∈ Finset.range 2816, part (k0_pay6 x0 x1) (fun q j => xs0 (ix2 ⟨q.val, by omega⟩ j)) (half x0 x1 x2) x2 x3 x4 x5 r d j := by
  rw [chain_B, ← rows_B c arg2 harg2 arg3 harg3 x0 x1]
  exact step_apply arg4 harg4 arg5 harg5 arg6 harg6 arg7 harg7 arg10.view x2 x3 x4 x5 _ 2560 (by decide) _ _ _ _ _ _
      (body_B_10 c arg2 harg2 arg3 harg3 arg4 harg4 x0 x1 x2) (head_B_10 c arg2 harg2 arg3 harg3 arg4 harg4 x0 x1 x2 arg10 harg10 xs0) r d _ (step_apply arg4 harg4 arg5 harg5 arg6 harg6 arg7 harg7 arg10.view x2 x3 x4 x5 _ 2304 (by decide) _ _ _ _ _ _
      (body_B_9 c arg2 harg2 arg3 harg3 arg4 harg4 x0 x1 x2) (head_B_9 c arg2 harg2 arg3 harg3 arg4 harg4 x0 x1 x2 arg10 harg10 xs0) r d _ (step_apply arg4 harg4 arg5 harg5 arg6 harg6 arg7 harg7 arg10.view x2 x3 x4 x5 _ 2048 (by decide) _ _ _ _ _ _
      (body_B_8 c arg2 harg2 arg3 harg3 arg4 harg4 x0 x1 x2) (head_B_8 c arg2 harg2 arg3 harg3 arg4 harg4 x0 x1 x2 arg10 harg10 xs0) r d _ (step_apply arg4 harg4 arg5 harg5 arg6 harg6 arg7 harg7 arg10.view x2 x3 x4 x5 _ 1792 (by decide) _ _ _ _ _ _
      (body_B_7 c arg2 harg2 arg3 harg3 arg4 harg4 x0 x1 x2) (head_B_7 c arg2 harg2 arg3 harg3 arg4 harg4 x0 x1 x2 arg10 harg10 xs0) r d _ (step_apply arg4 harg4 arg5 harg5 arg6 harg6 arg7 harg7 arg10.view x2 x3 x4 x5 _ 1536 (by decide) _ _ _ _ _ _
      (body_B_6 c arg2 harg2 arg3 harg3 arg4 harg4 x0 x1 x2) (head_B_6 c arg2 harg2 arg3 harg3 arg4 harg4 x0 x1 x2 arg10 harg10 xs0) r d _ (step_apply arg4 harg4 arg5 harg5 arg6 harg6 arg7 harg7 arg10.view x2 x3 x4 x5 _ 1280 (by decide) _ _ _ _ _ _
      (body_B_5 c arg2 harg2 arg3 harg3 arg4 harg4 x0 x1 x2) (head_B_5 c arg2 harg2 arg3 harg3 arg4 harg4 x0 x1 x2 arg10 harg10 xs0) r d _ (step_apply arg4 harg4 arg5 harg5 arg6 harg6 arg7 harg7 arg10.view x2 x3 x4 x5 _ 1024 (by decide) _ _ _ _ _ _
      (body_B_4 c arg2 harg2 arg3 harg3 arg4 harg4 x0 x1 x2) (head_B_4 c arg2 harg2 arg3 harg3 arg4 harg4 x0 x1 x2 arg10 harg10 xs0) r d _ (step_apply arg4 harg4 arg5 harg5 arg6 harg6 arg7 harg7 arg10.view x2 x3 x4 x5 _ 768 (by decide) _ _ _ _ _ _
      (body_B_3 c arg2 harg2 arg3 harg3 arg4 harg4 x0 x1 x2) (head_B_3 c arg2 harg2 arg3 harg3 arg4 harg4 x0 x1 x2 arg10 harg10 xs0) r d _ (step_apply arg4 harg4 arg5 harg5 arg6 harg6 arg7 harg7 arg10.view x2 x3 x4 x5 _ 512 (by decide) _ _ _ _ _ _
      (body_B_2 c arg2 harg2 arg3 harg3 arg4 harg4 x0 x1 x2) (head_B_2 c arg2 harg2 arg3 harg3 arg4 harg4 x0 x1 x2 arg10 harg10 xs0) r d _ (step_apply arg4 harg4 arg5 harg5 arg6 harg6 arg7 harg7 arg10.view x2 x3 x4 x5 _ 256 (by decide) _ _ _ _ _ _
      (body_B_1 c arg2 harg2 arg3 harg3 arg4 harg4 x0 x1 x2) (head_B_1 c arg2 harg2 arg3 harg3 arg4 harg4 x0 x1 x2 arg10 harg10 xs0) r d _ (step_apply arg4 harg4 arg5 harg5 arg6 harg6 arg7 harg7 arg10.view x2 x3 x4 x5 _ 0 (by decide) _ _ _ _ _ _
      (body_B_0 c arg2 harg2 arg3 harg3 arg4 harg4 x0 x1 x2) (head_B_0 c arg2 harg2 arg3 harg3 arg4 harg4 x0 x1 x2 arg10 harg10 xs0) r d _ (by rw [Finset.sum_range_zero, add_zero]; exact first_eq arg2 harg2 x0 r d)))))))))))

theorem tail_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S1x8x2816 .f32) (harg9 : arg9.IsWhole)
    (arg10 : Memref sig .tc .vmem S520x2816 .f32) (harg10 : arg10.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (q : Fin 8) (j : Fin 2816) :
    out0_A_7 c i arg2 harg2 arg3 harg3 arg4 harg4 arg5 harg5 arg6 harg6 arg7 harg7 arg8 harg8 arg9 harg9 arg10 harg10 hc0 x0 x1 x2 x3 x4 x5 (ix3 0 q j) = half x0 x1 x2 ⟨504 + q.val, by omega⟩ j := by
  unfold out0_A_7
  rw [View.read_writes_junk_eq_canon]
  unfold kernelRun0_A
  dsimp only
  rw [View.canon_unit_zero hz3, tail_apply]
  exact read_last (body_A_10 c arg2 harg2 arg3 harg3 arg4 harg4 x0 x1 x2) _ q j

theorem scratch_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S1x8x2816 .f32) (harg9 : arg9.IsWhole)
    (arg10 : Memref sig .tc .vmem S520x2816 .f32) (harg10 : arg10.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (q : Fin 8) (j : Fin 2816) :
    sout0_A_0 c i arg2 harg2 arg3 harg3 arg4 harg4 arg5 harg5 arg6 harg6 arg7 harg7 arg8 harg8 arg9 harg9 arg10 harg10 hc0 x0 x1 x2 x3 x4 x5 (ix2 ⟨q.val, by omega⟩ j) = half x0 x1 x2 ⟨504 + q.val, by omega⟩ j := by
  unfold sout0_A_0 kernelRun0_A
  dsimp only
  refine (carried_read _ _ _ _ _ q j).trans ?_
  rw [copy_apply]
  exact read_last (body_A_10 c arg2 harg2 arg3 harg3 arg4 harg4 x0 x1 x2) _ q j

theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S1x8x2816 .f32) (harg9 : arg9.IsWhole)
    (arg10 : Memref sig .tc .vmem S520x2816 .f32) (harg10 : arg10.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (r : Fin 512) (d : Fin 1024) :
    out0_A_6 c i arg2 harg2 arg3 harg3 arg4 harg4 arg5 harg5 arg6 harg6 arg7 harg7 arg8 harg8 arg9 harg9 arg10 harg10 hc0 x0 x1 x2 x3 x4 x5 (ix3 0 r d)
      = x0 (ix3 0 r d) + ∑ j ∈ Finset.range 2816, part (k0_pay6 x0 x1) (fun _ _ => 0) (half x0 x1 x2) x2 x3 x4 x5 r d j := by
  unfold out0_A_6
  rw [View.read_writes_junk_eq_canon]
  unfold kernelRun0_A
  dsimp only
  rw [View.canon_unit_zero hz3, last_apply]
  exact acc_A c arg2 harg2 arg3 harg3 arg4 harg4 arg5 harg5 arg6 harg6 arg7 harg7 arg10 x0 x1 x2 x3 x4 x5 r d

theorem tail_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S1x8x2816 .f32) (harg9 : arg9.IsWhole)
    (arg10 : Memref sig .tc .vmem S520x2816 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (xs0 : Vec Ideal S520x2816 .f32) (q : Fin 8) (j : Fin 2816) :
    out0_B_7 c i arg2 harg2 arg3 harg3 arg4 harg4 arg5 harg5 arg6 harg6 arg7 harg7 arg8 harg8 arg9 harg9 arg10 harg10 hc0 x0 x1 x2 x3 x4 x5 xs0 (ix3 0 q j) = half x0 x1 x2 ⟨504 + q.val, by omega⟩ j := by
  unfold out0_B_7
  rw [View.read_writes_junk_eq_canon]
  unfold kernelRun0_B
  dsimp only
  rw [View.canon_unit_zero hz3, tail_apply]
  exact read_last (body_B_10 c arg2 harg2 arg3 harg3 arg4 harg4 x0 x1 x2) _ q j

theorem scratch_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S1x8x2816 .f32) (harg9 : arg9.IsWhole)
    (arg10 : Memref sig .tc .vmem S520x2816 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (xs0 : Vec Ideal S520x2816 .f32) (q : Fin 8) (j : Fin 2816) :
    sout0_B_0 c i arg2 harg2 arg3 harg3 arg4 harg4 arg5 harg5 arg6 harg6 arg7 harg7 arg8 harg8 arg9 harg9 arg10 harg10 hc0 x0 x1 x2 x3 x4 x5 xs0 (ix2 ⟨q.val, by omega⟩ j) = half x0 x1 x2 ⟨504 + q.val, by omega⟩ j := by
  unfold sout0_B_0 kernelRun0_B
  dsimp only
  refine (carried_read _ _ _ _ _ q j).trans ?_
  rw [copy_apply]
  exact read_last (body_B_10 c arg2 harg2 arg3 harg3 arg4 harg4 x0 x1 x2) _ q j

theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S1x8x2816 .f32) (harg9 : arg9.IsWhole)
    (arg10 : Memref sig .tc .vmem S520x2816 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (xs0 : Vec Ideal S520x2816 .f32) (r : Fin 512) (d : Fin 1024) :
    out0_B_6 c i arg2 harg2 arg3 harg3 arg4 harg4 arg5 harg5 arg6 harg6 arg7 harg7 arg8 harg8 arg9 harg9 arg10 harg10 hc0 x0 x1 x2 x3 x4 x5 xs0 (ix3 0 r d)
      = x0 (ix3 0 r d) + ∑ j ∈ Finset.range 2816, part (k0_pay6 x0 x1) (fun q j => xs0 (ix2 ⟨q.val, by omega⟩ j)) (half x0 x1 x2) x2 x3 x4 x5 r d j := by
  unfold out0_B_6
  rw [View.read_writes_junk_eq_canon]
  unfold kernelRun0_B
  dsimp only
  rw [View.canon_unit_zero hz3, last_apply]
  exact acc_B c arg2 harg2 arg3 harg3 arg4 harg4 arg5 harg5 arg6 harg6 arg7 harg7 arg10 harg10 x0 x1 x2 x3 x4 x5 xs0 r d

end Cert.FfnIdeal.Block
-- ==== Proof.FfnFinal.lean ====
/- The feed-forward kernel's result arrays: each row's result, from that row and the rows of its batch before it. -/
module

public import proofs.«01_k».proof.Proof.FfnCases

@[expose] public section

set_option maxRecDepth 16384
noncomputable section

namespace Cert.FfnIdeal.Final
open Cert.FfnIdeal Cert.FfnIdeal.Gen Cert.FfnIdeal.Block Cert.Proof.Rows Cert.Proof.FfnRows
open Idealize.ShloMosaic Idealize.ShloMosaic.TcCoe Idealize.SL.Sem
open Idealize.ShloMosaic.Pipeline (Dat)

/-- A tile's rows so many up are the array's rows so many up, when the carried rows are the eight before the tile. -/
theorem lag_eq (X : Vec Ideal S2x16384x1024 .f32) (g : Vec Ideal S1x1024 .f32) (W : Vec Ideal S1024x5632 .bf16) (b : Fin 2) (i : Nat) (hi : i < 32)
    (p : Fin 8 → Fin 2816 → EReal) (a : Fin 512 → Fin 2816 → EReal)
    (hp : ∀ q j, p q j = if i = 0 then 0 else first X g W b ⟨512 * i + q.val - 8, by omega⟩ j)
    (ha : ∀ r j, a r j = first X g W b ⟨512 * i + r.val, by omega⟩ j) (n : Fin 9) (r : Fin 512) (j : Fin 2816) :
    lag p a n r j = back X g W b n.val ⟨512 * i + r.val, by omega⟩ j := by
  unfold lag back
  by_cases h : r.val < n.val
  · rw [dif_pos h, hp]
    by_cases h0 : i = 0
    · rw [if_pos h0, if_pos (by show 512 * i + r.val < n.val; omega)]
    · rw [if_neg h0, if_neg (by show ¬512 * i + r.val < n.val; omega)]
      exact congrArg (fun s => first X g W b s j) (Fin.ext (by show 512 * i + (8 - n.val + r.val) - 8 = 512 * i + r.val - n.val; omega))
  · rw [dif_neg h, if_neg (by show ¬512 * i + r.val < n.val; omega), ha]
    exact congrArg (fun s => first X g W b s j) (Fin.ext (by show 512 * i + (r.val - n.val) = 512 * i + r.val - n.val; omega))

/-- The sum over all columns, chunk after chunk, is the row's result. -/
theorem sum_eq (X : Vec Ideal S2x16384x1024 .f32) (g : Vec Ideal S1x1024 .f32) (W : Vec Ideal S1024x5632 .bf16) (cw : Vec Ideal S3x2816 .f32)
    (cb : Vec Ideal S1x2816 .f32) (D : Vec Ideal S2816x1024 .bf16) (b : Fin 2) (i : Nat) (hi : i < 32)
    (x0 : Vec Ideal S1x512x1024 .f32) (hx : ∀ r k, x0 (ix3 0 r k) = X (ix3 b ⟨512 * i + r.val, by omega⟩ k))
    (p : Fin 8 → Fin 2816 → EReal) (a : Fin 512 → Fin 2816 → EReal)
    (hp : ∀ q j, p q j = if i = 0 then 0 else first X g W b ⟨512 * i + q.val - 8, by omega⟩ j)
    (ha : ∀ r j, a r j = first X g W b ⟨512 * i + r.val, by omega⟩ j) (r : Fin 512) (d : Fin 1024) :
    x0 (ix3 0 r d) + ∑ j ∈ Finset.range 2816, part (k0_pay6 x0 g) p a W cw cb D r d j
      = ffn X g W cw cb D (ix3 b ⟨512 * i + r.val, by omega⟩ d) := by
  show _ = ffnRow _ _ _ _ g W cw cb D d
  unfold ffnRow
  rw [hx, Finset.sum_range]
  refine congrArg (X (ix3 b ⟨512 * i + r.val, by omega⟩ d) + ·) (Finset.sum_congr rfl fun j _ => ?_)
  unfold part
  rw [dif_pos j.isLt, lag_eq X g W b i hi p a hp ha, lag_eq X g W b i hi p a hp ha, ha]
  have hu : (∑ k : Fin 1024, k0_pay6 x0 g (ix2 r k) * W (ix2 k (high j))) = proj (fun k => X (ix3 b ⟨512 * i + r.val, by omega⟩ k)) g W (high j) := by
    unfold proj
    refine Finset.sum_congr rfl fun k _ => congrArg (· * W (ix2 k (high j))) ?_
    rw [norm_apply]
    exact congrArg (fun x => normRow x g k) (funext fun k => hx r k)
  exact congrArg₂ (· * ·) (congrArg (gated _ _ _ _ _ _ _) hu) rfl

/-! ## From blocks to arrays -/

/-- Each window's block index at each grid point. -/
theorem idx : ∀ t : Fin cfg0.N,
    win0_0.index t = ![t.val / 32, t.val % 32, 0] ∧ win0_1.index t = ![0, 0] ∧ win0_2.index t = ![0, 0] ∧ win0_3.index t = ![0, 0]
    ∧ win0_4.index t = ![0, 0] ∧ win0_5.index t = ![0, 0] ∧ win0_6.index t = ![t.val / 32, t.val % 32, 0] ∧ win0_7.index t = ![t.val / 32, 0, 0] :=
  (by decide +kernel : ∀ t : Fin grid0.N, _)

/-- The tail is written back after a batch's last tile. -/
theorem flush7 : ∀ t : Fin cfg0.N, (cfg0.win 7).flush t = true → t.val % 32 = 31 :=
  (by decide +kernel : ∀ t : Fin grid0.N, _)

variable (m : (ℓ : Loc nD τ sig) → Buf (Elt Ideal) ℓ)

theorem blk0 (c : Dev nD) (t : Fin cfg0.N) (b : Fin 2) (i : Nat) (hi : i < 32) (hb : t.val / 32 = b.val) (h : t.val % 32 = i) (r : Fin 512) (k : Fin 1024) :
    iblk m c 0 t (ix3 0 r k) = V m c main_arg0 (ix3 b ⟨512 * i + r.val, by omega⟩ k) := by
  obtain ⟨i0, -⟩ := idx t
  blk_ext [iblk, i0]

theorem blk1 (c : Dev nD) (t : Fin cfg0.N) : iblk m c 1 t = V m c main_arg1 := by
  obtain ⟨-, i1, -⟩ := idx t; funext j; blk_ext [iblk, i1]
theorem blk2 (c : Dev nD) (t : Fin cfg0.N) : iblk m c 2 t = V m c main_arg2 := by
  obtain ⟨-, -, i2, -⟩ := idx t; funext j; blk_ext [iblk, i2]
theorem blk3 (c : Dev nD) (t : Fin cfg0.N) : iblk m c 3 t = V m c main_arg3 := by
  obtain ⟨-, -, -, i3, -⟩ := idx t; funext j; blk_ext [iblk, i3]
theorem blk4 (c : Dev nD) (t : Fin cfg0.N) : iblk m c 4 t = V m c main_arg4 := by
  obtain ⟨-, -, -, -, i4, -⟩ := idx t; funext j; blk_ext [iblk, i4]
theorem blk5 (c : Dev nD) (t : Fin cfg0.N) : iblk m c 5 t = V m c main_arg5 := by
  obtain ⟨-, -, -, -, -, i5, -⟩ := idx t; funext j; blk_ext [iblk, i5]

theorem half_blk (c : Dev nD) (t : Fin cfg0.N) (b : Fin 2) (i : Nat) (hi : i < 32) (hb : t.val / 32 = b.val) (h : t.val % 32 = i) (r : Fin 512) (j : Fin 2816) :
    half (iblk m c 0 t) (iblk m c 1 t) (iblk m c 2 t) r j
      = first (V m c main_arg0) (V m c main_arg1) (V m c main_arg2) b ⟨512 * i + r.val, by omega⟩ j := by
  rw [blk1, blk2]
  exact congrArg (fun x => proj x (V m c main_arg1) (V m c main_arg2) (low j)) (funext fun k => blk0 m c t b i hi hb h r k)

/-- What a tile hands on: the last eight rows of its first half. -/
theorem carried (c : Dev nD) (t : Fin cfg0.N) (b : Fin 2) (i : Nat) (hi : i < 32) (hb : t.val / 32 = b.val) (h : t.val % 32 = i) (q : Fin 8) (j : Fin 2816) :
    (outsAt0 m c t.val t.isLt).2.2 (ix2 ⟨q.val, by omega⟩ j)
      = first (V m c main_arg0) (V m c main_arg1) (V m c main_arg2) b ⟨512 * i + (504 + q.val), by omega⟩ j := by
  by_cases h0 : t.val % 32 = 0
  · rw [outsAt0_A m c t h0]
    dsimp only
    rw [scratch_A]
    exact half_blk m c t b i hi hb h _ j
  · rw [outsAt0_B m c t h0]
    dsimp only
    rw [scratch_B]
    exact half_blk m c t b i hi hb h _ j

/-- The tail block after a tile. -/
theorem tail_blk (c : Dev nD) (t : Fin cfg0.N) (b : Fin 2) (i : Nat) (hi : i < 32) (hb : t.val / 32 = b.val) (h : t.val % 32 = i) (q : Fin 8) (j : Fin 2816) :
    (outsAt0 m c t.val t.isLt).2.1 (ix3 0 q j)
      = first (V m c main_arg0) (V m c main_arg1) (V m c main_arg2) b ⟨512 * i + (504 + q.val), by omega⟩ j := by
  by_cases h0 : t.val % 32 = 0
  · rw [outsAt0_A m c t h0]
    dsimp only
    rw [tail_A]
    exact half_blk m c t b i hi hb h _ j
  · rw [outsAt0_B m c t h0]
    dsimp only
    rw [tail_B]
    exact half_blk m c t b i hi hb h _ j

/-- The output block of a tile. -/
theorem out_blk (c : Dev nD) (t : Fin cfg0.N) (b : Fin 2) (i : Nat) (hi : i < 32) (hb : t.val / 32 = b.val) (h : t.val % 32 = i) (r : Fin 512) (d : Fin 1024) :
    (outsAt0 m c t.val t.isLt).1 (ix3 0 r d)
      = ffn (V m c main_arg0) (V m c main_arg1) (V m c main_arg2) (V m c main_arg3) (V m c main_arg4) (V m c main_arg5)
          (ix3 b ⟨512 * i + r.val, by omega⟩ d) := by
  have ha := half_blk m c t b i hi hb h
  by_cases h0 : t.val % 32 = 0
  · rw [outsAt0_A m c t h0]
    dsimp only
    rw [out_A, blk1, blk2, blk3, blk4, blk5]
    rw [blk1, blk2] at ha
    exact sum_eq _ _ _ _ _ _ b i hi _ (blk0 m c t b i hi hb h) _ _ (fun q j => (if_pos (by omega)).symm) ha r d
  · rw [outsAt0_B m c t h0]
    dsimp only
    rw [out_B, blk1, blk2, blk3, blk4, blk5]
    rw [blk1, blk2] at ha
    refine sum_eq _ _ _ _ _ _ b i hi _ (blk0 m c t b i hi hb h) _ _ (fun q j => ?_) ha r d
    rw [if_neg (by omega)]
    refine (carried m c ⟨t.val - 1, by omega⟩ b (i - 1) (by omega) (by show (t.val - 1) / 32 = b.val; omega) (by show (t.val - 1) % 32 = i - 1; omega) q j).trans ?_
    exact congrArg (fun s => first _ _ _ b s j) (Fin.ext (by show 512 * (i - 1) + (504 + q.val) = 512 * i + q.val - 8; omega))

/-- The first result array is the feed-forward of the argument arrays. -/
theorem final (c : Dev nD) :
    (dats m 0 c).arrAt 6 cfg0.N = ffn (V m c main_arg0) (V m c main_arg1) (V m c main_arg2) (V m c main_arg3) (V m c main_arg4) (V m c main_arg5) := by
  refine (dats m 0 c).arrAt_eq_of_covers 6 _ (by decide +kernel) fun t hf y => ?_
  obtain ⟨i0, i1, i2, i3, i4, i5, i6, i7⟩ := idx t
  have ht : t.val < 64 := t.isLt
  idx_vars y
  rw [after0_6]
  blk_simp
  have he : (win0_6.blk t).view.emb (ix3 y0 y1 y2) = ix3 ⟨t.val / 32, by omega⟩ ⟨512 * (t.val % 32) + y1.val, by omega⟩ y2 := by
    blk_ext [i6]
  refine Eq.trans ?_ (congrArg (ffn _ _ _ _ _ _) he).symm
  have hy : y0 = 0 := Fin.ext (by omega)
  subst hy
  exact out_blk m c t ⟨t.val / 32, by omega⟩ (t.val % 32) (by omega) rfl rfl y1 y2

/-- The second holds the last rows of the first half. -/
theorem final_tail (c : Dev nD) :
    (dats m 0 c).arrAt 7 cfg0.N = tail (V m c main_arg0) (V m c main_arg1) (V m c main_arg2) := by
  refine (dats m 0 c).arrAt_eq_of_covers 7 _ (by decide +kernel) fun t hf y => ?_
  obtain ⟨i0, i1, i2, i3, i4, i5, i6, i7⟩ := idx t
  have ht : t.val < 64 := t.isLt
  have hl := flush7 t hf
  idx_vars y
  rw [after0_7]
  blk_simp
  have he : (win0_7.blk t).view.emb (ix3 y0 y1 y2) = ix3 ⟨t.val / 32, by omega⟩ y1 y2 := by
    blk_ext [i7]
  refine Eq.trans ?_ (congrArg (tail _ _ _) he).symm
  have hy : y0 = 0 := Fin.ext (by omega)
  subst hy
  refine (tail_blk m c t ⟨t.val / 32, by omega⟩ (t.val % 32) (by omega) rfl rfl y1 y2).trans ?_
  exact congrArg (fun s => first _ _ _ _ s y2) (Fin.ext (by show 512 * (t.val % 32) + (504 + y1.val) = 16376 + y1.val; omega))

end Cert.FfnIdeal.Final
-- ==== Proof.FfnReference.lean ====
/- The feed-forward reference: its composed terms as named steps, each read at an index, together the feed-forward. -/
module

public import proofs.«01_k».proof.Proof.FfnRows
public import proofs.«01_k».proof.Proof.Gen.FfnRefIdeal.Run
public import Idealize.ShloMosaic.Lib.Pointwise

@[expose] public section

set_option maxRecDepth 16384
noncomputable section

namespace Cert.FfnRefIdeal.Reference
open Cert.FfnRefIdeal Cert.FfnRefIdeal.Gen Cert.Proof.Rows Cert.Proof.FfnRows
open Idealize.ShloMosaic Idealize.ShloMosaic.TcCoe Idealize.SL.Sem Idealize.ShloMosaic.StableHlo

variable {F : FTy → Type} [FloatOps F]

/-- The input's rows normalised. -/
def rows (A0 : FVec F S2x16384x1024 .f32) (A1 : FVec F S1x1024 .f32) : FVec F S2x16384x1024 .f32 :=
  mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ A1 shapeCasts_S1x1024_S1024)))

/-- The up-projection. -/
def prod (A2 : FVec F S1024x5632 .bf16) (H : FVec F S2x16384x1024 .f32) : FVec F S2x16384x5632 .f32 :=
  Host.dotGeneral dot_S2x16384x1024_S1024x5632_S2x16384x5632_2_0_01_1_n_n none H (extf .f32 A2 bitsLt_bf16_f32)

/-- Its first half below two rows of zeros. -/
def ext (P : FVec F S2x16384x5632 .f32) : FVec F S2x16386x2816 .f32 :=
  concatenate S2x16386x2816 1 [⟨S2x2x2816, (broadcastInDim S2x2x2816 ![] bcast_S_S2x2x2816 (constant S_ .f32 0x00000000#32))⟩, ⟨S2x16384x2816, (extractStridedSlice S2x16384x2816 ![0, 0, 0] P slices_S2x16384x5632_S2x16384x2816_0_0_0)⟩] concatenates_S2x2x2816_S2x16384x2816_S2x16386x2816_d1

/-- The convolution. -/
def conv (A3 : FVec F S3x2816 .f32) (A4 : FVec F S1x2816 .f32) (E : FVec F S2x16386x2816 .f32) : FVec F S2x16384x2816 .f32 :=
  addf (addf (addf (broadcastInDim S2x16384x2816 ![0, 1, 2] bcast_S1x1x2816_S2x16384x2816_0_1_2 (broadcastInDim S1x1x2816 ![2] bcast_S2816_S1x1x2816_2 (shapeCast _ A4 shapeCasts_S1x2816_S2816))) (mulf (broadcastInDim S2x16384x2816 ![0, 1, 2] bcast_S1x1x2816_S2x16384x2816_0_1_2 (broadcastInDim S1x1x2816 ![2] bcast_S2816_S1x1x2816_2 (shapeCast _ (extractStridedSlice S1x2816 ![0, 0] A3 slices_S3x2816_S1x2816_0_0) shapeCasts_S1x2816_S2816))) (extractStridedSlice S2x16384x2816 ![0, 0, 0] E slices_S2x16386x2816_S2x16384x2816_0_0_0))) (mulf (broadcastInDim S2x16384x2816 ![0, 1, 2] bcast_S1x1x2816_S2x16384x2816_0_1_2 (broadcastInDim S1x1x2816 ![2] bcast_S2816_S1x1x2816_2 (shapeCast _ (extractStridedSlice S1x2816 ![1, 0] A3 slices_S3x2816_S1x2816_1_0) shapeCasts_S1x2816_S2816))) (extractStridedSlice S2x16384x2816 ![0, 1, 0] E slices_S2x16386x2816_S2x16384x2816_0_1_0))) (mulf (broadcastInDim S2x16384x2816 ![0, 1, 2] bcast_S1x1x2816_S2x16384x2816_0_1_2 (broadcastInDim S1x1x2816 ![2] bcast_S2816_S1x1x2816_2 (shapeCast _ (extractStridedSlice S1x2816 ![2, 0] A3 slices_S3x2816_S1x2816_2_0) shapeCasts_S1x2816_S2816))) (extractStridedSlice S2x16384x2816 ![0, 2, 0] E slices_S2x16386x2816_S2x16384x2816_0_2_0))

/-- The gate times the second half. -/
def act (P : FVec F S2x16384x5632 .f32) (C : FVec F S2x16384x2816 .f32) : FVec F S2x16384x2816 .f32 :=
  mulf (mulf C (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf C))))) (extractStridedSlice S2x16384x2816 ![0, 0, 2816] P slices_S2x16384x5632_S2x16384x2816_0_0_2816)

/-- The down-projection added to the input. -/
def joined (A0 : FVec F S2x16384x1024 .f32) (A5 : FVec F S2816x1024 .bf16) (G : FVec F S2x16384x2816 .f32) : FVec F S2x16384x1024 .f32 :=
  addf A0 (Host.dotGeneral dot_S2x16384x2816_S2816x1024_S2x16384x1024_2_0_01_1_n_n none G (extf .f32 A5 bitsLt_bf16_f32))

/-- The steps in order. -/
def whole (A0 : FVec F S2x16384x1024 .f32) (A1 : FVec F S1x1024 .f32) (A2 : FVec F S1024x5632 .bf16) (A3 : FVec F S3x2816 .f32) (A4 : FVec F S1x2816 .f32) (A5 : FVec F S2816x1024 .bf16) : FVec F S2x16384x1024 .f32 :=
  joined A0 A5 (act (prod A2 (rows A0 A1)) (conv A3 A4 (ext (prod A2 (rows A0 A1)))))

/-- The last rows of the first half. -/
def last (A0 : FVec F S2x16384x1024 .f32) (A1 : FVec F S1x1024 .f32) (A2 : FVec F S1024x5632 .bf16) : FVec F S2x8x2816 .f32 :=
  extractStridedSlice S2x8x2816 ![0, 16376, 0] (extractStridedSlice S2x16384x2816 ![0, 0, 0] (prod A2 (rows A0 A1)) slices_S2x16384x5632_S2x16384x2816_0_0_0) slices_S2x16384x2816_S2x8x2816_0_16376_0

/-! ## Each step at an index -/

theorem rows_apply (A0 : FVec Ideal S2x16384x1024 .f32) (A1 : FVec Ideal S1x1024 .f32) (b : Fin 2) (s : Fin 16384) (k : Fin 1024) :
    rows A0 A1 (ix3 b s k) = normRow (fun k => A0 (ix3 b s k)) A1 k := by
  pointwise [rows, normRow]

theorem prod_apply (A0 : FVec Ideal S2x16384x1024 .f32) (A1 : FVec Ideal S1x1024 .f32) (A2 : FVec Ideal S1024x5632 .bf16) (b : Fin 2) (s : Fin 16384) (j : Fin 5632) :
    prod A2 (rows A0 A1) (ix3 b s j) = proj (fun k => A0 (ix3 b s k)) A1 A2 j := by
  have h : ∀ H : FVec Ideal S2x16384x1024 .f32, prod A2 H (ix3 b s j) = (∑ k : Fin 1024, H (ix3 b s k) * A2 (ix2 k j) : EReal) := by
    intro H; pointwise [prod]
  rw [h]
  simp only [rows_apply]
  rfl

theorem ext_apply (P : FVec Ideal S2x16384x5632 .f32) (b : Fin 2) (s : Fin 16386) (j : Fin 2816) :
    ext P (ix3 b s j) = if h : s.val < 2 then 0 else P (ix3 b ⟨s.val - 2, by omega⟩ (low j)) := by
  pointwise [ext, low]

theorem conv_apply (A3 : FVec Ideal S3x2816 .f32) (A4 : FVec Ideal S1x2816 .f32) (E : FVec Ideal S2x16386x2816 .f32) (b : Fin 2) (s : Fin 16384) (j : Fin 2816) :
    conv A3 A4 E (ix3 b s j) = (A4 (ix2 0 j) + A3 (ix2 0 j) * E (ix3 b ⟨s.val, by omega⟩ j) + A3 (ix2 1 j) * E (ix3 b ⟨1 + s.val, by omega⟩ j)
      + A3 (ix2 2 j) * E (ix3 b ⟨2 + s.val, by omega⟩ j) : EReal) := by
  pointwise [conv]

theorem act_apply (P : FVec Ideal S2x16384x5632 .f32) (C : FVec Ideal S2x16384x2816 .f32) (b : Fin 2) (s : Fin 16384) (j : Fin 2816) :
    act P C (ix3 b s j) = (C (ix3 b s j) * Ideal.logistic (C (ix3 b s j)) * P (ix3 b s (high j)) : EReal) := by
  pointwise [act, Ideal.logistic, high]

theorem joined_apply (A0 : FVec Ideal S2x16384x1024 .f32) (A5 : FVec Ideal S2816x1024 .bf16) (G : FVec Ideal S2x16384x2816 .f32) (b : Fin 2) (s : Fin 16384) (d : Fin 1024) :
    joined A0 A5 G (ix3 b s d) = (A0 (ix3 b s d) + ∑ j : Fin 2816, G (ix3 b s j) * A5 (ix2 j d) : EReal) := by
  pointwise [joined]

/-- The extended first half, `2 - n` rows down, is the first half `n` rows up. -/
theorem ext_back (A0 : FVec Ideal S2x16384x1024 .f32) (A1 : FVec Ideal S1x1024 .f32) (A2 : FVec Ideal S1024x5632 .bf16) (b : Fin 2) (s : Fin 16384) (j : Fin 2816)
    (n : Nat) (u : Fin 16386) (hu : u.val + n = 2 + s.val) :
    ext (prod A2 (rows A0 A1)) (ix3 b u j) = back A0 A1 A2 b n s j := by
  rw [ext_apply]
  unfold back
  by_cases h : s.val < n
  · rw [if_pos h, dif_pos (by omega)]
  · rw [if_neg h, dif_neg (by omega), prod_apply]
    unfold first
    exact congrArg (fun z => proj (fun k => A0 (ix3 b z k)) A1 A2 (low j)) (Fin.ext (by show u.val - 2 = s.val - n; omega))

/-- The reference's first result is the feed-forward of its arguments. -/
theorem whole_eq (A0 : FVec Ideal S2x16384x1024 .f32) (A1 : FVec Ideal S1x1024 .f32) (A2 : FVec Ideal S1024x5632 .bf16) (A3 : FVec Ideal S3x2816 .f32) (A4 : FVec Ideal S1x2816 .f32) (A5 : FVec Ideal S2816x1024 .bf16) :
    whole A0 A1 A2 A3 A4 A5 = ffn A0 A1 A2 A3 A4 A5 := by
  funext i
  idx_vars i
  unfold whole
  rw [joined_apply]
  change _ = ffnRow (fun k => A0 (ix3 i0 i1 k)) (back A0 A1 A2 i0 2 i1) (back A0 A1 A2 i0 1 i1) (first A0 A1 A2 i0 i1) A1 A2 A3 A4 A5 i2
  unfold ffnRow
  refine congrArg (A0 (ix3 i0 i1 i2) + ·) (Finset.sum_congr rfl fun j _ => congrArg (· * A5 (ix2 j i2)) ?_)
  rw [act_apply, conv_apply, prod_apply, ext_back A0 A1 A2 i0 i1 j 2 _ (by show i1.val + 2 = _; omega),
    ext_back A0 A1 A2 i0 i1 j 1 _ (by show 1 + i1.val + 1 = _; omega), ext_back A0 A1 A2 i0 i1 j 0 _ rfl]
  rfl

/-- The second is the tail. -/
theorem last_eq (A0 : FVec Ideal S2x16384x1024 .f32) (A1 : FVec Ideal S1x1024 .f32) (A2 : FVec Ideal S1024x5632 .bf16) :
    last A0 A1 A2 = tail A0 A1 A2 := by
  funext i
  idx_vars i
  have h : ∀ P : FVec Ideal S2x16384x5632 .f32, extractStridedSlice S2x8x2816 ![0, 16376, 0] (extractStridedSlice S2x16384x2816 ![0, 0, 0] P slices_S2x16384x5632_S2x16384x2816_0_0_0) slices_S2x16384x2816_S2x8x2816_0_16376_0 (ix3 i0 i1 i2)
      = P (ix3 i0 ⟨16376 + i1.val, by omega⟩ (low i2)) := by
    intro P; pointwise [low]
  unfold last
  rw [h, prod_apply]
  rfl

end Cert.FfnRefIdeal.Reference
-- ==== Proof.ProjRows.lean ====
/- The entry projections at an index: a section's column, its heads over their root mean square, the rotation, and the arrays they make. -/
module

public import proofs.«01_k».proof.Proof.Rows

@[expose] public section

noncomputable section

namespace Cert.Proof.ProjRows
open Idealize.ShloMosaic Cert.Proof.Rows

/-- The normalised input row at token `t` times column `c` of the section of the weights that starts at column `o`. -/
def col (X : (⟨3, ![2, 16384, 1024]⟩ : Shape).Idx → EReal) (G : (⟨2, ![1, 1024]⟩ : Shape).Idx → EReal)
    (W : (⟨3, ![1, 1024, 6656]⟩ : Shape).Idx → EReal) (o : ℕ) (ho : o ≤ 6144) (b : Fin 2) (t : Fin 16384) (c : Fin 512) : EReal :=
  ∑ k, normRow (fun k => X (ix3 b t k)) G k * W (ix3 0 k ⟨o + c.val, by omega⟩)

/-- A row of heads of 64 columns, each over its root mean square, times the gain. -/
def unit64 (y : Fin 512 → EReal) (g : (⟨2, ![1, 64]⟩ : Shape).Idx → EReal) (c : Fin 512) : EReal :=
  y c * Ideal.rsqrt (Ideal.div (∑ j : Fin 64, y ⟨c.val / 64 * 64 + j.val, by omega⟩ * y ⟨c.val / 64 * 64 + j.val, by omega⟩)
    (Ideal.ofBits .f32 0x42800000#32) + Ideal.ofBits .f32 0x358637BD#32) * g (ix2 0 ⟨c.val % 64, by omega⟩)

/-- A row of heads of 128 columns, each over its root mean square, times the gain. -/
def unit128 (y : Fin 512 → EReal) (g : (⟨2, ![1, 128]⟩ : Shape).Idx → EReal) (c : Fin 512) : EReal :=
  y c * Ideal.rsqrt (Ideal.div (∑ j : Fin 128, y ⟨c.val / 128 * 128 + j.val, by omega⟩ * y ⟨c.val / 128 * 128 + j.val, by omega⟩)
    (Ideal.ofBits .f32 0x43000000#32) + Ideal.ofBits .f32 0x358637BD#32) * g (ix2 0 ⟨c.val % 128, by omega⟩)

/-- The rotation of a row of heads of 64 columns, by the cosines and sines of its token: each head's first half with its second. -/
def turn (z : Fin 512 → EReal) (co si : Fin 32 → EReal) (c : Fin 512) : EReal :=
  if h : c.val % 64 < 32 then z c * co ⟨c.val % 64, h⟩ - z ⟨c.val + 32, by omega⟩ * si ⟨c.val % 64, h⟩
  else z c * co ⟨c.val % 64 - 32, by omega⟩ + z ⟨c.val - 32, by omega⟩ * si ⟨c.val % 64 - 32, by omega⟩

/-- The rotation's angle at token `t` and frequency `k`. -/
def angle (t : Fin 16384) (k : Fin 32) : EReal :=
  FloatOps.sitofp (F := Ideal) FTy.f32 (BitVec.ofNat 32 t.val) * Ideal.pow (Ideal.ofBits .f32 0x461C4000#32)
    (Ideal.div (-FloatOps.sitofp (F := Ideal) FTy.f32 (BitVec.ofNat 32 k.val)) (Ideal.ofBits .f32 0x42000000#32))

/-- A section's heads of 64 columns over their root mean square, rotated. -/
def turned (X : (⟨3, ![2, 16384, 1024]⟩ : Shape).Idx → EReal) (G : (⟨2, ![1, 1024]⟩ : Shape).Idx → EReal)
    (W : (⟨3, ![1, 1024, 6656]⟩ : Shape).Idx → EReal) (g : (⟨2, ![1, 64]⟩ : Shape).Idx → EReal) (o : ℕ) (ho : o ≤ 6144)
    (b : Fin 2) (t : Fin 16384) (c : Fin 512) : EReal :=
  turn (unit64 (col X G W o ho b t) g) (fun k => Ideal.cos (angle t k)) (fun k => Ideal.sin (angle t k)) c

/-- Rows by token. -/
def rows (f : Fin 2 → Fin 16384 → Fin 512 → EReal) : (⟨3, ![2, 16384, 512]⟩ : Shape).Idx → EReal := fun i => f (i 0) (i 1) (i 2)

/-- Columns by token. -/
def cols (f : Fin 2 → Fin 16384 → Fin 512 → EReal) : (⟨3, ![2, 512, 16384]⟩ : Shape).Idx → EReal := fun i => f (i 0) (i 2) (i 1)

/-- Columns by token, in chunks of 256 tokens. -/
def chunks (f : Fin 2 → Fin 16384 → Fin 512 → EReal) : (⟨4, ![2, 64, 512, 256]⟩ : Shape).Idx → EReal := fun i =>
  f (i 0) ⟨(i 1).val * 256 + (i 3).val, by have := (i 1).isLt; have := (i 3).isLt; simp at *; omega⟩ (i 2)

end Cert.Proof.ProjRows
-- ==== Proof.ProjSum.lean ====
/- A head's mean square as a product with an averaging matrix, and that the projection's columns are real. -/
module

public import proofs.«01_k».proof.Proof.ProjRows
public import proofs.«01_k».proof.Proof.Spec

@[expose] public section

noncomputable section

namespace Cert.Proof.ProjSum
open Idealize.ShloMosaic Cert.Proof.Rows Cert.Proof.ProjRows Cert.Proof.Spec Cert.Proof.Online

/-- The columns of one head among all columns. -/
theorem sum_head (n : ℕ) (hn : 0 < n) (hb : ∀ (c : Fin 512) (k : Fin n), c.val / n * n + k.val < 512) (f : Fin 512 → ℝ) (c : Fin 512) :
    (∑ j : Fin 512, if j.val / n = c.val / n then f j else 0) = ∑ k : Fin n, f ⟨c.val / n * n + k.val, hb c k⟩ := by
  rw [← Finset.sum_filter]
  refine Finset.sum_bij' (fun j _ => ⟨j.val % n, Nat.mod_lt _ hn⟩) (fun k _ => ⟨c.val / n * n + k.val, hb c k⟩) (fun _ _ => Finset.mem_univ _) ?_ ?_ ?_ ?_
  · intro k _
    simp only [Finset.mem_filter, Finset.mem_univ, true_and]
    rw [Nat.mul_comm, Nat.mul_add_div hn, Nat.div_eq_of_lt k.isLt, Nat.add_zero]
  · intro j hj
    simp only [Finset.mem_filter, Finset.mem_univ, true_and] at hj
    refine Fin.ext ?_
    show c.val / n * n + j.val % n = j.val
    rw [← hj, Nat.mul_comm]
    exact Nat.div_add_mod _ _
  · intro k _
    refine Fin.ext ?_
    show (c.val / n * n + k.val) % n = k.val
    rw [Nat.mul_comm, Nat.mul_add_mod, Nat.mod_eq_of_lt k.isLt]
  · intro j hj
    simp only [Finset.mem_filter, Finset.mem_univ, true_and] at hj
    refine congrArg f (Fin.ext ?_)
    show j.val = c.val / n * n + j.val % n
    rw [← hj, Nat.mul_comm]
    exact (Nat.div_add_mod _ _).symm

/-- The squares against the averaging matrix, and their remainders after rounding, which are zero: the head's mean square. -/
theorem mean_head (n : ℕ) (hn : 0 < n) (hb : ∀ (c : Fin 512) (k : Fin n), c.val / n * n + k.val < 512) (L : EReal) (hL : L = ((n : ℝ) : EReal))
    (y : Fin 512 → EReal) (hy : ∀ j, y j ≠ ⊤ ∧ y j ≠ ⊥) (c : Fin 512) (S : Fin 512 → EReal)
    (hS : ∀ j, S j = Ideal.div (if j.val / n = c.val / n then 1 else 0) L) :
    (∑ j, y j * y j * S j) + (∑ j, (y j * y j - y j * y j) * S j)
      = Ideal.div (∑ k : Fin n, y ⟨c.val / n * n + k.val, hb c k⟩ * y ⟨c.val / n * n + k.val, hb c k⟩) L := by
  have hn' : (n : ℝ) ≠ 0 := by exact_mod_cast hn.ne'
  have hr : ∀ j, y j = ((y j).toReal : EReal) := fun j => (EReal.coe_toReal (hy j).1 (hy j).2).symm
  generalize (fun j => (y j).toReal) = r at hr
  have hs : ∀ j, S j = ((if j.val / n = c.val / n then 1 / (n : ℝ) else 0 : ℝ) : EReal) := by
    intro j
    rw [hS, hL, Ideal.div_coe hn']
    split <;> simp
  subst hL
  rw [Ideal.div_coe hn']
  obtain ⟨r, rfl⟩ : ∃ r : Fin 512 → ℝ, y = fun j => (r j : EReal) := ⟨fun j => (y j).toReal, funext hr⟩
  simp only [hs, ← EReal.coe_mul, ← EReal.coe_sub, sub_self, zero_mul, EReal.coe_zero, Finset.sum_const_zero, add_zero, ← coe_sum]
  refine congrArg _ ?_
  rw [← sum_head n hn hb (fun j => r j * r j) c, Finset.sum_mul]
  exact Finset.sum_congr rfl fun j _ => by split <;> simp

/-- The literal is the head's width. -/
theorem bits64 : Ideal.ofBits .f32 0x42800000#32 = (((64 : ℕ) : ℝ) : EReal) := by
  simp [Ideal.ofBits, Ideal.ieee]
  rw [← EReal.coe_mul]
  norm_num

/-- The literal is the wide head's width. -/
theorem bits128 : Ideal.ofBits .f32 0x43000000#32 = (((128 : ℕ) : ℝ) : EReal) := by
  simp [Ideal.ofBits, Ideal.ieee]
  rw [← EReal.coe_mul]
  norm_num

/-- The squares' mean of a real row is a nonnegative real; with a positive number added its inverse root is real. -/
theorem normRow_real (x : Fin 1024 → EReal) (hx : ∀ k, x k ≠ ⊤ ∧ x k ≠ ⊥) (g : (⟨2, ![1, 1024]⟩ : Shape).Idx → EReal) (hg : Fin_ g) (k : Fin 1024) :
    ∃ r : ℝ, normRow x g k = (r : EReal) := by
  obtain ⟨e, he, h0⟩ : ∃ e : ℝ, Ideal.ofBits .f32 0x358637BD#32 = (e : EReal) ∧ 0 < e := by
    refine ⟨8796093 * (2 ^ 43)⁻¹, ?_, by positivity⟩
    simp [Ideal.ofBits, Ideal.ieee]
  have hl : Ideal.ofBits .f32 0x44800000#32 = ((1024 : ℝ) : EReal) := by
    simp [Ideal.ofBits, Ideal.ieee]
    rw [← EReal.coe_mul]
    norm_num
  obtain ⟨r, rfl⟩ : ∃ r : Fin 1024 → ℝ, x = fun j => (r j : EReal) := ⟨fun j => (x j).toReal, funext fun j => (EReal.coe_toReal (hx j).1 (hx j).2).symm⟩
  obtain ⟨q, hq⟩ : ∃ q : ℝ, g (ix2 0 k) = (q : EReal) := ⟨_, (EReal.coe_toReal (hg _).1 (hg _).2).symm⟩
  unfold normRow
  rw [he, hl, Ideal.div_coe (by norm_num), hq]
  have hp : 0 < (∑ j, r j * r j) * (1 / 1024) + e := by
    have := Finset.sum_nonneg fun (j : Fin 1024) (_ : j ∈ Finset.univ) => mul_self_nonneg (r j)
    positivity
  simp only [← EReal.coe_mul, ← coe_sum, ← EReal.coe_add]
  rw [Ideal.rsqrt_coe, if_neg hp.not_gt, if_neg hp.ne']
  exact ⟨_, by rw [← EReal.coe_mul, ← EReal.coe_mul]⟩

/-- A column of the projection is a real. -/
theorem col_real (X : (⟨3, ![2, 16384, 1024]⟩ : Shape).Idx → EReal) (hX : Fin_ X) (G : (⟨2, ![1, 1024]⟩ : Shape).Idx → EReal) (hG : Fin_ G)
    (W : (⟨3, ![1, 1024, 6656]⟩ : Shape).Idx → EReal) (hW : Fin_ W) (o : ℕ) (ho : o ≤ 6144) (b : Fin 2) (t : Fin 16384) (c : Fin 512) :
    col X G W o ho b t c ≠ ⊤ ∧ col X G W o ho b t c ≠ ⊥ := by
  have h := fun k => normRow_real (fun k => X (ix3 b t k)) (fun k => hX _) G hG k
  choose r hr using h
  have e : col X G W o ho b t c = ((∑ k, r k * (W (ix3 0 k ⟨o + c.val, by omega⟩)).toReal : ℝ) : EReal) := by
    rw [coe_sum]
    refine Finset.sum_congr rfl fun k _ => ?_
    rw [hr, EReal.coe_mul, EReal.coe_toReal (hW _).1 (hW _).2]
  rw [e]
  exact ⟨EReal.coe_ne_top _, EReal.coe_ne_bot _⟩

end Cert.Proof.ProjSum
-- ==== Proof.ProjBlock.lean ====
/- The entry projections' kernel: what it stores of one block of 512 tokens, from the block's rows, its weights and its tables. -/
module

public import proofs.«01_k».proof.Proof.ProjSum
public import proofs.«01_k».proof.Proof.Gen.ProjIdeal.Skeleton
public import Idealize.ShloMosaic.Lib.Pointwise
public import Idealize.ShloMosaic.Lib.Pipeline.Value

@[expose] public section

set_option maxRecDepth 16384
noncomputable section

namespace Cert.ProjIdeal.Block
open Cert.ProjIdeal Cert.ProjIdeal.Gen Cert.Proof.Rows Cert.Proof.ProjRows Cert.Proof.ProjSum
open Idealize.ShloMosaic Idealize.ShloMosaic.TcCoe Idealize.SL.Sem

/-- The block's rows normalised. -/
theorem hid_apply (x : Vec Ideal S1x512x1024 .f32) (g : Vec Ideal S1x1024 .f32) (r : Fin 512) (k : Fin 1024) :
    k0_pay5 x g (ix2 r k) = normRow (fun k => x (ix3 0 r k)) g k := by
  pointwise [k0_pay5, normRow]

/-- A row of the block against a column of a section. -/
theorem dot_apply (h : FVec Ideal S512x1024 .bf16) (w : Vec Ideal S1024x512 .bf16) (r c : Fin 512) :
    k0_pay12 h w (ix2 r c) = ∑ k, h (ix2 r k) * w (ix2 k c) := by
  pointwise [k0_pay12]

theorem dot_q_apply (x : Vec Ideal S1x512x1024 .f32) (g : Vec Ideal S1x1024 .f32) (w : Vec Ideal S1024x512 .bf16) (r c : Fin 512) :
    k0_pay7 x g w (ix2 r c) = ∑ k, k0_pay5 x g (ix2 r k) * w (ix2 k c) := by
  pointwise [k0_pay7]

theorem dot_t_apply (h : FVec Ideal S512x1024 .bf16) (w : Vec Ideal S512x1024 .bf16) (r c : Fin 512) :
    k0_pay17 h w (ix2 c r) = ∑ k, h (ix2 r k) * w (ix2 c k) := by
  pointwise [k0_pay17]
  exact Finset.sum_congr rfl fun k _ => mul_comm _ _

/-- The first section, an eighth of it. -/
theorem first_apply (x : Vec Ideal S1x512x1024 .f32) (g : Vec Ideal S1x1024 .f32) (w : Vec Ideal S1024x512 .bf16) (u : Fin 1) (r c : Fin 512) :
    k0_pay6 x g w (ix3 u r c) = (∑ k, k0_pay5 x g (ix2 r k) * w (ix2 k c)) * Ideal.ofBits .f32 0x3E000000#32 := by
  pointwise [k0_pay6]

theorem eighth_apply (z : FVec Ideal S512x512 .f32) (u : Fin 1) (r c : Fin 512) :
    k0_pay11 z (ix3 u r c) = z (ix2 r c) * Ideal.ofBits .f32 0x3E000000#32 := by
  pointwise [k0_pay11]

theorem plain_apply (h : FVec Ideal S512x1024 .bf16) (w : Vec Ideal S1024x512 .bf16) (u : Fin 1) (r c : Fin 512) :
    k0_pay13 h w (ix3 u r c) = ∑ k, h (ix2 r k) * w (ix2 k c) := by
  pointwise [k0_pay13, k0_pay12]

theorem plain_apply' (h : FVec Ideal S512x1024 .bf16) (w : Vec Ideal S1024x512 .bf16) (u : Fin 1) (r c : Fin 512) :
    k0_pay14 h w (ix3 u r c) = ∑ k, h (ix2 r k) * w (ix2 k c) := by
  pointwise [k0_pay14, k0_pay12]

/-- The section of wide heads, each over its root mean square. -/
theorem wide_apply (h : FVec Ideal S512x1024 .bf16) (w : Vec Ideal S1024x512 .bf16) (S : Vec Ideal S512x512 .bf16) (g : Vec Ideal S1x512 .f32)
    (y : Fin 512 → EReal) (hy : ∀ j, y j ≠ ⊤ ∧ y j ≠ ⊥) (g' : (⟨2, ![1, 128]⟩ : Shape).Idx → EReal) (r : Fin 512)
    (hd : ∀ c, ∑ k, h (ix2 r k) * w (ix2 k c) = y c)
    (hS : ∀ j c, S (ix2 j c) = Ideal.div (if j.val / 128 = c.val / 128 then 1 else 0) (Ideal.ofBits .f32 0x43000000#32))
    (hg : ∀ c, g (ix2 0 c) = g' (ix2 0 ⟨c.val % 128, by omega⟩)) (u : Fin 1) (c : Fin 512) :
    k0_pay16 (k0_pay15 h w S) g (ix3 u r c) = unit128 y g' c := by
  pointwise [k0_pay16, k0_pay15]
  simp only [hd, hg]
  rw [mean_head 128 (by decide) (by omega) _ bits128 y hy c (fun j => S (ix2 j c)) fun j => hS j c]
  rfl

/-- Whether a column lies in its head's first half, as the kernel computes it. -/
def lower (c : BitVec 32) : BitVec 1 :=
  IntOp.cmpi .slt
    (Scalar.select
      (IntOp.andi
        (IntOp.xori
          (IntOp.cmpi .slt (IntOp.remsi .vector c (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector c (Scalar.select (Scalar.cmpi .eq 64#32 0#32) 1#32 64#32)) 0#32))
      (IntOp.addi (IntOp.remsi .vector c (Scalar.select (Scalar.cmpi .eq 64#32 0#32) 1#32 64#32)) (Scalar.select (Scalar.cmpi .eq 64#32 0#32) 1#32 64#32))
      (IntOp.remsi .vector c (Scalar.select (Scalar.cmpi .eq 64#32 0#32) 1#32 64#32)))
    32#32

theorem lower_eq : ∀ c : Fin 512, lower (BitVec.ofNat 32 c.val) = if c.val % 64 < 32 then 1#1 else 0#1 := by decide +kernel

/-- A table of 128 columns repeated four times. -/
theorem four (v : Vec Ideal S512x128 .f32) (r c : Fin 512) :
    (if h : c.val < 128 then v (ix2 r ⟨c.val, h⟩)
      else if h : c.val - 128 < 128 then v (ix2 r ⟨c.val - 128, h⟩)
      else if h : c.val - 128 - 128 < 128 then v (ix2 r ⟨c.val - 128 - 128, h⟩)
      else v (ix2 r ⟨c.val - 128 - 128 - 128, by omega⟩)) = v (ix2 r ⟨c.val % 128, by omega⟩) := by
  split_ifs <;> exact congrArg (fun k => v (ix2 r k)) (Fin.ext (by dsimp only; omega))

/-- The rotation by a swap of each head's halves and a negated sine. -/
theorem turn_eq (z : Fin 512 → EReal) (co si : Fin 32 → EReal) (c : Fin 512) (s : EReal)
    (hs : s = if h : c.val % 64 < 32 then z ⟨c.val + 32, by omega⟩ else z ⟨c.val - 32, by omega⟩) :
    z c * (if h : c.val % 64 < 32 then co ⟨c.val % 64, h⟩ else co ⟨c.val % 64 - 32, by omega⟩)
      + s * (if h : c.val % 64 < 32 then -si ⟨c.val % 64, h⟩ else si ⟨c.val % 64 - 32, by omega⟩) = turn z co si c := by
  subst hs
  unfold turn
  split
  · rw [mul_neg, sub_eq_add_neg]
  · rfl

/-- A section of heads of 64 columns, each over its root mean square, rotated by swapping its halves. -/
theorem turned_apply (v28 : FVec Ideal S512x512 .f32) (S : FVec Ideal S512x512 .bf16) (v36 : FVec Ideal S1024x512 .bf16) (g : Vec Ideal S1x512 .f32)
    (ct st : Vec Ideal S512x128 .f32) (y : Fin 512 → EReal) (hy : ∀ j, y j ≠ ⊤ ∧ y j ≠ ⊥) (g' : (⟨2, ![1, 64]⟩ : Shape).Idx → EReal)
    (co si : Fin 32 → EReal) (r : Fin 512) (hd : ∀ c, v28 (ix2 r c) = y c)
    (hhi : ∀ c, v36 (ix2 ⟨r.val, by omega⟩ c) = y c * y c) (hlo : ∀ c, v36 (ix2 ⟨512 + r.val, by omega⟩ c) = y c * y c - y c * y c)
    (hS : ∀ j c, S (ix2 j c) = Ideal.div (if j.val / 64 = c.val / 64 then 1 else 0) (Ideal.ofBits .f32 0x42800000#32))
    (hg : ∀ c, g (ix2 0 c) = g' (ix2 0 ⟨c.val % 64, by omega⟩))
    (hc : ∀ n : Fin 128, ct (ix2 r n) = if h : n.val % 64 < 32 then co ⟨n.val % 64, h⟩ else co ⟨n.val % 64 - 32, by omega⟩)
    (hs : ∀ n : Fin 128, st (ix2 r n) = if h : n.val % 64 < 32 then -si ⟨n.val % 64, h⟩ else si ⟨n.val % 64 - 32, by omega⟩) (c : Fin 512) :
    k0_pay10 v28 S v36 g ct st (ix2 r c) = turn (unit64 y g') co si c := by
  have hm : ∀ c : Fin 512, v28 (ix2 r c) * Ideal.rsqrt (∑ x, v36 (ix2 ⟨r.val, by omega⟩ x) * S (ix2 x c) + ∑ x, v36 (ix2 ⟨512 + r.val, by omega⟩ x) * S (ix2 x c)
      + Ideal.ofBits .f32 0x358637BD#32) * g (ix2 0 c) = unit64 y g' c := by
    intro c
    simp only [hd, hhi, hlo, hg]
    rw [mean_head 64 (by decide) (by omega) _ bits64 y hy c (fun j => S (ix2 j c)) fun j => hS j c]
    rfl
  have e : c.val % 128 % 64 = c.val % 64 := by omega
  pointwise [k0_pay10]
  rw [four ct, four st, hc, hs, hm, hm, hm]
  change _ + Scalar.select (lower (BitVec.ofNat 32 c.val)) _ _ * _ = _
  rw [lower_eq]
  simp only [e]
  refine turn_eq (unit64 y g') co si c _ ?_
  split
  · exact (if_pos rfl).trans (congrArg (unit64 y g') (Fin.ext (by dsimp only; omega)))
  · exact (if_neg (by decide)).trans (congrArg (unit64 y g') (Fin.ext (by dsimp only; omega)))

/-- The squares above their remainders. -/
theorem squares_apply (x : Vec Ideal S1x512x1024 .f32) (g : Vec Ideal S1x1024 .f32) (w : Vec Ideal S1024x512 .bf16) (y : Fin 512 → EReal) (r : Fin 512)
    (hd : ∀ c, k0_pay7 x g w (ix2 r c) = y c) (c : Fin 512) :
    k0_pay9 x g w (ix2 ⟨r.val, by omega⟩ c) = y c * y c ∧ k0_pay9 x g w (ix2 ⟨512 + r.val, by omega⟩ c) = y c * y c - y c * y c := by
  constructor
  · pointwise [k0_pay9]
    simp only [hd]
  · pointwise [k0_pay9]
    simp [hd]

/-- The transposed section of heads of 64 columns, each over its root mean square. -/
theorem head_t_apply (h : FVec Ideal S512x1024 .bf16) (w : Vec Ideal S512x1024 .bf16) (S S' : Vec Ideal S512x512 .bf16) (g : Vec Ideal S512x128 .f32)
    (y : Fin 512 → EReal) (hy : ∀ j, y j ≠ ⊤ ∧ y j ≠ ⊥) (g' : (⟨2, ![1, 64]⟩ : Shape).Idx → EReal) (r : Fin 512)
    (hd : ∀ c, ∑ k, w (ix2 c k) * h (ix2 r k) = y c)
    (hS : ∀ j c, S (ix2 j c) = Ideal.div (if j.val / 64 = c.val / 64 then 1 else 0) (Ideal.ofBits .f32 0x42800000#32))
    (hS' : ∀ j c, S' (ix2 j c) = Ideal.div (if j.val / 64 = c.val / 64 then 1 else 0) (Ideal.ofBits .f32 0x42800000#32))
    (hg : ∀ c n, g (ix2 c n) = g' (ix2 0 ⟨c.val % 64, by omega⟩)) (c : Fin 512) :
    k0_pay26 h w S S' g (ix2 c r) = unit64 y g' c := by
  pointwise [k0_pay26]
  simp only [hd, hg, dite_eq_ite, ite_self]
  have e := mean_head 64 (by decide) (by omega) _ bits64 y hy c (fun j => S (ix2 c j)) fun j => by simp only [hS, eq_comm]
  have e' : ∑ x, S' (ix2 c x) * (y x * y x - y x * y x) = ∑ x, (y x * y x - y x * y x) * S (ix2 c x) :=
    Finset.sum_congr rfl fun x _ => by rw [mul_comm, hS', hS]
  have e'' : ∑ x, S (ix2 c x) * (y x * y x) = ∑ x, y x * y x * S (ix2 c x) := Finset.sum_congr rfl fun x _ => mul_comm _ _
  rw [e', e'', e]
  rfl

/-- Each head's two halves in each other's place. -/
def halves (v : FVec Ideal S512x512 .f32) : Fin 16 → FVec Ideal S32x512 .f32 :=
  ![extractStridedSlice S32x512 ![32, 0] v slices_S512x512_o32_0_S32x512,
    extractStridedSlice S32x512 ![0, 0] v slices_S512x512_o0_0_S32x512,
    extractStridedSlice S32x512 ![96, 0] v slices_S512x512_o96_0_S32x512,
    extractStridedSlice S32x512 ![64, 0] v slices_S512x512_o64_0_S32x512,
    extractStridedSlice S32x512 ![160, 0] v slices_S512x512_o160_0_S32x512,
    extractStridedSlice S32x512 ![128, 0] v slices_S512x512_o128_0_S32x512,
    extractStridedSlice S32x512 ![224, 0] v slices_S512x512_o224_0_S32x512,
    extractStridedSlice S32x512 ![192, 0] v slices_S512x512_o192_0_S32x512,
    extractStridedSlice S32x512 ![288, 0] v slices_S512x512_o288_0_S32x512,
    extractStridedSlice S32x512 ![256, 0] v slices_S512x512_o256_0_S32x512,
    extractStridedSlice S32x512 ![352, 0] v slices_S512x512_o352_0_S32x512,
    extractStridedSlice S32x512 ![320, 0] v slices_S512x512_o320_0_S32x512,
    extractStridedSlice S32x512 ![416, 0] v slices_S512x512_o416_0_S32x512,
    extractStridedSlice S32x512 ![384, 0] v slices_S512x512_o384_0_S32x512,
    extractStridedSlice S32x512 ![480, 0] v slices_S512x512_o480_0_S32x512,
    extractStridedSlice S32x512 ![448, 0] v slices_S512x512_o448_0_S32x512]

theorem halves_apply (v : FVec Ideal S512x512 .f32) (n : Fin 16) (q : Fin 32) (r : Fin 512) :
    halves v n (ix2 q r) = v (ix2 ⟨32 * (n.val + 1 - 2 * (n.val % 2)) + q.val, by omega⟩ r) := by
  fin_cases n <;> pointwise [halves]

/-- The transposed rotation. -/
theorem turn_t_apply (v : FVec Ideal S512x512 .f32) (ct st : Vec Ideal S64x512 .f32) (z : Fin 512 → EReal) (co si : Fin 32 → EReal) (r : Fin 512)
    (hz : ∀ c, v (ix2 c r) = z c)
    (hc : ∀ n : Fin 64, ct (ix2 n r) = if h : n.val < 32 then co ⟨n.val, h⟩ else co ⟨n.val - 32, by omega⟩)
    (hs : ∀ n : Fin 64, st (ix2 n r) = if h : n.val < 32 then -si ⟨n.val, h⟩ else si ⟨n.val - 32, by omega⟩) (c : Fin 512) :
    k0_pay1 v (extractStridedSlice S32x512 ![0, 0] v slices_S512x512_o0_0_S32x512) (extractStridedSlice S32x512 ![32, 0] v slices_S512x512_o32_0_S32x512) (extractStridedSlice S32x512 ![64, 0] v slices_S512x512_o64_0_S32x512) (extractStridedSlice S32x512 ![96, 0] v slices_S512x512_o96_0_S32x512) (extractStridedSlice S32x512 ![128, 0] v slices_S512x512_o128_0_S32x512) (extractStridedSlice S32x512 ![160, 0] v slices_S512x512_o160_0_S32x512) (extractStridedSlice S32x512 ![192, 0] v slices_S512x512_o192_0_S32x512) ct st (ix2 c r) = turn z co si c := by
  have h1 : ∀ (t : Vec Ideal S64x512 .f32) (h), concatenate S512x512 0 (List.replicate 8 (⟨S64x512, shapeCast S64x512 t shapeCasts_S64x512_S64x512⟩ : (s : Shape) × (s.Idx → EReal))) h (ix2 c r)
      = t (ix2 ⟨c.val % 64, by omega⟩ r) := by
    intro t h
    rw [concatenate_replicate_apply (0 : Fin S512x512.rank) 8 _ h rfl (ix2 c r) (ix2 ⟨c.val % 64, by omega⟩ r) rfl (by intro b hb; fin_cases b <;> simp_all)]
    pointwise []
  have h2 : ∀ h, concatenate S512x512 0 (List.ofFn fun n : Fin 16 => (⟨S32x512, halves v n⟩ : (s : Shape) × (s.Idx → EReal))) h (ix2 c r)
      = if h : c.val % 64 < 32 then z ⟨c.val + 32, by omega⟩ else z ⟨c.val - 32, by omega⟩ := by
    intro h
    rw [concatenate_ofFn_apply (0 : Fin S512x512.rank) (halves v) h rfl 32 rfl (ix2 c r) ⟨c.val / 32, by omega⟩ rfl (ix2 ⟨c.val % 32, by omega⟩ r) rfl
      (by intro b hb; fin_cases b <;> simp_all), halves_apply, hz]
    split <;> exact congrArg z (Fin.ext (by dsimp only; omega))
  refine Eq.trans ?_ (turn_eq z co si c _ rfl)
  rw [← h2 concatenates_S32x512_S32x512_S32x512_S32x512_S32x512_S32x512_S32x512_S32x512_S32x512_S32x512_S32x512_S32x512_S32x512_S32x512_S32x512_S32x512_S512x512_d0]
  have e := hc ⟨c.val % 64, by omega⟩
  have e' := hs ⟨c.val % 64, by omega⟩
  dsimp only at e e'
  rw [← e, ← e', ← h1 ct concatenates_S64x512_S64x512_S64x512_S64x512_S64x512_S64x512_S64x512_S64x512_S512x512_d0, ← h1 st concatenates_S64x512_S64x512_S64x512_S64x512_S64x512_S64x512_S64x512_S64x512_S512x512_d0, ← hz]
  rfl

end Cert.ProjIdeal.Block
-- ==== Proof.ProjStores.lean ====
/- The entry projections' kernel: each block it stores, as the projections at the block's tokens. -/
module

public import proofs.«01_k».proof.Proof.ProjBlock
public import proofs.«01_k».proof.Proof.Gen.ProjIdeal.Frame
public import Idealize.ShloMosaic.Lib.Pipeline.ValueKit

@[expose] public section

set_option maxRecDepth 16384
noncomputable section

namespace Cert.ProjIdeal.Stores
open Cert.ProjIdeal Cert.ProjIdeal.Gen Cert.Proof.Rows Cert.Proof.ProjRows Cert.Proof.ProjSum Cert.Proof.Spec Cert.ProjIdeal.Block
open Idealize.ShloMosaic Idealize.ShloMosaic.TcCoe Idealize.SL.Sem

/-- What a grid point's blocks hold: the input's rows at the block's tokens, the sections of the weights, the rotation's tables at
    those tokens, the averaging matrices and the gains over the heads. -/
structure Reads (X : (⟨3, ![2, 16384, 1024]⟩ : Shape).Idx → EReal) (G : (⟨2, ![1, 1024]⟩ : Shape).Idx → EReal) (W : (⟨3, ![1, 1024, 6656]⟩ : Shape).Idx → EReal)
    (g3 g4 : (⟨2, ![1, 64]⟩ : Shape).Idx → EReal) (g5 : (⟨2, ![1, 128]⟩ : Shape).Idx → EReal)
    (b : Fin 2) (T : Fin 512 → Fin 16384)
    (x0 : Vec Ideal S1x512x1024 .f32) (x1 : Vec Ideal S1x1024 .f32) (x2 : Vec Ideal S1024x2048 .bf16) (x3 : Vec Ideal S1536x1024 .bf16) (x4 x5 : Vec Ideal S512x128 .f32)
    (x6 x7 : Vec Ideal S64x512 .f32) (x8 x9 : Vec Ideal S512x512 .bf16) (x10 : Vec Ideal S1x512 .f32) (x11 : Vec Ideal S512x128 .f32) (x12 : Vec Ideal S1x512 .f32) : Prop where
  x : ∀ r k, x0 (ix3 0 r k) = X (ix3 b (T r) k)
  g : ∀ k, x1 (ix2 0 k) = G (ix2 0 k)
  w0 : ∀ (k : Fin 1024) (c : Fin 512), x2 (ix2 k ⟨0 + c.val, by omega⟩) = W (ix3 0 k ⟨0 + c.val, by omega⟩)
  w1 : ∀ (k : Fin 1024) (c : Fin 512), x2 (ix2 k ⟨512 + c.val, by omega⟩) = W (ix3 0 k ⟨1536 + c.val, by omega⟩)
  w2 : ∀ (k : Fin 1024) (c : Fin 512), x2 (ix2 k ⟨1024 + c.val, by omega⟩) = W (ix3 0 k ⟨2560 + c.val, by omega⟩)
  w3 : ∀ (k : Fin 1024) (c : Fin 512), x2 (ix2 k ⟨1536 + c.val, by omega⟩) = W (ix3 0 k ⟨3072 + c.val, by omega⟩)
  t0 : ∀ (c : Fin 512) (k : Fin 1024), x3 (ix2 ⟨0 + c.val, by omega⟩ k) = W (ix3 0 k ⟨512 + c.val, by omega⟩)
  t1 : ∀ (c : Fin 512) (k : Fin 1024), x3 (ix2 ⟨512 + c.val, by omega⟩ k) = W (ix3 0 k ⟨1024 + c.val, by omega⟩)
  t2 : ∀ (c : Fin 512) (k : Fin 1024), x3 (ix2 ⟨1024 + c.val, by omega⟩ k) = W (ix3 0 k ⟨2048 + c.val, by omega⟩)
  co : ∀ (r : Fin 512) (n : Fin 128), x4 (ix2 r n) = if h : n.val % 64 < 32 then Ideal.cos (angle (T r) ⟨n.val % 64, h⟩) else Ideal.cos (angle (T r) ⟨n.val % 64 - 32, by omega⟩)
  si : ∀ (r : Fin 512) (n : Fin 128), x5 (ix2 r n) = if h : n.val % 64 < 32 then -Ideal.sin (angle (T r) ⟨n.val % 64, h⟩) else Ideal.sin (angle (T r) ⟨n.val % 64 - 32, by omega⟩)
  ct : ∀ (n : Fin 64) (r : Fin 512), x6 (ix2 n r) = if h : n.val < 32 then Ideal.cos (angle (T r) ⟨n.val, h⟩) else Ideal.cos (angle (T r) ⟨n.val - 32, by omega⟩)
  st : ∀ (n : Fin 64) (r : Fin 512), x7 (ix2 n r) = if h : n.val < 32 then -Ideal.sin (angle (T r) ⟨n.val, h⟩) else Ideal.sin (angle (T r) ⟨n.val - 32, by omega⟩)
  s64 : ∀ j c : Fin 512, x8 (ix2 j c) = Ideal.div (if j.val / 64 = c.val / 64 then 1 else 0) (Ideal.ofBits .f32 0x42800000#32)
  s128 : ∀ j c : Fin 512, x9 (ix2 j c) = Ideal.div (if j.val / 128 = c.val / 128 then 1 else 0) (Ideal.ofBits .f32 0x43000000#32)
  gq : ∀ c : Fin 512, x10 (ix2 0 c) = g3 (ix2 0 ⟨c.val % 64, by omega⟩)
  gk : ∀ (c : Fin 512) (n : Fin 128), x11 (ix2 c n) = g4 (ix2 0 ⟨c.val % 64, by omega⟩)
  gm : ∀ c : Fin 512, x12 (ix2 0 c) = g5 (ix2 0 ⟨c.val % 128, by omega⟩)

theorem hz2 : (![0, 0] : Fin 2 → Nat) = fun _ => 0 := funext fun a => by fin_cases a <;> rfl
theorem hz3 : (![0, 0, 0] : Fin 3 → Nat) = fun _ => 0 := funext fun a => by fin_cases a <;> rfl

/-- A block of two chunks stored one after the other. -/
theorem chunks_apply (p1 p0 : Vec Ideal S1x1x512x256 .bf16) (f : Fin 512 → Fin 512 → EReal)
    (h0 : ∀ c (l : Fin 256), p0 (ix4 0 0 c l) = f ⟨l.val, by omega⟩ c) (h1 : ∀ c (l : Fin 256), p1 (ix4 0 0 c l) = f ⟨256 + l.val, by omega⟩ c)
    (u : Fin 1) (q : Fin 2) (c : Fin 512) (l : Fin 256) :
    View.canon [(⟨r0_12, p1⟩ : View.Piece (Elt Ideal) S1x2x512x256 .bf16), ⟨r0_11, p0⟩] (ix4 u q c l) = f ⟨q.val * 256 + l.val, by omega⟩ c := by
  fin_cases u
  fin_cases q
  · have e : r0_11.emb (ix4 (0 : Fin 1) (0 : Fin 1) c l) = ix4 (0 : Fin 1) (0 : Fin 2) c l := by
      funext a; fin_cases a <;> refine Fin.ext ?_ <;> simp [Rect.emb, Rect.unit]
    rw [View.canon_cons_of_not_mem]
    · refine (congrArg _ e.symm).trans ((View.canon_cons_emb _ _ _ _).trans ((h0 c l).trans (congrArg (fun r => f r c) (Fin.ext (by simp)))))
    · intro h
      have h' := (LoadRect.mem_set r0_12.toLoadRect).1 h
      obtain ⟨j, _, e⟩ := h' (1 : Fin 4)
      have e' : 0 = 1 + 1 * j := e
      omega
  · have e : r0_12.emb (ix4 (0 : Fin 1) (0 : Fin 1) c l) = ix4 (0 : Fin 1) (1 : Fin 2) c l := by
      funext a; fin_cases a <;> refine Fin.ext ?_ <;> simp [Rect.emb, Rect.unit]
    refine (congrArg _ e.symm).trans ((View.canon_cons_emb _ _ _ _).trans ((h1 c l).trans (congrArg (fun r => f r c) (Fin.ext (by simp)))))

section
variable {X : (⟨3, ![2, 16384, 1024]⟩ : Shape).Idx → EReal} {G : (⟨2, ![1, 1024]⟩ : Shape).Idx → EReal} {W : (⟨3, ![1, 1024, 6656]⟩ : Shape).Idx → EReal}
  {g3 g4 : (⟨2, ![1, 64]⟩ : Shape).Idx → EReal} {g5 : (⟨2, ![1, 128]⟩ : Shape).Idx → EReal}
  {b : Fin 2} {T : Fin 512 → Fin 16384}
  {x0 : Vec Ideal S1x512x1024 .f32} {x1 : Vec Ideal S1x1024 .f32} {x2 : Vec Ideal S1024x2048 .bf16} {x3 : Vec Ideal S1536x1024 .bf16} {x4 x5 : Vec Ideal S512x128 .f32}
    {x6 x7 : Vec Ideal S64x512 .f32} {x8 x9 : Vec Ideal S512x512 .bf16} {x10 : Vec Ideal S1x512 .f32} {x11 : Vec Ideal S512x128 .f32} {x12 : Vec Ideal S1x512 .f32}
  (R : Reads X G W g3 g4 g5 b T x0 x1 x2 x3 x4 x5 x6 x7 x8 x9 x10 x11 x12)
include R

/-- The block's rows normalised. -/
theorem Reads.hid (r : Fin 512) (k : Fin 1024) :
    k0_pay5 (View.ld x0 r0_0) (View.ld x1 r0_1) (ix2 r k) = normRow (fun k => X (ix3 b (T r) k)) G k := by
  rw [View.ld_unit_zero hz3 _ x0, View.ld_unit_zero hz2 _ x1, hid_apply]
  unfold normRow
  simp only [R.x, R.g]

theorem Reads.hid' (r : Fin 512) (k : Fin 1024) :
    k0_pay34 x0 x1 x2 x3 x4 x5 x6 x7 x8 x9 x10 x11 x12 (ix2 r k) = normRow (fun k => X (ix3 b (T r) k)) G k := R.hid r k

theorem Reads.row0 (h : FVec Ideal S512x1024 .bf16) (r : Fin 512) (hh : ∀ k, h (ix2 r k) = normRow (fun k => X (ix3 b (T r) k)) G k) (c : Fin 512) :
    ∑ k, h (ix2 r k) * View.ld x2 r0_2 (ix2 k c) = col X G W 0 (by decide) b (T r) c :=
  Finset.sum_congr rfl fun k _ => by
    rw [hh, ← R.w0]
    exact congrArg _ (View.ld_unit_apply_of _ _ _ _ _ _ fun a => by fin_cases a <;> simp)

theorem Reads.row1536 (h : FVec Ideal S512x1024 .bf16) (r : Fin 512) (hh : ∀ k, h (ix2 r k) = normRow (fun k => X (ix3 b (T r) k)) G k) (c : Fin 512) :
    ∑ k, h (ix2 r k) * View.ld x2 r0_4 (ix2 k c) = col X G W 1536 (by decide) b (T r) c :=
  Finset.sum_congr rfl fun k _ => by
    rw [hh, ← R.w1]
    exact congrArg _ (View.ld_unit_apply_of _ _ _ _ _ _ fun a => by fin_cases a <;> simp)

theorem Reads.row2560 (h : FVec Ideal S512x1024 .bf16) (r : Fin 512) (hh : ∀ k, h (ix2 r k) = normRow (fun k => X (ix3 b (T r) k)) G k) (c : Fin 512) :
    ∑ k, h (ix2 r k) * View.ld x2 r0_8 (ix2 k c) = col X G W 2560 (by decide) b (T r) c :=
  Finset.sum_congr rfl fun k _ => by
    rw [hh, ← R.w2]
    exact congrArg _ (View.ld_unit_apply_of _ _ _ _ _ _ fun a => by fin_cases a <;> simp)

theorem Reads.row3072 (h : FVec Ideal S512x1024 .bf16) (r : Fin 512) (hh : ∀ k, h (ix2 r k) = normRow (fun k => X (ix3 b (T r) k)) G k) (c : Fin 512) :
    ∑ k, h (ix2 r k) * View.ld x2 r0_9 (ix2 k c) = col X G W 3072 (by decide) b (T r) c :=
  Finset.sum_congr rfl fun k _ => by
    rw [hh, ← R.w3]
    exact congrArg _ (View.ld_unit_apply_of _ _ _ _ _ _ fun a => by fin_cases a <;> simp)

theorem Reads.col512 (r c : Fin 512) :
    ∑ k, k0_pay34 x0 x1 x2 x3 x4 x5 x6 x7 x8 x9 x10 x11 x12 (ix2 r k) * View.ld x3 r0_10 (ix2 c k) = col X G W 512 (by decide) b (T r) c :=
  Finset.sum_congr rfl fun k _ => by
    rw [R.hid', ← R.t0]
    exact congrArg _ (View.ld_unit_apply_of _ _ _ _ _ _ fun a => by fin_cases a <;> simp)

theorem Reads.col1024 (r c : Fin 512) :
    ∑ k, k0_pay34 x0 x1 x2 x3 x4 x5 x6 x7 x8 x9 x10 x11 x12 (ix2 r k) * View.ld x3 r0_13 (ix2 c k) = col X G W 1024 (by decide) b (T r) c :=
  Finset.sum_congr rfl fun k _ => by
    rw [R.hid', ← R.t1]
    exact congrArg _ (View.ld_unit_apply_of _ _ _ _ _ _ fun a => by fin_cases a <;> simp)

theorem Reads.col2048 (r c : Fin 512) :
    ∑ k, k0_pay34 x0 x1 x2 x3 x4 x5 x6 x7 x8 x9 x10 x11 x12 (ix2 r k) * View.ld x3 r0_14 (ix2 c k) = col X G W 2048 (by decide) b (T r) c :=
  Finset.sum_congr rfl fun k _ => by
    rw [R.hid', ← R.t2]
    exact congrArg _ (View.ld_unit_apply_of _ _ _ _ _ _ fun a => by fin_cases a <;> simp)

theorem Reads.out13 (u : Fin 1) (r c : Fin 512) :
    out0_13 x0 x1 x2 x3 x4 x5 x6 x7 x8 x9 x10 x11 x12 (ix3 u r c) = col X G W 0 (by decide) b (T r) c * Ideal.ofBits .f32 0x3E000000#32 := by
  unfold out0_13
  rw [View.canon_unit_zero hz3, first_apply, R.row0 _ r (R.hid r)]

theorem Reads.out14 (hX : Fin_ X) (hG : Fin_ G) (hW : Fin_ W) (u : Fin 1) (r c : Fin 512) :
    out0_14 x0 x1 x2 x3 x4 x5 x6 x7 x8 x9 x10 x11 x12 (ix3 u r c) = turned X G W g3 1536 (by decide) b (T r) c * Ideal.ofBits .f32 0x3E000000#32 := by
  have hd : ∀ c, k0_pay7 (View.ld x0 r0_0) (View.ld x1 r0_1) (View.ld x2 r0_4) (ix2 r c) = col X G W 1536 (by decide) b (T r) c := fun c => by
    rw [dot_q_apply, R.row1536 _ r (R.hid r)]
  unfold out0_14
  rw [View.canon_unit_zero hz3, eighth_apply]
  refine congrArg (· * _) ?_
  refine turned_apply _ _ _ _ _ _ (col X G W 1536 (by decide) b (T r)) (col_real X hX G hG W hW 1536 (by decide) b (T r)) g3
    (fun k => Ideal.cos (angle (T r) k)) (fun k => Ideal.sin (angle (T r) k)) r hd
    (fun c => (squares_apply _ _ _ _ r hd c).1) (fun c => (squares_apply _ _ _ _ r hd c).2) ?_ ?_ ?_ ?_ c
  · intro j c
    rw [View.ld_unit_zero hz2 _ x8, ← R.s64]
    pointwise [k0_pay8]
  · intro c
    rw [View.ld_unit_zero hz2 _ x10, R.gq]
  · intro n
    rw [View.ld_unit_zero hz2 _ x4, R.co]
  · intro n
    rw [View.ld_unit_zero hz2 _ x5, R.si]

theorem Reads.out15 (u : Fin 1) (r c : Fin 512) : out0_15 x0 x1 x2 x3 x4 x5 x6 x7 x8 x9 x10 x11 x12 (ix3 u r c) = col X G W 2560 (by decide) b (T r) c := by
  unfold out0_15
  rw [View.canon_unit_zero hz3, plain_apply, R.row2560 _ r (R.hid' r)]

theorem Reads.out16 (u : Fin 1) (r c : Fin 512) : out0_16 x0 x1 x2 x3 x4 x5 x6 x7 x8 x9 x10 x11 x12 (ix3 u r c) = col X G W 2560 (by decide) b (T r) c := by
  unfold out0_16
  rw [View.canon_unit_zero hz3, plain_apply', R.row2560 _ r (R.hid' r)]

theorem Reads.out17 (hX : Fin_ X) (hG : Fin_ G) (hW : Fin_ W) (u : Fin 1) (r c : Fin 512) :
    out0_17 x0 x1 x2 x3 x4 x5 x6 x7 x8 x9 x10 x11 x12 (ix3 u r c) = unit128 (col X G W 3072 (by decide) b (T r)) g5 c := by
  unfold out0_17
  rw [View.canon_unit_zero hz3]
  refine wide_apply _ _ _ _ _ (col_real X hX G hG W hW 3072 (by decide) b (T r)) g5 r (fun c => R.row3072 _ r (R.hid' r) c) ?_ ?_ u c
  · intro j c
    rw [View.ld_unit_zero hz2 _ x9, R.s128]
  · intro c
    rw [View.ld_unit_zero hz2 _ x12, R.gm]

theorem Reads.out18 (u : Fin 1) (c r : Fin 512) : out0_18 x0 x1 x2 x3 x4 x5 x6 x7 x8 x9 x10 x11 x12 (ix3 u c r) = col X G W 512 (by decide) b (T r) c := by
  unfold out0_18
  rw [View.canon_unit_zero hz3, ← R.col512, ← dot_t_apply]
  pointwise [k0_pay18]

theorem Reads.out19 (u : Fin 1) (q : Fin 2) (c : Fin 512) (l : Fin 256) :
    out0_19 x0 x1 x2 x3 x4 x5 x6 x7 x8 x9 x10 x11 x12 (ix4 u q c l) = col X G W 512 (by decide) b (T ⟨q.val * 256 + l.val, by omega⟩) c := by
  unfold out0_19
  refine chunks_apply _ _ (fun r c => col X G W 512 (by decide) b (T r) c) (fun c l => ?_) (fun c l => ?_) u q c l
  · rw [← R.col512, ← dot_t_apply]
    pointwise [k0_pay19]
  · rw [← R.col512, ← dot_t_apply]
    pointwise [k0_pay20]

theorem Reads.out20 (u : Fin 1) (c r : Fin 512) : out0_20 x0 x1 x2 x3 x4 x5 x6 x7 x8 x9 x10 x11 x12 (ix3 u c r) = col X G W 1024 (by decide) b (T r) c := by
  unfold out0_20
  rw [View.canon_unit_zero hz3, ← R.col1024, ← dot_t_apply]
  pointwise [k0_pay22, k0_pay21, k0_pay17]

theorem Reads.out21 (u : Fin 1) (q : Fin 2) (c : Fin 512) (l : Fin 256) :
    out0_21 x0 x1 x2 x3 x4 x5 x6 x7 x8 x9 x10 x11 x12 (ix4 u q c l) = col X G W 1024 (by decide) b (T ⟨q.val * 256 + l.val, by omega⟩) c := by
  unfold out0_21
  refine chunks_apply _ _ (fun r c => col X G W 1024 (by decide) b (T r) c) (fun c l => ?_) (fun c l => ?_) u q c l
  · rw [← R.col1024, ← dot_t_apply]
    pointwise [k0_pay24, k0_pay23, k0_pay21, k0_pay17]
  · rw [← R.col1024, ← dot_t_apply]
    pointwise [k0_pay25, k0_pay21, k0_pay17]

/-- The rotated keys by column. -/
theorem Reads.keys (hX : Fin_ X) (hG : Fin_ G) (hW : Fin_ W) (c r : Fin 512) :
    k0_pay1 (k0_pay35 x0 x1 x2 x3 x4 x5 x6 x7 x8 x9 x10 x11 x12) (k0_pay36 x0 x1 x2 x3 x4 x5 x6 x7 x8 x9 x10 x11 x12) (k0_pay37 x0 x1 x2 x3 x4 x5 x6 x7 x8 x9 x10 x11 x12) (k0_pay38 x0 x1 x2 x3 x4 x5 x6 x7 x8 x9 x10 x11 x12) (k0_pay39 x0 x1 x2 x3 x4 x5 x6 x7 x8 x9 x10 x11 x12) (k0_pay40 x0 x1 x2 x3 x4 x5 x6 x7 x8 x9 x10 x11 x12) (k0_pay41 x0 x1 x2 x3 x4 x5 x6 x7 x8 x9 x10 x11 x12) (k0_pay42 x0 x1 x2 x3 x4 x5 x6 x7 x8 x9 x10 x11 x12) (View.ld x6 r0_15) (View.ld x7 r0_15) (ix2 c r)
      = turned X G W g4 2048 (by decide) b (T r) c := by
  refine turn_t_apply (k0_pay35 x0 x1 x2 x3 x4 x5 x6 x7 x8 x9 x10 x11 x12) _ _ (unit64 (col X G W 2048 (by decide) b (T r)) g4)
    (fun k => Ideal.cos (angle (T r) k)) (fun k => Ideal.sin (angle (T r) k)) r ?_ ?_ ?_ c
  · intro c
    refine head_t_apply _ _ _ _ _ _ (col_real X hX G hG W hW 2048 (by decide) b (T r)) g4 r ?_ ?_ ?_ ?_ c
    · intro c
      rw [← R.col2048]
      exact Finset.sum_congr rfl fun k _ => mul_comm _ _
    · intro j c
      rw [View.ld_unit_zero hz2 _ x8, R.s64]
    · intro j c
      rw [View.ld_unit_zero hz2 _ x8, R.s64]
    · intro c n
      rw [View.ld_unit_zero hz2 _ x11, R.gk]
  · intro n
    rw [View.ld_unit_zero hz2 _ x6, R.ct]
  · intro n
    rw [View.ld_unit_zero hz2 _ x7, R.st]

theorem Reads.out22 (hX : Fin_ X) (hG : Fin_ G) (hW : Fin_ W) (u : Fin 1) (c r : Fin 512) :
    out0_22 x0 x1 x2 x3 x4 x5 x6 x7 x8 x9 x10 x11 x12 (ix3 u c r) = turned X G W g4 2048 (by decide) b (T r) c := by
  unfold out0_22
  rw [View.canon_unit_zero hz3, ← R.keys hX hG hW]
  pointwise [k0_pay2]

theorem Reads.out23 (hX : Fin_ X) (hG : Fin_ G) (hW : Fin_ W) (u : Fin 1) (q : Fin 2) (c : Fin 512) (l : Fin 256) :
    out0_23 x0 x1 x2 x3 x4 x5 x6 x7 x8 x9 x10 x11 x12 (ix4 u q c l) = turned X G W g4 2048 (by decide) b (T ⟨q.val * 256 + l.val, by omega⟩) c := by
  unfold out0_23
  refine chunks_apply _ _ (fun r c => turned X G W g4 2048 (by decide) b (T r) c) (fun c l => ?_) (fun c l => ?_) u q c l
  · rw [← R.keys hX hG hW]
    pointwise [k0_pay3]
  · rw [← R.keys hX hG hW]
    pointwise [k0_pay4]

end

end Cert.ProjIdeal.Stores
-- ==== Proof.ProjHost.lean ====
/- What the entry projections' kernel reads of the arrays its host computes first: the sections of the weights, the averaging
   matrices, the gains repeated over the heads, and the rotation's tables. -/
module

public import proofs.«01_k».proof.Proof.ProjSum
public import proofs.«01_k».proof.Proof.Gen.ProjIdeal.Frame
public import Idealize.ShloMosaic.Lib.Pointwise

@[expose] public section

set_option maxRecDepth 16384
noncomputable section

namespace Cert.ProjIdeal.Host
open Cert.ProjIdeal Cert.ProjIdeal.Gen Cert.Proof.Rows Cert.Proof.ProjRows
open Idealize.ShloMosaic Idealize.ShloMosaic.TcCoe Idealize.SL.Sem Idealize.ShloMosaic.StableHlo

variable (m : (ℓ : Loc nD τ sig) → Buf (Elt Ideal) ℓ) (c : Dev nD)

/-- The weights as launched. -/
def W : (⟨3, ![1, 1024, 6656]⟩ : Shape).Idx → EReal := m ((c : Thread nD τ).loc main_arg2)

/-- The norm's gain. -/
theorem gain (k : Fin 1) (n : Fin 1024) :
    (V m c main_v13 : (⟨2, ![1, 1024]⟩ : Shape).Idx → EReal) (ix2 k n) = m ((c : Thread nD τ).loc main_arg1) (ix2 0 n) := by
  unfold V
  simp only [hostOps0, hostOps0_1, hostOps0_2, hostOps0_3, hostOps0_4, List.flatten_cons, List.flatten_nil, List.append_nil, List.cons_append, List.nil_append]
  after_results_simp
  pointwise []

/-- The sections laid side by side. -/
theorem w_row (k : Fin 1024) (n : Fin 2048) :
    (V m c main_v6 : (⟨2, ![1024, 2048]⟩ : Shape).Idx → EReal) (ix2 k n) = if h : n.val < 512 then W m c (ix3 0 k ⟨0 + n.val, by omega⟩)
      else if h : n.val - 512 < 512 then W m c (ix3 0 k ⟨1536 + (n.val - 512), by omega⟩)
      else if h : n.val - 512 - 512 < 512 then W m c (ix3 0 k ⟨2560 + (n.val - 512 - 512), by omega⟩)
      else W m c (ix3 0 k ⟨3072 + (n.val - 512 - 512 - 512), by omega⟩) := by
  unfold V
  simp only [hostOps0, hostOps0_1, hostOps0_2, hostOps0_3, hostOps0_4, List.flatten_cons, List.flatten_nil, List.append_nil, List.cons_append, List.nil_append]
  after_results_simp
  pointwise []
  after_results_simp
  pointwise []
  rfl

/-- The sections laid one below another, transposed. -/
theorem w_t (n : Fin 1536) (k : Fin 1024) :
    (V m c main_v11 : (⟨2, ![1536, 1024]⟩ : Shape).Idx → EReal) (ix2 n k) = if h : n.val < 512 then W m c (ix3 0 k ⟨512 + n.val, by omega⟩)
      else if h : n.val - 512 < 512 then W m c (ix3 0 k ⟨1024 + (n.val - 512), by omega⟩)
      else W m c (ix3 0 k ⟨2048 + (n.val - 512 - 512), by omega⟩) := by
  unfold V
  simp only [hostOps0, hostOps0_1, hostOps0_2, hostOps0_3, hostOps0_4, List.flatten_cons, List.flatten_nil, List.append_nil, List.cons_append, List.nil_append]
  after_results_simp
  pointwise []
  after_results_simp
  pointwise []
  rfl

/-- The first gain over the heads. -/
theorem gain_q (k : Fin 1) (n : Fin 512) :
    (V m c main_v40 : (⟨2, ![1, 512]⟩ : Shape).Idx → EReal) (ix2 k n) = m ((c : Thread nD τ).loc main_arg3) (ix2 0 ⟨n.val % 64, by omega⟩) := by
  unfold V
  simp only [hostOps0, hostOps0_1, hostOps0_2, hostOps0_3, hostOps0_4, List.flatten_cons, List.flatten_nil, List.append_nil, List.cons_append, List.nil_append]
  after_results_simp
  pointwise []

/-- The second gain over the heads. -/
theorem gain_k (k : Fin 512) (n : Fin 128) :
    (V m c main_v47 : (⟨2, ![512, 128]⟩ : Shape).Idx → EReal) (ix2 k n) = m ((c : Thread nD τ).loc main_arg4) (ix2 0 ⟨k.val % 64, by omega⟩) := by
  unfold V
  simp only [hostOps0, hostOps0_1, hostOps0_2, hostOps0_3, hostOps0_4, List.flatten_cons, List.flatten_nil, List.append_nil, List.cons_append, List.nil_append]
  after_results_simp
  pointwise []

/-- The third gain over the heads. -/
theorem gain_m (k : Fin 1) (n : Fin 512) :
    (V m c main_v52 : (⟨2, ![1, 512]⟩ : Shape).Idx → EReal) (ix2 k n) = m ((c : Thread nD τ).loc main_arg5) (ix2 0 ⟨n.val % 128, by omega⟩) := by
  unfold V
  simp only [hostOps0, hostOps0_1, hostOps0_2, hostOps0_3, hostOps0_4, List.flatten_cons, List.flatten_nil, List.append_nil, List.cons_append, List.nil_append]
  after_results_simp
  pointwise []

/-- The cosines by token. -/
theorem cos_row (t : Fin 16384) (n : Fin 128) :
    (V m c main_v73 : (⟨2, ![16384, 128]⟩ : Shape).Idx → EReal) (ix2 t n) = if h : n.val % 64 < 32 then Ideal.cos (angle t ⟨n.val % 64, h⟩) else Ideal.cos (angle t ⟨n.val % 64 - 32, by omega⟩) := by
  unfold V
  simp only [hostOps0, hostOps0_1, hostOps0_2, hostOps0_3, hostOps0_4, List.flatten_cons, List.flatten_nil, List.append_nil, List.cons_append, List.nil_append]
  after_results_simp
  pointwise []
  after_results_simp
  pointwise [angle]

/-- The sines by token, negated over each head's first half. -/
theorem sin_row (t : Fin 16384) (n : Fin 128) :
    (V m c main_v76 : (⟨2, ![16384, 128]⟩ : Shape).Idx → EReal) (ix2 t n) = if h : n.val % 64 < 32 then -Ideal.sin (angle t ⟨n.val % 64, h⟩) else Ideal.sin (angle t ⟨n.val % 64 - 32, by omega⟩) := by
  unfold V
  simp only [hostOps0, hostOps0_1, hostOps0_2, hostOps0_3, hostOps0_4, List.flatten_cons, List.flatten_nil, List.append_nil, List.cons_append, List.nil_append]
  after_results_simp
  pointwise []
  after_results_simp
  pointwise [angle]

/-- The cosines by column. -/
theorem cos_col (n : Fin 64) (t : Fin 16384) :
    (V m c main_v77 : (⟨2, ![64, 16384]⟩ : Shape).Idx → EReal) (ix2 n t) = if h : n.val < 32 then Ideal.cos (angle t ⟨n.val, h⟩) else Ideal.cos (angle t ⟨n.val - 32, by omega⟩) := by
  unfold V
  simp only [hostOps0, hostOps0_1, hostOps0_2, hostOps0_3, hostOps0_4, List.flatten_cons, List.flatten_nil, List.append_nil, List.cons_append, List.nil_append]
  after_results_simp
  pointwise []
  after_results_simp
  pointwise [angle]

/-- The sines by column, negated over each head's first half. -/
theorem sin_col (n : Fin 64) (t : Fin 16384) :
    (V m c main_v78 : (⟨2, ![64, 16384]⟩ : Shape).Idx → EReal) (ix2 n t) = if h : n.val < 32 then -Ideal.sin (angle t ⟨n.val, h⟩) else Ideal.sin (angle t ⟨n.val - 32, by omega⟩) := by
  unfold V
  simp only [hostOps0, hostOps0_1, hostOps0_2, hostOps0_3, hostOps0_4, List.flatten_cons, List.flatten_nil, List.append_nil, List.cons_append, List.nil_append]
  after_results_simp
  pointwise []
  after_results_simp
  pointwise [angle]

/-- The columns' heads: the column numbers over a head's width, rounded down. -/
def quot (d : BitVec 32) : (⟨1, ![512]⟩ : Shape).Idx → BitVec 32 :=
  select (andi (cmpi .ne (signi (iotaInDim S512 32 0)) (broadcastInDim S512 ![] bcast_S_S512 (signi (constantI S_ 32 d))))
      (cmpi .ne (Host.remsi (iotaInDim S512 32 0) (broadcastInDim S512 ![] bcast_S_S512 (constantI S_ 32 d))) (broadcastInDim S512 ![] bcast_S_S512 (constantI S_ 32 0#32))))
    (subi (Host.divsi (iotaInDim S512 32 0) (broadcastInDim S512 ![] bcast_S_S512 (constantI S_ 32 d))) (broadcastInDim S512 ![] bcast_S_S512 (constantI S_ 32 1#32)))
    (Host.divsi (iotaInDim S512 32 0) (broadcastInDim S512 ![] bcast_S_S512 (constantI S_ 32 d)))

theorem quot64 : ∀ k : Fin 512, quot 64#32 (ix1 k) = BitVec.ofNat 32 (k.val / 64) := by decide +kernel

theorem quot128 : ∀ k : Fin 512, quot 128#32 (ix1 k) = BitVec.ofNat 32 (k.val / 128) := by decide +kernel

/-- Whether two columns share a head, as a number. -/
theorem same (n : ℕ) (hn : 0 < n) (j k : Fin 512) :
    (FloatOps.uitofp (F := Ideal) FTy.f32 (IntOp.cmpi .eq (BitVec.ofNat 32 (j.val / n)) (BitVec.ofNat 32 (k.val / n))) : EReal)
      = if j.val / n = k.val / n then 1 else 0 := by
  have hj : j.val / n < 512 := lt_of_le_of_lt (Nat.div_le_self _ _) j.isLt
  have hk : k.val / n < 512 := lt_of_le_of_lt (Nat.div_le_self _ _) k.isLt
  change (((IntOp.cmpi .eq (BitVec.ofNat 32 (j.val / n)) (BitVec.ofNat 32 (k.val / n))).toNat : ℝ) : EReal) = _
  generalize j.val / n = a at *
  generalize k.val / n = b at *
  by_cases h : a = b
  · subst h
    simp [IntOp.cmpi]
  · have : BitVec.ofNat 32 a ≠ BitVec.ofNat 32 b := fun e => h (by have := congrArg BitVec.toNat e; simp only [BitVec.toNat_ofNat] at this; omega)
    simp [IntOp.cmpi, h, this]

/-- The averaging matrix of the heads of 64 columns. -/
theorem seg64 (j k : Fin 512) :
    (V m c main_v24 : (⟨2, ![512, 512]⟩ : Shape).Idx → EReal) (ix2 j k) = Ideal.div (if j.val / 64 = k.val / 64 then 1 else 0) (Ideal.ofBits .f32 0x42800000#32) := by
  unfold V
  simp only [hostOps0, hostOps0_1, hostOps0_2, hostOps0_3, hostOps0_4, List.flatten_cons, List.flatten_nil, List.append_nil, List.cons_append, List.nil_append]
  after_results_simp
  simp only [TRef.ofBuf_toBuf]
  simp only [TRef.ofBuf, TRef.toBuf, TRef.of, id, cast_eq]
  pointwise []
  rw [← same 64 (by decide), ← quot64, ← quot64]
  rfl

/-- The averaging matrix of the heads of 128 columns. -/
theorem seg128 (j k : Fin 512) :
    (V m c main_v35 : (⟨2, ![512, 512]⟩ : Shape).Idx → EReal) (ix2 j k) = Ideal.div (if j.val / 128 = k.val / 128 then 1 else 0) (Ideal.ofBits .f32 0x43000000#32) := by
  unfold V
  simp only [hostOps0, hostOps0_1, hostOps0_2, hostOps0_3, hostOps0_4, List.flatten_cons, List.flatten_nil, List.append_nil, List.cons_append, List.nil_append]
  after_results_simp
  simp only [TRef.ofBuf_toBuf]
  simp only [TRef.ofBuf, TRef.toBuf, TRef.of, id, cast_eq]
  pointwise []
  rw [← same 128 (by decide), ← quot128, ← quot128]
  rfl

end Cert.ProjIdeal.Host
-- ==== Proof.ProjFinal.lean ====
/- The entry projections' kernel: its result arrays, read off the blocks its grid points store. -/
module

public import proofs.«01_k».proof.Proof.ProjStores
public import proofs.«01_k».proof.Proof.ProjHost
public import Idealize.ShloMosaic.Lib.Pipeline.ValueKit

@[expose] public section

set_option maxRecDepth 16384
noncomputable section

namespace Cert.ProjIdeal.Final
open Cert.ProjIdeal Cert.ProjIdeal.Gen Cert.Proof.Rows Cert.Proof.ProjRows Cert.Proof.ProjSum Cert.Proof.Spec Cert.ProjIdeal.Stores
open Idealize.ShloMosaic Idealize.ShloMosaic.TcCoe Idealize.SL.Sem
open Idealize.ShloMosaic.Pipeline (Dat)

/-- Each input window's block index at each grid point. -/
theorem idx_in : ∀ t : Fin cfg0.N, win0_0.index t = ![t.val / 32, t.val % 32, 0] ∧ win0_1.index t = ![0, 0] ∧ win0_2.index t = ![0, 0] ∧ win0_3.index t = ![0, 0] ∧ win0_4.index t = ![t.val % 32, 0] ∧ win0_5.index t = ![t.val % 32, 0] ∧ win0_6.index t = ![0, t.val % 32] ∧ win0_7.index t = ![0, t.val % 32] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

/-- Each output window's block index at each grid point. -/
theorem idx_out : ∀ t : Fin cfg0.N, win0_13.index t = ![t.val / 32, t.val % 32, 0] ∧ win0_14.index t = ![t.val / 32, t.val % 32, 0] ∧ win0_15.index t = ![t.val / 32, t.val % 32, 0] ∧ win0_16.index t = ![t.val / 32, t.val % 32, 0] ∧ win0_17.index t = ![t.val / 32, t.val % 32, 0] ∧ win0_18.index t = ![t.val / 32, 0, t.val % 32] ∧ win0_19.index t = ![t.val / 32, t.val % 32, 0, 0] ∧ win0_20.index t = ![t.val / 32, 0, t.val % 32] ∧ win0_21.index t = ![t.val / 32, t.val % 32, 0, 0] ∧ win0_22.index t = ![t.val / 32, 0, t.val % 32] ∧ win0_23.index t = ![t.val / 32, t.val % 32, 0, 0] :=
  (by decide +kernel : ∀ t : Fin grid0.N, _)

variable (m : (ℓ : Loc nD τ sig) → Buf (Elt Ideal) ℓ) (c : Dev nD)

/-- The projection whose weights start at a column, from the arguments as launched. -/
abbrev sect (o : ℕ) (ho : o ≤ 6144) : Fin 2 → Fin 16384 → Fin 512 → EReal :=
  col (m ((c : Thread nD τ).loc main_arg0)) (m ((c : Thread nD τ).loc main_arg1)) (m ((c : Thread nD τ).loc main_arg2)) o ho

set_option maxHeartbeats 4000000 in
/-- The blocks a grid point is given. -/
theorem reads (t : Fin cfg0.N) :
    Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨t.val / 32, Nat.div_lt_of_lt_mul (show t.val < 64 from t.isLt)⟩ (fun r => ⟨512 * (t.val % 32) + r.val, by omega⟩)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨i0, i1, i2, i3, i4, i5, i6, i7, i8, i9, i10, i11, i12⟩ := idx_in t
  have ht : t.val < 64 := t.isLt
  have h2 : iblk m c 2 t = V m c main_v6 := by funext j; blk_ext [iblk, i2]
  have h3 : iblk m c 3 t = V m c main_v11 := by funext j; blk_ext [iblk, i3]
  have h4 : ∀ (r : Fin 512) (n : Fin 128), iblk m c 4 t (ix2 r n) = V m c main_v73 (ix2 ⟨512 * (t.val % 32) + r.val, by omega⟩ n) :=
    fun r n => by blk_ext [iblk, i4]
  have h5 : ∀ (r : Fin 512) (n : Fin 128), iblk m c 5 t (ix2 r n) = V m c main_v76 (ix2 ⟨512 * (t.val % 32) + r.val, by omega⟩ n) :=
    fun r n => by blk_ext [iblk, i5]
  have h6 : ∀ (n : Fin 64) (r : Fin 512), iblk m c 6 t (ix2 n r) = V m c main_v77 (ix2 n ⟨512 * (t.val % 32) + r.val, by omega⟩) :=
    fun n r => by blk_ext [iblk, i6]
  have h7 : ∀ (n : Fin 64) (r : Fin 512), iblk m c 7 t (ix2 n r) = V m c main_v78 (ix2 n ⟨512 * (t.val % 32) + r.val, by omega⟩) :=
    fun n r => by blk_ext [iblk, i7]
  have h8 : iblk m c 8 t = V m c main_v24 := by funext j; blk_ext [iblk, i8]
  have h9 : iblk m c 9 t = V m c main_v35 := by funext j; blk_ext [iblk, i9]
  have h10 : iblk m c 10 t = V m c main_v40 := by funext j; blk_ext [iblk, i10]
  have h11 : iblk m c 11 t = V m c main_v47 := by funext j; blk_ext [iblk, i11]
  have h12 : iblk m c 12 t = V m c main_v52 := by funext j; blk_ext [iblk, i12]
  constructor
  case x => intro r k; refine Eq.trans ?_ (congrFun (V_main_arg0 m c) _); blk_ext [iblk, i0]
  case g => intro k; rw [show iblk m c 1 t = V m c main_v13 by funext j; blk_ext [iblk, i1]]; exact Host.gain m c 0 k
  case w0 => intro k n; rw [h2]; exact (Host.w_row m c k _).trans (by split_ifs <;> first | (exfalso; omega) | (exfalso; dsimp only at *; omega) | exact congrArg (fun q => Host.W m c (ix3 0 k q)) (Fin.ext (by dsimp only; omega)))
  case w1 => intro k n; rw [h2]; exact (Host.w_row m c k _).trans (by split_ifs <;> first | (exfalso; omega) | (exfalso; dsimp only at *; omega) | exact congrArg (fun q => Host.W m c (ix3 0 k q)) (Fin.ext (by dsimp only; omega)))
  case w2 => intro k n; rw [h2]; exact (Host.w_row m c k _).trans (by split_ifs <;> first | (exfalso; omega) | (exfalso; dsimp only at *; omega) | exact congrArg (fun q => Host.W m c (ix3 0 k q)) (Fin.ext (by dsimp only; omega)))
  case w3 => intro k n; rw [h2]; exact (Host.w_row m c k _).trans (by split_ifs <;> first | (exfalso; omega) | (exfalso; dsimp only at *; omega) | exact congrArg (fun q => Host.W m c (ix3 0 k q)) (Fin.ext (by dsimp only; omega)))
  case t0 => intro n k; rw [h3]; exact (Host.w_t m c _ k).trans (by split_ifs <;> first | (exfalso; omega) | (exfalso; dsimp only at *; omega) | exact congrArg (fun q => Host.W m c (ix3 0 k q)) (Fin.ext (by dsimp only; omega)))
  case t1 => intro n k; rw [h3]; exact (Host.w_t m c _ k).trans (by split_ifs <;> first | (exfalso; omega) | (exfalso; dsimp only at *; omega) | exact congrArg (fun q => Host.W m c (ix3 0 k q)) (Fin.ext (by dsimp only; omega)))
  case t2 => intro n k; rw [h3]; exact (Host.w_t m c _ k).trans (by split_ifs <;> first | (exfalso; omega) | (exfalso; dsimp only at *; omega) | exact congrArg (fun q => Host.W m c (ix3 0 k q)) (Fin.ext (by dsimp only; omega)))
  case co => intro r n; rw [h4]; exact Host.cos_row m c _ n
  case si => intro r n; rw [h5]; exact Host.sin_row m c _ n
  case ct => intro n r; rw [h6]; exact Host.cos_col m c n _
  case st => intro n r; rw [h7]; exact Host.sin_col m c n _
  case s64 => intro j n; rw [h8]; exact Host.seg64 m c j n
  case s128 => intro j n; rw [h9]; exact Host.seg128 m c j n
  case gq => intro n; rw [h10]; exact Host.gain_q m c 0 n
  case gk => intro k n; rw [h11]; exact Host.gain_k m c k n
  case gm => intro n; rw [h12]; exact Host.gain_m m c 0 n

/-- The first queries, scaled. -/
theorem final13  :
    (dats m 0 c).arrAt 13 cfg0.N = rows (fun b t n => sect m c 0 (by decide) b t n * Ideal.ofBits .f32 0x3E000000#32) := by
  refine (dats m 0 c).arrAt_eq_of_covers 13 _ (by decide +kernel) fun t hf y => ?_
  obtain ⟨i, -, -, -, -, -, -, -, -, -, -⟩ := idx_out t
  have ht : t.val < 64 := t.isLt
  idx_vars y
  rw [after0_13]
  blk_simp
  have he : (win0_13.blk t).view.emb (ix3 y0 y1 y2) = ix3 ⟨t.val / 32, by omega⟩ ⟨512 * (t.val % 32) + y1.val, by omega⟩ y2 := by
    blk_ext [i]
  refine ((reads m c t).out13 y0 y1 y2).trans (Eq.trans ?_ (congrArg (rows _) he).symm)
  rfl

/-- The second queries, rotated and scaled. -/
theorem final14 (hX : Fin_ (s := ⟨3, ![2, 16384, 1024]⟩) (m ((c : Thread nD τ).loc main_arg0))) (hG : Fin_ (s := ⟨2, ![1, 1024]⟩) (m ((c : Thread nD τ).loc main_arg1))) (hW : Fin_ (s := ⟨3, ![1, 1024, 6656]⟩) (m ((c : Thread nD τ).loc main_arg2))) :
    (dats m 0 c).arrAt 14 cfg0.N = rows (fun b t n => turned (m ((c : Thread nD τ).loc main_arg0)) (m ((c : Thread nD τ).loc main_arg1)) (m ((c : Thread nD τ).loc main_arg2)) (m ((c : Thread nD τ).loc main_arg3)) 1536 (by decide) b t n * Ideal.ofBits .f32 0x3E000000#32) := by
  refine (dats m 0 c).arrAt_eq_of_covers 14 _ (by decide +kernel) fun t hf y => ?_
  obtain ⟨-, i, -, -, -, -, -, -, -, -, -⟩ := idx_out t
  have ht : t.val < 64 := t.isLt
  idx_vars y
  rw [after0_14]
  blk_simp
  have he : (win0_14.blk t).view.emb (ix3 y0 y1 y2) = ix3 ⟨t.val / 32, by omega⟩ ⟨512 * (t.val % 32) + y1.val, by omega⟩ y2 := by
    blk_ext [i]
  refine ((reads m c t).out14 hX hG hW y0 y1 y2).trans (Eq.trans ?_ (congrArg (rows _) he).symm)
  rfl

/-- The second values. -/
theorem final15  :
    (dats m 0 c).arrAt 15 cfg0.N = rows (sect m c 2560 (by decide)) := by
  refine (dats m 0 c).arrAt_eq_of_covers 15 _ (by decide +kernel) fun t hf y => ?_
  obtain ⟨-, -, i, -, -, -, -, -, -, -, -⟩ := idx_out t
  have ht : t.val < 64 := t.isLt
  idx_vars y
  rw [after0_15]
  blk_simp
  have he : (win0_15.blk t).view.emb (ix3 y0 y1 y2) = ix3 ⟨t.val / 32, by omega⟩ ⟨512 * (t.val % 32) + y1.val, by omega⟩ y2 := by
    blk_ext [i]
  refine ((reads m c t).out15 y0 y1 y2).trans (Eq.trans ?_ (congrArg (rows _) he).symm)
  rfl

/-- The second values again. -/
theorem final16  :
    (dats m 0 c).arrAt 16 cfg0.N = rows (sect m c 2560 (by decide)) := by
  refine (dats m 0 c).arrAt_eq_of_covers 16 _ (by decide +kernel) fun t hf y => ?_
  obtain ⟨-, -, -, i, -, -, -, -, -, -, -⟩ := idx_out t
  have ht : t.val < 64 := t.isLt
  idx_vars y
  rw [after0_16]
  blk_simp
  have he : (win0_16.blk t).view.emb (ix3 y0 y1 y2) = ix3 ⟨t.val / 32, by omega⟩ ⟨512 * (t.val % 32) + y1.val, by omega⟩ y2 := by
    blk_ext [i]
  refine ((reads m c t).out16 y0 y1 y2).trans (Eq.trans ?_ (congrArg (rows _) he).symm)
  rfl

/-- The memory queries. -/
theorem final17 (hX : Fin_ (s := ⟨3, ![2, 16384, 1024]⟩) (m ((c : Thread nD τ).loc main_arg0))) (hG : Fin_ (s := ⟨2, ![1, 1024]⟩) (m ((c : Thread nD τ).loc main_arg1))) (hW : Fin_ (s := ⟨3, ![1, 1024, 6656]⟩) (m ((c : Thread nD τ).loc main_arg2))) :
    (dats m 0 c).arrAt 17 cfg0.N = rows (fun b t n => unit128 (sect m c 3072 (by decide) b t) (m ((c : Thread nD τ).loc main_arg5)) n) := by
  refine (dats m 0 c).arrAt_eq_of_covers 17 _ (by decide +kernel) fun t hf y => ?_
  obtain ⟨-, -, -, -, i, -, -, -, -, -, -⟩ := idx_out t
  have ht : t.val < 64 := t.isLt
  idx_vars y
  rw [after0_17]
  blk_simp
  have he : (win0_17.blk t).view.emb (ix3 y0 y1 y2) = ix3 ⟨t.val / 32, by omega⟩ ⟨512 * (t.val % 32) + y1.val, by omega⟩ y2 := by
    blk_ext [i]
  refine ((reads m c t).out17 hX hG hW y0 y1 y2).trans (Eq.trans ?_ (congrArg (rows _) he).symm)
  rfl

/-- The first keys by column. -/
theorem final18  :
    (dats m 0 c).arrAt 18 cfg0.N = cols (sect m c 512 (by decide)) := by
  refine (dats m 0 c).arrAt_eq_of_covers 18 _ (by decide +kernel) fun t hf y => ?_
  obtain ⟨-, -, -, -, -, i, -, -, -, -, -⟩ := idx_out t
  have ht : t.val < 64 := t.isLt
  idx_vars y
  rw [after0_18]
  blk_simp
  have he : (win0_18.blk t).view.emb (ix3 y0 y1 y2) = ix3 ⟨t.val / 32, by omega⟩ y1 ⟨512 * (t.val % 32) + y2.val, by omega⟩ := by
    blk_ext [i]
  refine ((reads m c t).out18 y0 y1 y2).trans (Eq.trans ?_ (congrArg (cols _) he).symm)
  rfl

/-- The first keys in chunks. -/
theorem final19  :
    (dats m 0 c).arrAt 19 cfg0.N = chunks (sect m c 512 (by decide)) := by
  refine (dats m 0 c).arrAt_eq_of_covers 19 _ (by decide +kernel) fun t hf y => ?_
  obtain ⟨-, -, -, -, -, -, i, -, -, -, -⟩ := idx_out t
  have ht : t.val < 64 := t.isLt
  idx_vars y
  rw [after0_19]
  blk_simp
  have he : (win0_19.blk t).view.emb (ix4 y0 y1 y2 y3) = ix4 ⟨t.val / 32, by omega⟩ ⟨2 * (t.val % 32) + y1.val, by omega⟩ y2 y3 := by
    blk_ext [i]
  refine ((reads m c t).out19 y0 y1 y2 y3).trans (Eq.trans ?_ (congrArg (chunks _) he).symm)
  exact congrArg (fun s => (sect m c 512 (by decide)) _ s y2) (Fin.ext (by simp; omega))

/-- The first values by column. -/
theorem final20  :
    (dats m 0 c).arrAt 20 cfg0.N = cols (sect m c 1024 (by decide)) := by
  refine (dats m 0 c).arrAt_eq_of_covers 20 _ (by decide +kernel) fun t hf y => ?_
  obtain ⟨-, -, -, -, -, -, -, i, -, -, -⟩ := idx_out t
  have ht : t.val < 64 := t.isLt
  idx_vars y
  rw [after0_20]
  blk_simp
  have he : (win0_20.blk t).view.emb (ix3 y0 y1 y2) = ix3 ⟨t.val / 32, by omega⟩ y1 ⟨512 * (t.val % 32) + y2.val, by omega⟩ := by
    blk_ext [i]
  refine ((reads m c t).out20 y0 y1 y2).trans (Eq.trans ?_ (congrArg (cols _) he).symm)
  rfl

/-- The first values in chunks. -/
theorem final21  :
    (dats m 0 c).arrAt 21 cfg0.N = chunks (sect m c 1024 (by decide)) := by
  refine (dats m 0 c).arrAt_eq_of_covers 21 _ (by decide +kernel) fun t hf y => ?_
  obtain ⟨-, -, -, -, -, -, -, -, i, -, -⟩ := idx_out t
  have ht : t.val < 64 := t.isLt
  idx_vars y
  rw [after0_21]
  blk_simp
  have he : (win0_21.blk t).view.emb (ix4 y0 y1 y2 y3) = ix4 ⟨t.val / 32, by omega⟩ ⟨2 * (t.val % 32) + y1.val, by omega⟩ y2 y3 := by
    blk_ext [i]
  refine ((reads m c t).out21 y0 y1 y2 y3).trans (Eq.trans ?_ (congrArg (chunks _) he).symm)
  exact congrArg (fun s => (sect m c 1024 (by decide)) _ s y2) (Fin.ext (by simp; omega))

/-- The second keys by column. -/
theorem final22 (hX : Fin_ (s := ⟨3, ![2, 16384, 1024]⟩) (m ((c : Thread nD τ).loc main_arg0))) (hG : Fin_ (s := ⟨2, ![1, 1024]⟩) (m ((c : Thread nD τ).loc main_arg1))) (hW : Fin_ (s := ⟨3, ![1, 1024, 6656]⟩) (m ((c : Thread nD τ).loc main_arg2))) :
    (dats m 0 c).arrAt 22 cfg0.N = cols (fun b t n => turned (m ((c : Thread nD τ).loc main_arg0)) (m ((c : Thread nD τ).loc main_arg1)) (m ((c : Thread nD τ).loc main_arg2)) (m ((c : Thread nD τ).loc main_arg4)) 2048 (by decide) b t n) := by
  refine (dats m 0 c).arrAt_eq_of_covers 22 _ (by decide +kernel) fun t hf y => ?_
  obtain ⟨-, -, -, -, -, -, -, -, -, i, -⟩ := idx_out t
  have ht : t.val < 64 := t.isLt
  idx_vars y
  rw [after0_22]
  blk_simp
  have he : (win0_22.blk t).view.emb (ix3 y0 y1 y2) = ix3 ⟨t.val / 32, by omega⟩ y1 ⟨512 * (t.val % 32) + y2.val, by omega⟩ := by
    blk_ext [i]
  refine ((reads m c t).out22 hX hG hW y0 y1 y2).trans (Eq.trans ?_ (congrArg (cols _) he).symm)
  rfl

/-- The second keys in chunks. -/
theorem final23 (hX : Fin_ (s := ⟨3, ![2, 16384, 1024]⟩) (m ((c : Thread nD τ).loc main_arg0))) (hG : Fin_ (s := ⟨2, ![1, 1024]⟩) (m ((c : Thread nD τ).loc main_arg1))) (hW : Fin_ (s := ⟨3, ![1, 1024, 6656]⟩) (m ((c : Thread nD τ).loc main_arg2))) :
    (dats m 0 c).arrAt 23 cfg0.N = chunks (fun b t n => turned (m ((c : Thread nD τ).loc main_arg0)) (m ((c : Thread nD τ).loc main_arg1)) (m ((c : Thread nD τ).loc main_arg2)) (m ((c : Thread nD τ).loc main_arg4)) 2048 (by decide) b t n) := by
  refine (dats m 0 c).arrAt_eq_of_covers 23 _ (by decide +kernel) fun t hf y => ?_
  obtain ⟨-, -, -, -, -, -, -, -, -, -, i⟩ := idx_out t
  have ht : t.val < 64 := t.isLt
  idx_vars y
  rw [after0_23]
  blk_simp
  have he : (win0_23.blk t).view.emb (ix4 y0 y1 y2 y3) = ix4 ⟨t.val / 32, by omega⟩ ⟨2 * (t.val % 32) + y1.val, by omega⟩ y2 y3 := by
    blk_ext [i]
  refine ((reads m c t).out23 hX hG hW y0 y1 y2 y3).trans (Eq.trans ?_ (congrArg (chunks _) he).symm)
  exact congrArg (fun s => (fun b t n => turned (m ((c : Thread nD τ).loc main_arg0)) (m ((c : Thread nD τ).loc main_arg1)) (m ((c : Thread nD τ).loc main_arg2)) (m ((c : Thread nD τ).loc main_arg4)) 2048 (by decide) b t n) _ s y2) (Fin.ext (by simp; omega))

/-- After the kernel's run each result array is the one its grid points leave, and the arguments are as launched. -/
theorem run_blocks (ρ : Dev nD → PrngReg) : θ_run defs (onTc (τ := τ) (main (F := Ideal))) ⟨m, fun _ => 0, ρ⟩ fun r => ∀ c : Dev nD,
      (r.2.mem ((c : Thread nD τ).loc main_v79_0) = (dats m 0 c).arrAt 13 cfg0.N
        ∧ r.2.mem ((c : Thread nD τ).loc main_v79_1) = (dats m 0 c).arrAt 14 cfg0.N
        ∧ r.2.mem ((c : Thread nD τ).loc main_v79_2) = (dats m 0 c).arrAt 15 cfg0.N
        ∧ r.2.mem ((c : Thread nD τ).loc main_v79_3) = (dats m 0 c).arrAt 16 cfg0.N
        ∧ r.2.mem ((c : Thread nD τ).loc main_v79_4) = (dats m 0 c).arrAt 17 cfg0.N
        ∧ r.2.mem ((c : Thread nD τ).loc main_v79_5) = (dats m 0 c).arrAt 18 cfg0.N
        ∧ r.2.mem ((c : Thread nD τ).loc main_v79_6) = (dats m 0 c).arrAt 19 cfg0.N
        ∧ r.2.mem ((c : Thread nD τ).loc main_v79_7) = (dats m 0 c).arrAt 20 cfg0.N
        ∧ r.2.mem ((c : Thread nD τ).loc main_v79_8) = (dats m 0 c).arrAt 21 cfg0.N
        ∧ r.2.mem ((c : Thread nD τ).loc main_v79_9) = (dats m 0 c).arrAt 22 cfg0.N
        ∧ r.2.mem ((c : Thread nD τ).loc main_v79_10) = (dats m 0 c).arrAt 23 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨⟨(h c).1 13, (h c).1 14, (h c).1 15, (h c).1 16, (h c).1 17, (h c).1 18, (h c).1 19, (h c).1 20, (h c).1 21, (h c).1 22, (h c).1 23⟩,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.ProjIdeal.Final
-- ==== Proof.ProjReference.lean ====
/- The entry projections' reference: its composed terms as named steps, each read at an index, together the projections. -/
module

public import proofs.«01_k».proof.Proof.ProjRows
public import proofs.«01_k».proof.Proof.Gen.ProjRefIdeal.Run
public import Idealize.ShloMosaic.Lib.Pointwise

@[expose] public section

set_option maxRecDepth 16384
noncomputable section

namespace Cert.ProjRefIdeal.Reference
open Cert.ProjRefIdeal Cert.ProjRefIdeal.Gen Cert.Proof.Rows Cert.Proof.ProjRows
open Idealize.ShloMosaic Idealize.ShloMosaic.TcCoe Idealize.SL.Sem Idealize.ShloMosaic.StableHlo

variable {F : FTy → Type} [FloatOps F]

/-- The input's rows normalised. -/
def hid (A0 : FVec F S2x16384x1024 .f32) (A1 : FVec F S1x1024 .f32) : FVec F S2x16384x1024 .f32 :=
  mulf (mulf A0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A0 A0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ A1 shapeCasts_S1x1024_S1024)))

/-- Their projection. -/
def prod (A2 : FVec F S1x1024x6656 .f32) (H : FVec F S2x16384x1024 .f32) : FVec F S2x16384x6656 .f32 :=
  Host.dotGeneral dot_S2x16384x1024_S1024x6656_S2x16384x6656_2_0_01_1_n_n none H (shapeCast _ A2 shapeCasts_S1x1024x6656_S1024x6656)

/-- A section's heads of 64 columns over their root mean square, times the gain. -/
def head (G : FVec F S1x64 .f32) (V : FVec F S2x16384x512 .f32) : FVec F S2x16384x4x2x64 .f32 :=
  mulf (mulf (shapeCast _ V shapeCasts_S2x16384x512_S2x16384x4x2x64) (broadcastInDim S2x16384x4x2x64 ![0, 1, 2, 3, 4] bcast_S2x16384x4x2x1_S2x16384x4x2x64_0_1_2_3_4 (Host.rsqrt (addf (Host.divf (broadcastInDim S2x16384x4x2x1 ![0, 1, 2, 3] bcast_S2x16384x4x2_S2x16384x4x2x1_0_1_2_3 (Host.reduceAdd (mulf (shapeCast _ V shapeCasts_S2x16384x512_S2x16384x4x2x64) (shapeCast _ V shapeCasts_S2x16384x512_S2x16384x4x2x64)) (constant S_ .f32 0x00000000#32) reducesTo_S2x16384x4x2x64_S2x16384x4x2_d4 h_S_)) (broadcastInDim S2x16384x4x2x1 ![] bcast_S_S2x16384x4x2x1 (constant S_ .f32 0x42800000#32))) (broadcastInDim S2x16384x4x2x1 ![] bcast_S_S2x16384x4x2x1 (constant S_ .f32 0x358637BD#32)))))) (broadcastInDim S2x16384x4x2x64 ![0, 1, 2, 3, 4] bcast_S1x1x1x1x64_S2x16384x4x2x64_0_1_2_3_4 (broadcastInDim S1x1x1x1x64 ![4] bcast_S64_S1x1x1x1x64_4 (shapeCast _ G shapeCasts_S1x64_S64)))

/-- The rotation's angles. -/
def angle : FVec F S16384x32 .f32 :=
  mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The rotation. -/
def rot (T : FVec F S16384x32 .f32) (U : FVec F S2x16384x4x2x64 .f32) : FVec F S2x16384x512 .f32 :=
  shapeCast _ (concatenate S2x16384x4x2x64 4 [⟨S2x16384x4x2x32, (subf (mulf (extractStridedSlice S2x16384x4x2x32 ![0, 0, 0, 0, 0] U slices_S2x16384x4x2x64_S2x16384x4x2x32_0_0_0_0_0) (broadcastInDim S2x16384x4x2x32 ![0, 1, 2, 3, 4] bcast_S1x16384x1x1x32_S2x16384x4x2x32_0_1_2_3_4 (shapeCast _ (Host.cos T) shapeCasts_S16384x32_S1x16384x1x1x32))) (mulf (extractStridedSlice S2x16384x4x2x32 ![0, 0, 0, 0, 32] U slices_S2x16384x4x2x64_S2x16384x4x2x32_0_0_0_0_32) (broadcastInDim S2x16384x4x2x32 ![0, 1, 2, 3, 4] bcast_S1x16384x1x1x32_S2x16384x4x2x32_0_1_2_3_4 (shapeCast _ (Host.sin T) shapeCasts_S16384x32_S1x16384x1x1x32))))⟩, ⟨S2x16384x4x2x32, (addf (mulf (extractStridedSlice S2x16384x4x2x32 ![0, 0, 0, 0, 32] U slices_S2x16384x4x2x64_S2x16384x4x2x32_0_0_0_0_32) (broadcastInDim S2x16384x4x2x32 ![0, 1, 2, 3, 4] bcast_S1x16384x1x1x32_S2x16384x4x2x32_0_1_2_3_4 (shapeCast _ (Host.cos T) shapeCasts_S16384x32_S1x16384x1x1x32))) (mulf (extractStridedSlice S2x16384x4x2x32 ![0, 0, 0, 0, 0] U slices_S2x16384x4x2x64_S2x16384x4x2x32_0_0_0_0_0) (broadcastInDim S2x16384x4x2x32 ![0, 1, 2, 3, 4] bcast_S1x16384x1x1x32_S2x16384x4x2x32_0_1_2_3_4 (shapeCast _ (Host.sin T) shapeCasts_S16384x32_S1x16384x1x1x32))))⟩] concatenates_S2x16384x4x2x32_S2x16384x4x2x32_S2x16384x4x2x64_d4) shapeCasts_S2x16384x4x2x64_S2x16384x512

/-- A section's heads of 128 columns over their root mean square, times the gain. -/
def wide (G : FVec F S1x128 .f32) (V : FVec F S2x16384x512 .f32) : FVec F S2x16384x512 .f32 :=
  shapeCast _ (mulf (mulf (shapeCast _ V shapeCasts_S2x16384x512_S2x16384x4x128) (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf (shapeCast _ V shapeCasts_S2x16384x512_S2x16384x4x128) (shapeCast _ V shapeCasts_S2x16384x512_S2x16384x4x128)) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 (shapeCast _ G shapeCasts_S1x128_S128)))) shapeCasts_S2x16384x4x128_S2x16384x512

theorem hid_apply (A0 : FVec Ideal S2x16384x1024 .f32) (A1 : FVec Ideal S1x1024 .f32) (b : Fin 2) (t : Fin 16384) (k : Fin 1024) :
    hid A0 A1 (ix3 b t k) = normRow (fun k => A0 (ix3 b t k)) A1 k := by
  pointwise [hid, normRow]

theorem prod_apply (A2 : FVec Ideal S1x1024x6656 .f32) (H : FVec Ideal S2x16384x1024 .f32) (b : Fin 2) (t : Fin 16384) (n : Fin 6656) :
    prod A2 H (ix3 b t n) = ∑ k, H (ix3 b t k) * A2 (ix3 0 k n) := by
  pointwise [prod]

/-- A section of the projection. -/
theorem section_apply (A0 : FVec Ideal S2x16384x1024 .f32) (A1 : FVec Ideal S1x1024 .f32) (A2 : FVec Ideal S1x1024x6656 .f32)
    (o : ℕ) (ho : o ≤ 6144) (b : Fin 2) (t : Fin 16384) (c : Fin 512) :
    prod A2 (hid A0 A1) (ix3 b t ⟨o + c.val, by omega⟩) = col A0 A1 A2 o ho b t c := by
  rw [prod_apply, col]
  simp only [hid_apply]

theorem angle_apply (t : Fin 16384) (k : Fin 32) : angle (F := Ideal) (ix2 t k) = Cert.Proof.ProjRows.angle t k := by
  pointwise [angle, Cert.Proof.ProjRows.angle]

theorem wide_apply (G : FVec Ideal S1x128 .f32) (V : FVec Ideal S2x16384x512 .f32) (b : Fin 2) (t : Fin 16384) (n : Fin 512) :
    wide G V (ix3 b t n) = unit128 (fun c => V (ix3 b t c)) G n := by
  pointwise [wide, unit128]

theorem head_apply (G : FVec Ideal S1x64 .f32) (V : FVec Ideal S2x16384x512 .f32) (b : Fin 2) (t : Fin 16384) (p : Fin 4) (q : Fin 2)
    (n : Fin 64) (i : Fin 512) (hi : i.val = p.val * 128 + q.val * 64 + n.val) :
    head G V (ix5 b t p q n) = unit64 (fun c => V (ix3 b t c)) G i := by
  obtain ⟨i, h⟩ := i
  subst hi
  have e : (p.val * 128 + q.val * 64 + n.val) / 64 * 64 = p.val * 128 + q.val * 64 := by omega
  have e' : (p.val * 128 + q.val * 64 + n.val) % 64 = n.val := by omega
  pointwise [head, unit64]
  simp only [e, e']

theorem rot_apply (T : FVec Ideal S16384x32 .f32) (G : FVec Ideal S1x64 .f32) (V : FVec Ideal S2x16384x512 .f32) (b : Fin 2) (t : Fin 16384) (n : Fin 512) :
    rot T (head G V) (ix3 b t n)
      = turn (unit64 (fun c => V (ix3 b t c)) G) (fun k => Ideal.cos (T (ix2 t k))) (fun k => Ideal.sin (T (ix2 t k))) n := by
  pointwise [rot, turn]
  split
  · rw [head_apply G V b t _ _ _ n (by dsimp only; omega), head_apply G V b t _ _ _ ⟨n.val + 32, by omega⟩ (by dsimp only; omega)]
  · rw [head_apply G V b t _ _ _ n (by dsimp only; omega), head_apply G V b t _ _ _ ⟨n.val - 32, by omega⟩ (by dsimp only; omega)]

/-- A section cut out of the projection. -/
theorem cut_apply (A0 : FVec Ideal S2x16384x1024 .f32) (A1 : FVec Ideal S1x1024 .f32) (A2 : FVec Ideal S1x1024x6656 .f32)
    (o : ℕ) (ho : o ≤ 6144) (h : S2x16384x6656.Slices ![0, 0, o] S2x16384x512) (b : Fin 2) (t : Fin 16384) (c : Fin 512) :
    extractStridedSlice S2x16384x512 ![0, 0, o] (prod A2 (hid A0 A1)) h (ix3 b t c) = col A0 A1 A2 o ho b t c := by
  refine Eq.trans ?_ (section_apply A0 A1 A2 o ho b t c)
  pointwise []

/-- A rotated section. -/
theorem turned_apply (A0 : FVec Ideal S2x16384x1024 .f32) (A1 : FVec Ideal S1x1024 .f32) (A2 : FVec Ideal S1x1024x6656 .f32)
    (G : FVec Ideal S1x64 .f32) (V : FVec Ideal S2x16384x512 .f32) (o : ℕ) (ho : o ≤ 6144)
    (hV : ∀ b t c, V (ix3 b t c) = col A0 A1 A2 o ho b t c) (b : Fin 2) (t : Fin 16384) (c : Fin 512) :
    rot angle (head G V) (ix3 b t c) = turned A0 A1 A2 G o ho b t c := by
  rw [rot_apply]
  simp only [hV, angle_apply]
  rfl

/-- A section of heads of 128 columns. -/
theorem widened_apply (A0 : FVec Ideal S2x16384x1024 .f32) (A1 : FVec Ideal S1x1024 .f32) (A2 : FVec Ideal S1x1024x6656 .f32)
    (G : FVec Ideal S1x128 .f32) (V : FVec Ideal S2x16384x512 .f32) (o : ℕ) (ho : o ≤ 6144)
    (hV : ∀ b t c, V (ix3 b t c) = col A0 A1 A2 o ho b t c) (b : Fin 2) (t : Fin 16384) (c : Fin 512) :
    wide G V (ix3 b t c) = unit128 (col A0 A1 A2 o ho b t) G c := by
  rw [wide_apply]
  simp only [hV]

theorem cols_eq (V : FVec Ideal S2x16384x512 .f32) (f : Fin 2 → Fin 16384 → Fin 512 → EReal) (hV : ∀ b t c, V (ix3 b t c) = f b t c) :
    transpose S2x512x16384 [0, 2, 1] V transposes_S2x16384x512_S2x512x16384_0_2_1 = cols f := by
  funext i
  idx_vars i
  exact (by pointwise [] : _ = V (ix3 i0 i2 i1)).trans (hV i0 i2 i1)

theorem chunks_eq (V : FVec Ideal S2x16384x512 .f32) (f : Fin 2 → Fin 16384 → Fin 512 → EReal) (hV : ∀ b t c, V (ix3 b t c) = f b t c) :
    truncf .bf16 (transpose S2x64x512x256 [0, 1, 3, 2] (shapeCast _ V shapeCasts_S2x16384x512_S2x64x256x512) transposes_S2x64x256x512_S2x64x512x256_0_1_3_2) bitsLt_bf16_f32 = chunks f := by
  funext i
  idx_vars i
  refine (?_ : _ = V (ix3 i0 ⟨i1.val * 256 + i3.val, by omega⟩ i2)).trans (hV _ _ _)
  pointwise []

theorem eighth_eq (V : FVec Ideal S2x16384x512 .f32) (f : Fin 2 → Fin 16384 → Fin 512 → EReal) (hV : ∀ b t c, V (ix3 b t c) = f b t c) :
    truncf .bf16 (mulf V (broadcastInDim S2x16384x512 ![] bcast_S_S2x16384x512 (constant S_ .f32 0x3E000000#32))) bitsLt_bf16_f32 = rows fun b t c => f b t c * Ideal.ofBits .f32 0x3E000000#32 := by
  funext i
  idx_vars i
  refine (?_ : _ = V (ix3 i0 i1 i2) * Ideal.ofBits .f32 0x3E000000#32).trans (congrArg (· * Ideal.ofBits .f32 0x3E000000#32) (hV i0 i1 i2))
  pointwise []

theorem rows_eq (V : FVec Ideal S2x16384x512 .f32) (f : Fin 2 → Fin 16384 → Fin 512 → EReal) (hV : ∀ b t c, V (ix3 b t c) = f b t c) :
    V = rows f := by
  funext i
  idx_vars i
  exact hV i0 i1 i2

end Cert.ProjRefIdeal.Reference
-- ==== Proof.ProjWhole.lean ====
/- The entry projections' reference run: each result array as the projections, laid out as it is returned. -/
module

public import proofs.«01_k».proof.Proof.ProjReference

@[expose] public section

set_option maxRecDepth 16384
noncomputable section

namespace Cert.ProjRefIdeal.Reference
open Cert.ProjRefIdeal Cert.ProjRefIdeal.Gen Cert.Proof.Rows Cert.Proof.ProjRows
open Idealize.ShloMosaic Idealize.ShloMosaic.TcCoe Idealize.SL.Sem Idealize.ShloMosaic.StableHlo

/-- After the reference's run each result array is the projection it names, and the arguments are as launched. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v134) = rows (fun b t n => col (m ((c : Thread nD τ).loc main_arg0)) (m ((c : Thread nD τ).loc main_arg1)) (m ((c : Thread nD τ).loc main_arg2)) 0 (by decide) b t n * Ideal.ofBits .f32 0x3E000000#32)
        ∧ r.2.mem ((c : Thread nD τ).loc main_v137) = rows (fun b t n => turned (m ((c : Thread nD τ).loc main_arg0)) (m ((c : Thread nD τ).loc main_arg1)) (m ((c : Thread nD τ).loc main_arg2)) (m ((c : Thread nD τ).loc main_arg3)) 1536 (by decide) b t n * Ideal.ofBits .f32 0x3E000000#32)
        ∧ r.2.mem ((c : Thread nD τ).loc main_v21) = rows (col (m ((c : Thread nD τ).loc main_arg0)) (m ((c : Thread nD τ).loc main_arg1)) (m ((c : Thread nD τ).loc main_arg2)) 2560 (by decide))
        ∧ r.2.mem ((c : Thread nD τ).loc main_v138) = rows (col (m ((c : Thread nD τ).loc main_arg0)) (m ((c : Thread nD τ).loc main_arg1)) (m ((c : Thread nD τ).loc main_arg2)) 2560 (by decide))
        ∧ r.2.mem ((c : Thread nD τ).loc main_v139) = rows (fun b t n => unit128 (col (m ((c : Thread nD τ).loc main_arg0)) (m ((c : Thread nD τ).loc main_arg1)) (m ((c : Thread nD τ).loc main_arg2)) 3072 (by decide) b t) (m ((c : Thread nD τ).loc main_arg5)) n)
        ∧ r.2.mem ((c : Thread nD τ).loc main_v140) = cols (col (m ((c : Thread nD τ).loc main_arg0)) (m ((c : Thread nD τ).loc main_arg1)) (m ((c : Thread nD τ).loc main_arg2)) 512 (by decide))
        ∧ r.2.mem ((c : Thread nD τ).loc main_v143) = chunks (col (m ((c : Thread nD τ).loc main_arg0)) (m ((c : Thread nD τ).loc main_arg1)) (m ((c : Thread nD τ).loc main_arg2)) 512 (by decide))
        ∧ r.2.mem ((c : Thread nD τ).loc main_v144) = cols (col (m ((c : Thread nD τ).loc main_arg0)) (m ((c : Thread nD τ).loc main_arg1)) (m ((c : Thread nD τ).loc main_arg2)) 1024 (by decide))
        ∧ r.2.mem ((c : Thread nD τ).loc main_v147) = chunks (col (m ((c : Thread nD τ).loc main_arg0)) (m ((c : Thread nD τ).loc main_arg1)) (m ((c : Thread nD τ).loc main_arg2)) 1024 (by decide))
        ∧ r.2.mem ((c : Thread nD τ).loc main_v148) = cols (fun b t n => turned (m ((c : Thread nD τ).loc main_arg0)) (m ((c : Thread nD τ).loc main_arg1)) (m ((c : Thread nD τ).loc main_arg2)) (m ((c : Thread nD τ).loc main_arg4)) 2048 (by decide) b t n)
        ∧ r.2.mem ((c : Thread nD τ).loc main_v151) = chunks (fun b t n => turned (m ((c : Thread nD τ).loc main_arg0)) (m ((c : Thread nD τ).loc main_arg1)) (m ((c : Thread nD τ).loc main_arg2)) (m ((c : Thread nD τ).loc main_arg4)) 2048 (by decide) b t n))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run _ _ _).mono (fun r h c => ?_) (Value.run m ρ)
  obtain ⟨h0, h1, h2, h3, h4, h5, h6, h7, h8, h9, h10, hargs⟩ := h c
  refine ⟨⟨h0.trans ?_, h1.trans ?_, h2.trans ?_, h3.trans ?_, h4.trans ?_, h5.trans ?_, h6.trans ?_, h7.trans ?_, h8.trans ?_, h9.trans ?_, h10.trans ?_⟩, hargs⟩
  · exact eighth_eq _ _ (cut_apply _ _ _ 0 _ _)
  · unfold Value.res_main_v137
    exact eighth_eq _ _ (turned_apply _ _ _ _ _ 1536 _ (cut_apply _ _ _ 1536 _ _))
  · exact rows_eq _ _ (cut_apply _ _ _ 2560 _ _)
  · exact rows_eq _ _ (cut_apply _ _ _ 2560 _ slices_S2x16384x6656_S2x16384x512_0_0_2560)
  · unfold Value.res_main_v139
    exact rows_eq _ _ (widened_apply _ _ _ _ _ 3072 _ (cut_apply _ _ _ 3072 _ _))
  · exact cols_eq _ _ (cut_apply _ _ _ 512 _ _)
  · exact chunks_eq _ _ (cut_apply _ _ _ 512 _ _)
  · exact cols_eq _ _ (cut_apply _ _ _ 1024 _ _)
  · exact chunks_eq _ _ (cut_apply _ _ _ 1024 _ _)
  · unfold Value.res_main_v148
    exact cols_eq _ _ (turned_apply _ _ _ _ _ 2048 _ (cut_apply _ _ _ 2048 _ _))
  · unfold Value.res_main_v151
    exact chunks_eq _ _ (turned_apply _ _ _ _ _ 2048 _ (cut_apply _ _ _ 2048 _ _))

end Cert.ProjRefIdeal.Reference
-- ==== Proof.ProjFinite.lean ====
/- The entry projections' precondition read as three facts: no entry of the input, the norm's gain or the weights is infinite. -/
module

public import proofs.«01_k».proof.Pre_in_proj_finite
public import proofs.«01_k».proof.Proof.Finite

@[expose] public section

set_option maxRecDepth 16384
noncomputable section

namespace Cert.Proof.ProjFinite
open Cert.Proof.Spec Cert.Proof.Finite Idealize.ShloMosaic

variable [Cert.Pre_in_proj_finite.Facts]
open Cert.Pre_in_proj_finite Cert.Pre_in_proj_finite.Facts

/-- The precondition read back. -/
theorem decode (A0 : FVec Ideal S2x16384x1024 .f32) (A1 : FVec Ideal S1x1024 .f32) (A2 : FVec Ideal S1x1024x6656 .f32) (A3 A4 : FVec Ideal S1x64 .f32) (A5 : FVec Ideal S1x128 .f32)
    (h : fn (F := Ideal) A0 A1 A2 A3 A4 A5 = fun _ => 1#1) : Fin_ A0 ∧ Fin_ A1 ∧ Fin_ A2 := by
  have h := congrFun h ix0
  unfold fn at h
  dsimp only at h
  obtain ⟨h, h2⟩ := IntOp.andi_eq_one.1 h
  obtain ⟨h0, h1⟩ := IntOp.andi_eq_one.1 h
  exact ⟨of_all A0 _ (fun _ => top_bits) _ _ _ _ h0, of_all A1 _ (fun _ => top_bits) _ _ _ _ h1, of_all A2 _ (fun _ => top_bits) _ _ _ _ h2⟩

end Cert.Proof.ProjFinite
-- ==== Proof.lean ====
module

public import proofs.«01_k».proof.Defs
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.Pre_diff_finite
public import proofs.«01_k».proof.Proof.Gen.DiffIdeal.Value
public import proofs.«01_k».proof.Proof.Gen.DiffRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Pre_in_proj_finite
public import proofs.«01_k».proof.Proof.Final
public import proofs.«01_k».proof.Proof.RefValue
public import proofs.«01_k».proof.Proof.Finite
public import proofs.«01_k».proof.Proof.MergeFinal
public import proofs.«01_k».proof.Proof.MergeReference
public import proofs.«01_k».proof.Proof.FfnFinal
public import proofs.«01_k».proof.Proof.FfnReference
public import proofs.«01_k».proof.Proof.ProjFinal
public import proofs.«01_k».proof.Proof.ProjWhole
public import proofs.«01_k».proof.Proof.ProjFinite
public import Idealize.ShloMosaic.Lib.Quiescent
public import Idealize.ShloMosaic.Adequacy
public import Idealize.ShloMosaic.Init

@[expose] public section

noncomputable section

namespace Cert.Proof

open Idealize.ShloMosaic Idealize.SL.Sem Cert.Proof.Spec

/-- The reference runs, keeps its arguments and has no semaphore to leave unsettled. -/
theorem frame_reference (m : (ℓ : Loc Cert.DiffRefIdeal.nD Cert.DiffRefIdeal.τ Cert.DiffRefIdeal.sig) → Buf (Elt Ideal) ℓ) (g : Dev Cert.DiffRefIdeal.nD → PrngReg) :
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0) :=
  (θ_run _ _ _).mono (fun r h => ⟨fun c => (h c).2, sem_eq_zero_of_no_sems (by decide) r.2⟩) (Cert.DiffRefIdeal.Value.run m g)

/-- The kernel and the reference both compute the layer. -/
theorem algebraic : Cert.algebraic_DiffIdeal_DiffRefIdeal_pre_diff_finite (hDiffIdeal := Cert.DiffIdeal.Gen.facts) (hDiffRefIdeal := Cert.DiffRefIdeal.Gen.facts)
    (hPre_diff_finite := Cert.Pre_diff_finite.Gen.facts) := by
  intro m g m' g' hpre hag
  have hd := fun c => Finite.decode _ _ _ _ _ (hpre c)
  refine ⟨fun c => layer (Cert.DiffIdeal.Gen.V m c Cert.DiffIdeal.main_arg0) (Cert.DiffIdeal.Gen.V m c Cert.DiffIdeal.main_arg1) (Cert.DiffIdeal.Gen.V m c Cert.DiffIdeal.main_arg2)
    (Cert.DiffIdeal.Gen.V m c Cert.DiffIdeal.main_arg3) (Cert.DiffIdeal.Gen.V m c Cert.DiffIdeal.main_arg4), ?_, ?_⟩
  · refine (θ_run _ _ _).mono (fun r h c => ?_) (Cert.DiffIdeal.Value.run_blocks m g)
    obtain ⟨h0, h1⟩ := h c
    obtain ⟨-, f2, f3, f4⟩ := hd c
    exact ⟨h0.trans (Cert.DiffIdeal.Final.final m c f2 f3 f4), h1⟩
  · refine (θ_run _ _ _).mono (fun r h c => ?_) (Cert.DiffRefIdeal.Value.run m' g')
    obtain ⟨h0, h1⟩ := h c
    obtain ⟨f0, f2, f3, f4⟩ := hd c
    obtain ⟨a0, a1, a2, a3, a4⟩ := hag c
    refine ⟨h0.trans ?_, h1⟩
    rw [Cert.DiffRefIdeal.Reference.res_eq, a0, a1, a2, a3, a4]
    exact Cert.DiffRefIdeal.Reference.whole_eq _ _ _ _ _ f0 f2 f3 f4

/-- The merge's reference runs, keeps its arguments and has no semaphore to leave unsettled. -/
theorem frame_merge_reference : Cert.quiescent_MergeRefIdeal (hMergeRefIdeal := Cert.MergeRefIdeal.Gen.facts) := fun m g _ =>
  (θ_run _ _ _).mono (fun r h => ⟨fun c => (h c).2, sem_eq_zero_of_no_sems (by decide) r.2⟩) (Cert.MergeRefIdeal.Value.run m g)

/-- The merge kernel and its reference compute one function. -/
theorem algebraic_merge : Cert.algebraic_MergeIdeal_MergeRefIdeal (hMergeIdeal := Cert.MergeIdeal.Gen.facts) (hMergeRefIdeal := Cert.MergeRefIdeal.Gen.facts) := by
  intro m g m' g' _ hag
  refine ⟨fun c => Rows.merge (Cert.MergeIdeal.Gen.V m c Cert.MergeIdeal.main_arg0) (Cert.MergeIdeal.Gen.V m c Cert.MergeIdeal.main_arg1) (Cert.MergeIdeal.Gen.V m c Cert.MergeIdeal.main_arg2)
    (Cert.MergeIdeal.Gen.V m c Cert.MergeIdeal.main_arg3) (Cert.MergeIdeal.Gen.V m c Cert.MergeIdeal.main_arg4) (Cert.MergeIdeal.Gen.V m c Cert.MergeIdeal.main_arg5)
    (Cert.MergeIdeal.Gen.V m c Cert.MergeIdeal.main_arg6) (Cert.MergeIdeal.Gen.V m c Cert.MergeIdeal.main_arg7) (Cert.MergeIdeal.Gen.V m c Cert.MergeIdeal.main_arg8), ?_, ?_⟩
  · exact (θ_run _ _ _).mono (fun r h c => ⟨(h c).1.trans (Cert.MergeIdeal.Final.final m c), (h c).2⟩) (Cert.MergeIdeal.Value.run_blocks m g)
  · refine (θ_run _ _ _).mono (fun r h c => ?_) (Cert.MergeRefIdeal.Value.run m' g')
    obtain ⟨h0, h1⟩ := h c
    obtain ⟨a0, a1, a2, a3, a4, a5, a6, a7, a8⟩ := hag c
    refine ⟨h0.trans ?_, h1⟩
    rw [a0, a1, a2, a3, a4, a5, a6, a7, a8]
    exact Cert.MergeRefIdeal.Reference.whole_eq _ _ _ _ _ _ _ _ _

/-- The feed-forward's reference runs, keeps its arguments and has no semaphore to leave unsettled. -/
theorem frame_ffn_reference : Cert.quiescent_FfnRefIdeal (hFfnRefIdeal := Cert.FfnRefIdeal.Gen.facts) := fun m g _ =>
  (θ_run _ _ _).mono (fun r h => ⟨fun c => (h c).2.2, sem_eq_zero_of_no_sems (by decide) r.2⟩) (Cert.FfnRefIdeal.Value.run m g)

/-- The feed-forward kernel and its reference compute one function, and leave the same last rows. -/
theorem algebraic_ffn : Cert.algebraic_FfnIdeal_FfnRefIdeal (hFfnIdeal := Cert.FfnIdeal.Gen.facts) (hFfnRefIdeal := Cert.FfnRefIdeal.Gen.facts) := by
  intro m g m' g' _ hag
  refine ⟨fun c => FfnRows.ffn (Cert.FfnIdeal.Gen.V m c Cert.FfnIdeal.main_arg0) (Cert.FfnIdeal.Gen.V m c Cert.FfnIdeal.main_arg1) (Cert.FfnIdeal.Gen.V m c Cert.FfnIdeal.main_arg2)
    (Cert.FfnIdeal.Gen.V m c Cert.FfnIdeal.main_arg3) (Cert.FfnIdeal.Gen.V m c Cert.FfnIdeal.main_arg4) (Cert.FfnIdeal.Gen.V m c Cert.FfnIdeal.main_arg5),
    fun c => FfnRows.tail (Cert.FfnIdeal.Gen.V m c Cert.FfnIdeal.main_arg0) (Cert.FfnIdeal.Gen.V m c Cert.FfnIdeal.main_arg1) (Cert.FfnIdeal.Gen.V m c Cert.FfnIdeal.main_arg2), ?_, ?_⟩
  · exact (θ_run _ _ _).mono (fun r h c => ⟨(h c).1.trans (Cert.FfnIdeal.Final.final m c), (h c).2.1.trans (Cert.FfnIdeal.Final.final_tail m c), (h c).2.2⟩)
      (Cert.FfnIdeal.Value.run_blocks m g)
  · refine (θ_run _ _ _).mono (fun r h c => ?_) (Cert.FfnRefIdeal.Value.run m' g')
    obtain ⟨h0, h1, h2⟩ := h c
    obtain ⟨a0, a1, a2, a3, a4, a5⟩ := hag c
    refine ⟨h0.trans ?_, h1.trans ?_, h2⟩
    · refine (Cert.FfnRefIdeal.Reference.whole_eq _ _ _ _ _ _).trans ?_
      rw [a0, a1, a2, a3, a4, a5]
    · refine (Cert.FfnRefIdeal.Reference.last_eq _ _ _).trans ?_
      rw [a0, a1, a2]

/-- The entry projections' reference runs, keeps its arguments and has no semaphore to leave unsettled. -/
theorem frame_proj_reference : Cert.quiescent_ProjRefIdeal (hProjRefIdeal := Cert.ProjRefIdeal.Gen.facts) := fun m g _ =>
  (θ_run _ _ _).mono (fun r h => ⟨fun c => (h c).2, sem_eq_zero_of_no_sems (by decide) r.2⟩) (Cert.ProjRefIdeal.Reference.run_whole m g)

/-- The entry projections' kernel and its reference compute the same projections, laid out alike. -/
theorem algebraic_proj : Cert.algebraic_ProjIdeal_ProjRefIdeal_pre_in_proj_finite (hProjIdeal := Cert.ProjIdeal.Gen.facts) (hProjRefIdeal := Cert.ProjRefIdeal.Gen.facts)
    (hPre_in_proj_finite := Cert.Pre_in_proj_finite.Gen.facts) := by
  intro m g m' g' hpre hag
  have hd := fun c => ProjFinite.decode _ _ _ _ _ _ (hpre c)
  let X : Dev Cert.ProjIdeal.nD → (⟨3, ![2, 16384, 1024]⟩ : Shape).Idx → EReal := fun c => m ((c.tc : Thread Cert.ProjIdeal.nD Cert.ProjIdeal.τ).loc Cert.ProjIdeal.main_arg0)
  let G : Dev Cert.ProjIdeal.nD → (⟨2, ![1, 1024]⟩ : Shape).Idx → EReal := fun c => m ((c.tc : Thread Cert.ProjIdeal.nD Cert.ProjIdeal.τ).loc Cert.ProjIdeal.main_arg1)
  let W : Dev Cert.ProjIdeal.nD → (⟨3, ![1, 1024, 6656]⟩ : Shape).Idx → EReal := fun c => m ((c.tc : Thread Cert.ProjIdeal.nD Cert.ProjIdeal.τ).loc Cert.ProjIdeal.main_arg2)
  refine ⟨fun c => ProjRows.rows fun b t n => ProjRows.col (X c) (G c) (W c) 0 (by decide) b t n * Ideal.ofBits .f32 0x3E000000#32,
    fun c => ProjRows.rows fun b t n => ProjRows.turned (X c) (G c) (W c) (m ((c.tc : Thread Cert.ProjIdeal.nD Cert.ProjIdeal.τ).loc Cert.ProjIdeal.main_arg3)) 1536 (by decide) b t n * Ideal.ofBits .f32 0x3E000000#32,
    fun c => ProjRows.rows (ProjRows.col (X c) (G c) (W c) 2560 (by decide)),
    fun c => ProjRows.rows (ProjRows.col (X c) (G c) (W c) 2560 (by decide)),
    fun c => ProjRows.rows fun b t n => ProjRows.unit128 (ProjRows.col (X c) (G c) (W c) 3072 (by decide) b t) (m ((c.tc : Thread Cert.ProjIdeal.nD Cert.ProjIdeal.τ).loc Cert.ProjIdeal.main_arg5)) n,
    fun c => ProjRows.cols (ProjRows.col (X c) (G c) (W c) 512 (by decide)),
    fun c => ProjRows.chunks (ProjRows.col (X c) (G c) (W c) 512 (by decide)),
    fun c => ProjRows.cols (ProjRows.col (X c) (G c) (W c) 1024 (by decide)),
    fun c => ProjRows.chunks (ProjRows.col (X c) (G c) (W c) 1024 (by decide)),
    fun c => ProjRows.cols fun b t n => ProjRows.turned (X c) (G c) (W c) (m ((c.tc : Thread Cert.ProjIdeal.nD Cert.ProjIdeal.τ).loc Cert.ProjIdeal.main_arg4)) 2048 (by decide) b t n,
    fun c => ProjRows.chunks fun b t n => ProjRows.turned (X c) (G c) (W c) (m ((c.tc : Thread Cert.ProjIdeal.nD Cert.ProjIdeal.τ).loc Cert.ProjIdeal.main_arg4)) 2048 (by decide) b t n, ?_, ?_⟩
  · refine (θ_run _ _ _).mono (fun r h c => ?_) (Cert.ProjIdeal.Final.run_blocks m g)
    obtain ⟨⟨h0, h1, h2, h3, h4, h5, h6, h7, h8, h9, h10⟩, hargs⟩ := h c
    obtain ⟨hX, hG, hW⟩ := hd c
    exact ⟨h0.trans (Cert.ProjIdeal.Final.final13 m c), h1.trans (Cert.ProjIdeal.Final.final14 m c hX hG hW), h2.trans (Cert.ProjIdeal.Final.final15 m c), h3.trans (Cert.ProjIdeal.Final.final16 m c), h4.trans (Cert.ProjIdeal.Final.final17 m c hX hG hW), h5.trans (Cert.ProjIdeal.Final.final18 m c), h6.trans (Cert.ProjIdeal.Final.final19 m c), h7.trans (Cert.ProjIdeal.Final.final20 m c), h8.trans (Cert.ProjIdeal.Final.final21 m c), h9.trans (Cert.ProjIdeal.Final.final22 m c hX hG hW), h10.trans (Cert.ProjIdeal.Final.final23 m c hX hG hW), hargs⟩
  · refine (θ_run _ _ _).mono (fun r h c => ?_) (Cert.ProjRefIdeal.Reference.run_whole m' g')
    obtain ⟨a0, a1, a2, a3, a4, a5⟩ := hag c
    have hc := h c
    obtain ⟨⟨h0, h1, h2, h3, h4, h5, h6, h7, h8, h9, h10⟩, hargs⟩ := hc
    rw [a0, a1, a2] at h0 h1 h2 h3 h4 h5 h6 h7 h8 h9 h10
    rw [a3] at h1
    rw [a5] at h4
    rw [a4] at h9 h10
    exact ⟨h0, h1, h2, h3, h4, h5, h6, h7, h8, h9, h10, hargs⟩

theorem claim : Cert.Claim := ⟨Cert.Diff.Gen.facts, Cert.DiffIdeal.Gen.facts, Cert.DiffRefIdeal.Gen.facts,
  Cert.Merge.Gen.facts, Cert.MergeIdeal.Gen.facts, Cert.MergeRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts, Cert.Pre_diff_finite.Gen.facts, Cert.Pre_in_proj_finite.Gen.facts,
  fun m g _ => Cert.Diff.Gen.frame m g, fun m g _ => Cert.DiffIdeal.Gen.frame m g, fun m g _ => Cert.DiffIdeal.Gen.frame m g,
  fun m g _ => frame_reference m g, fun m g _ => frame_reference m g,
  fun m g _ => Cert.Merge.Gen.frame m g, fun m g _ => Cert.MergeIdeal.Gen.frame m g, frame_merge_reference,
  fun m g _ => Cert.Ffn.Gen.frame m g, fun m g _ => Cert.FfnIdeal.Gen.frame m g, frame_ffn_reference,
  fun m g _ => Cert.Proj.Gen.frame m g, fun m g _ => Cert.ProjIdeal.Gen.frame m g, fun m g _ => Cert.ProjIdeal.Gen.frame m g,
  frame_proj_reference, fun m g _ => frame_proj_reference m g trivial,
  IdealRules.named_const.statement _ _ .f32 _ ⊥ rfl, algebraic,
  trivial, algebraic_merge,
  trivial, algebraic_ffn,
  trivial, algebraic_proj⟩

end Cert.Proof

end
